-- ==== Defs.lean ====
def Pre_Kernel [hPre_sizes : Cert.Pre_sizes.Facts] (m : (ℓ : Loc Cert.Kernel.nD Cert.Kernel.τ Cert.Kernel.sig) → Buf (Elt Bits) ℓ) : Prop :=
  ∀ c : Dev Cert.Kernel.nD,
    (Cert.Pre_sizes.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_sizes : Cert.Pre_sizes.Facts] (m : (ℓ : Loc Cert.KernelIdeal.nD Cert.KernelIdeal.τ Cert.KernelIdeal.sig) → Buf (Elt Ideal) ℓ) : Prop :=
  ∀ c : Dev Cert.KernelIdeal.nD,
    (Cert.Pre_sizes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite_sizes [hPre_finite_sizes : Cert.Pre_finite_sizes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sizes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sizes [hPre_finite_sizes : Cert.Pre_finite_sizes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sizes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_sizes : Cert.Pre_sizes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_sizes : Cert.Pre_sizes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_sizes [hKernelIdeal : Cert.KernelIdeal.Facts] [hPre_finite_sizes : Cert.Pre_finite_sizes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_sizes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_sizes [hReferenceIdeal : Cert.ReferenceIdeal.Facts] [hPre_finite_sizes : Cert.Pre_finite_sizes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sizes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_sizes [hKernelIdeal : Cert.KernelIdeal.Facts] [hReferenceIdeal : Cert.ReferenceIdeal.Facts] [hPre_finite_sizes : Cert.Pre_finite_sizes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_sizes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v79)) (v3 : (c : Dev Cert.KernelIdeal.nD) → Buf (Elt Ideal) ((c.tc : Thread Cert.KernelIdeal.nD Cert.KernelIdeal.τ).loc Cert.KernelIdeal.main_v80)) (v4 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v79) = v2 c
          ∧ r.2.mem ((c.tc : Thread Cert.KernelIdeal.nD Cert.KernelIdeal.τ).loc Cert.KernelIdeal.main_v80) = v3 c
          ∧ r.2.mem ((c.tc : Thread Cert.KernelIdeal.nD Cert.KernelIdeal.τ).loc Cert.KernelIdeal.main_v81) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sizes : Cert.Pre_sizes.Facts) (hPre_finite_sizes : Cert.Pre_finite_sizes.Facts),
    quiescent_Kernel (hKernel := hKernel) (hPre_sizes := hPre_sizes)
    ∧ quiescent_KernelIdeal (hKernelIdeal := hKernelIdeal) (hPre_sizes := hPre_sizes)
    ∧ quiescent_KernelIdeal_pre_finite_sizes (hKernelIdeal := hKernelIdeal) (hPre_finite_sizes := hPre_finite_sizes)
    ∧ quiescent_ReferenceIdeal (hReferenceIdeal := hReferenceIdeal)
    ∧ quiescent_ReferenceIdeal_pre_finite_sizes (hReferenceIdeal := hReferenceIdeal) (hPre_finite_sizes := hPre_finite_sizes)
    ∧ preserves_Kernel_KernelIdeal
    ∧ algebraic_KernelIdeal_ReferenceIdeal_pre_finite_sizes (hKernelIdeal := hKernelIdeal) (hReferenceIdeal := hReferenceIdeal) (hPre_finite_sizes := hPre_finite_sizes)
-- ==== Pre_finite_sizes.lean ====
abbrev S2x8192x12288 : Shape := ⟨3, ![2, 8192, 12288]⟩
abbrev S2x8192x1792 : Shape := ⟨3, ![2, 8192, 1792]⟩
abbrev S5 : Shape := ⟨1, ![5]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel
  bcast_S_S2x8192x12288 : S_.BroadcastsInDim S2x8192x12288 (![] : Fin 0 → Fin S2x8192x12288.rank)
  reducesTo_S2x8192x12288_S_d0_1_2 : S2x8192x12288.ReducesTo [0, 1, 2] S_
  bcast_S_S2x8192x1792 : S_.BroadcastsInDim S2x8192x1792 (![] : Fin 0 → Fin S2x8192x1792.rank)
  reducesTo_S2x8192x1792_S_d0_1_2 : S2x8192x1792.ReducesTo [0, 1, 2] S_

variable [Facts]

def fn_part1 {F : FTy → Type} [FloatOps F] (main_v14 : IVec S_ 1) (main_v15 : FVec F S2x8192x1792 .bf16) : IVec S_ 1 :=
  let main_cst_6 : FVec F S_ .bf16 := constant S_ .bf16 0x7F7F#16
  let main_v16 : FVec F S2x8192x1792 .bf16 := broadcastInDim S2x8192x1792 ![] bcast_S_S2x8192x1792 main_cst_6
  let main_v17 : IVec S2x8192x1792 1 := cmpf .ole main_v15 main_v16
  let main_c_7 : IVec S_ 1 := constantI S_ 1 1#1
  let main_v18 : IVec S_ 1 := (fun x v => Host.reduce IntOp.andi x v reducesTo_S2x8192x1792_S_d0_1_2 h_S_) main_v17 main_c_7
  let main_v19 : IVec S_ 1 := andi main_v14 main_v18
  main_v19

def fn {F : FTy → Type} [FloatOps F] (main_arg0 : FVec F S2x8192x12288 .bf16) (main_arg1 : FVec F S2x8192x1792 .bf16) (main_arg2 : IVec S5 32) : IVec S_ 1 :=
  let main_c : IVec S_ 32 := constantI S_ 32 0#32
  let main_v0 : IVec S5 32 := broadcastInDim S5 ![] bcast_S_S5 main_c
  let main_v1 : IVec S5 1 := cmpi .sge main_arg2 main_v0
  let main_c_0 : IVec S_ 1 := constantI S_ 1 1#1
  let main_v2 : IVec S_ 1 := (fun x v => Host.reduce IntOp.andi x v reducesTo_S5_S_d0 h_S_) main_v1 main_c_0
  let main_c_1 : IVec S_ 32 := constantI S_ 32 16384#32
  let main_v3 : IVec S5 32 := broadcastInDim S5 ![] bcast_S_S5 main_c_1
  let main_v4 : IVec S5 1 := cmpi .sle main_arg2 main_v3
  let main_c_2 : IVec S_ 1 := constantI S_ 1 1#1
  let main_v5 : IVec S_ 1 := (fun x v => Host.reduce IntOp.andi x v reducesTo_S5_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S5_S_d0 h_S_) main_arg2 main_c_3
  let main_c_4 : IVec S_ 32 := constantI S_ 32 16384#32
  let main_v8 : IVec S_ 1 := cmpi .eq main_v7 main_c_4
  let main_v9 : IVec S_ 1 := andi main_v6 main_v8
  let main_v10 : FVec F S2x8192x12288 .bf16 := Host.absf main_arg0
  let main_cst : FVec F S_ .bf16 := constant S_ .bf16 0x7F7F#16
  let main_v11 : FVec F S2x8192x12288 .bf16 := broadcastInDim S2x8192x12288 ![] bcast_S_S2x8192x12288 main_cst
  let main_v12 : IVec S2x8192x12288 1 := cmpf .ole main_v10 main_v11
  let main_c_5 : IVec S_ 1 := constantI S_ 1 1#1
  let main_v13 : IVec S_ 1 := (fun x v => Host.reduce IntOp.andi x v reducesTo_S2x8192x12288_S_d0_1_2 h_S_) main_v12 main_c_5
  let main_v14 : IVec S_ 1 := andi main_v9 main_v13
  let main_v15 : FVec F S2x8192x1792 .bf16 := Host.absf main_arg1
  fn_part1 (F := F) main_v14 main_v15
-- ==== Pre_sizes.lean ====
abbrev S2x8192x12288 : Shape := ⟨3, ![2, 8192, 12288]⟩
abbrev S2x8192x1792 : Shape := ⟨3, ![2, 8192, 1792]⟩
abbrev S5 : Shape := ⟨1, ![5]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel

variable [Facts]

def fn {F : FTy → Type} [FloatOps F] (main_arg0 : FVec F S2x8192x12288 .bf16) (main_arg1 : FVec F S2x8192x1792 .bf16) (main_arg2 : IVec S5 32) : IVec S_ 1 :=
  let main_c : IVec S_ 32 := constantI S_ 32 0#32
  let main_v0 : IVec S5 32 := broadcastInDim S5 ![] bcast_S_S5 main_c
  let main_v1 : IVec S5 1 := cmpi .sge main_arg2 main_v0
  let main_c_0 : IVec S_ 1 := constantI S_ 1 1#1
  let main_v2 : IVec S_ 1 := (fun x v => Host.reduce IntOp.andi x v reducesTo_S5_S_d0 h_S_) main_v1 main_c_0
  let main_c_1 : IVec S_ 32 := constantI S_ 32 16384#32
  let main_v3 : IVec S5 32 := broadcastInDim S5 ![] bcast_S_S5 main_c_1
  let main_v4 : IVec S5 1 := cmpi .sle main_arg2 main_v3
  let main_c_2 : IVec S_ 1 := constantI S_ 1 1#1
  let main_v5 : IVec S_ 1 := (fun x v => Host.reduce IntOp.andi x v reducesTo_S5_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S5_S_d0 h_S_) main_arg2 main_c_3
  let main_c_4 : IVec S_ 32 := constantI S_ 32 16384#32
  let main_v8 : IVec S_ 1 := cmpi .eq main_v7 main_c_4
  let main_v9 : IVec S_ 1 := andi main_v6 main_v8
  main_v9
-- ==== Kernel.lean ====
abbrev S2x8192x12288 : Shape := ⟨3, ![2, 8192, 12288]⟩
abbrev S2x8192x1792 : Shape := ⟨3, ![2, 8192, 1792]⟩
abbrev S5 : Shape := ⟨1, ![5]⟩
abbrev S16384x12288 : Shape := ⟨2, ![16384, 12288]⟩
abbrev S16384x1792 : Shape := ⟨2, ![16384, 1792]⟩
abbrev S128x1792 : Shape := ⟨2, ![128, 1792]⟩
abbrev S1792x16384 : Shape := ⟨2, ![1792, 16384]⟩
abbrev S1024x1792 : Shape := ⟨2, ![1024, 1792]⟩
abbrev S8x1792 : Shape := ⟨2, ![8, 1792]⟩
abbrev S1792x1024 : Shape := ⟨2, ![1792, 1024]⟩
abbrev S8x16x1792 : Shape := ⟨3, ![8, 16, 1792]⟩
abbrev S16x1792 : Shape := ⟨2, ![16, 1792]⟩
abbrev S1792 : Shape := ⟨1, ![1792]⟩
abbrev S1x1792 : Shape := ⟨2, ![1, 1792]⟩
abbrev S255x1792 : Shape := ⟨2, ![255, 1792]⟩
abbrev S1792x128 : Shape := ⟨2, ![1792, 128]⟩
abbrev S_ : Shape := ⟨0, ![]⟩
abbrev S36 : Shape := ⟨1, ![36]⟩
abbrev S36x1 : Shape := ⟨2, ![36, 1]⟩
abbrev S1x5 : Shape := ⟨2, ![1, 5]⟩
abbrev S36x5 : Shape := ⟨2, ![36, 5]⟩
abbrev S1 : Shape := ⟨1, ![1]⟩
abbrev S5x1792x12288 : Shape := ⟨3, ![5, 1792, 12288]⟩
abbrev S128x12288 : Shape := ⟨2, ![128, 12288]⟩
abbrev S512x2048 : Shape := ⟨2, ![512, 2048]⟩
abbrev S1792x512 : Shape := ⟨2, ![1792, 512]⟩
abbrev S1x1792x2048 : Shape := ⟨3, ![1, 1792, 2048]⟩
abbrev S8x2048 : Shape := ⟨2, ![8, 2048]⟩
abbrev S128x512 : Shape := ⟨2, ![128, 512]⟩
abbrev S8x16x512 : Shape := ⟨3, ![8, 16, 512]⟩
abbrev S16x512 : Shape := ⟨2, ![16, 512]⟩
abbrev S512 : Shape := ⟨1, ![512]⟩
abbrev S1x512 : Shape := ⟨2, ![1, 512]⟩
abbrev S255x512 : Shape := ⟨2, ![255, 512]⟩
abbrev S1x1792x512 : Shape := ⟨3, ![1, 1792, 512]⟩
abbrev S512x512 : Shape := ⟨2, ![512, 512]⟩
abbrev S2x64x12288 : Shape := ⟨3, ![2, 64, 12288]⟩
abbrev S2x64x1792 : Shape := ⟨3, ![2, 64, 1792]⟩

abbrev nBuf : Space → Nat
  | .hbm => 158
  | .vmem => 19
  | .smem => 4
  | _ => 0

abbrev hbmTy0_0 (i : Nat) : BufTy := match i % 128 with
  | 0 => ⟨S2x8192x12288, .bf16⟩
  | 1 => ⟨S2x8192x1792, .bf16⟩
  | 2 => ⟨S5, .i32⟩
  | 3 => ⟨S16384x12288, .bf16⟩
  | 4 => ⟨S16384x1792, .bf16⟩
  | 5 => ⟨S16384x1792, .fp8e4m3⟩
  | 6 => ⟨S128x1792, .f32⟩
  | 7 => ⟨S1792x16384, .bf16⟩
  | 8 => ⟨S_, .i32⟩
  | 9 => ⟨S_, .i32⟩
  | 10 => ⟨S5, .i32⟩
  | 11 => ⟨S5, .i32⟩
  | 12 => ⟨S_, .i32⟩
  | 13 => ⟨S_, .i32⟩
  | 14 => ⟨S5, .i32⟩
  | 15 => ⟨S5, .i32⟩
  | 16 => ⟨S5, .i32⟩
  | 17 => ⟨S_, .i32⟩
  | 18 => ⟨S5, .i32⟩
  | 19 => ⟨S5, .i1⟩
  | 20 => ⟨S5, .i32⟩
  | 21 => ⟨S5, .i32⟩
  | 22 => ⟨S_, .i32⟩
  | 23 => ⟨S5, .i32⟩
  | 24 => ⟨S5, .i1⟩
  | 25 => ⟨S5, .i1⟩
  | 26 => ⟨S_, .i32⟩
  | 27 => ⟨S5, .i32⟩
  | 28 => ⟨S5, .i32⟩
  | 29 => ⟨S5, .i32⟩
  | 30 => ⟨S_, .i32⟩
  | 31 => ⟨S5, .i32⟩
  | 32 => ⟨S5, .i32⟩
  | 33 => ⟨S_, .i32⟩
  | 34 => ⟨S5, .i32⟩
  | 35 => ⟨S5, .i1⟩
  | 36 => ⟨S_, .i32⟩
  | 37 => ⟨S5, .i32⟩
  | 38 => ⟨S5, .i32⟩
  | 39 => ⟨S_, .i32⟩
  | 40 => ⟨S_, .i32⟩
  | 41 => ⟨S5, .i32⟩
  | 42 => ⟨S5, .i32⟩
  | 43 => ⟨S5, .i32⟩
  | 44 => ⟨S_, .i32⟩
  | 45 => ⟨S5, .i32⟩
  | 46 => ⟨S5, .i1⟩
  | 47 => ⟨S5, .i32⟩
  | 48 => ⟨S5, .i32⟩
  | 49 => ⟨S_, .i32⟩
  | 50 => ⟨S5, .i32⟩
  | 51 => ⟨S5, .i1⟩
  | 52 => ⟨S5, .i1⟩
  | 53 => ⟨S_, .i32⟩
  | 54 => ⟨S5, .i32⟩
  | 55 => ⟨S5, .i32⟩
  | 56 => ⟨S5, .i32⟩
  | 57 => ⟨S5, .i32⟩
  | 58 => ⟨S5, .i32⟩
  | 59 => ⟨S_, .i32⟩
  | 60 => ⟨S5, .i32⟩
  | 61 => ⟨S5, .i32⟩
  | 62 => ⟨S_, .i32⟩
  | 63 => ⟨S_, .i32⟩
  | 64 => ⟨S5, .i32⟩
  | 65 => ⟨S36, .i32⟩
  | 66 => ⟨S36x1, .i32⟩
  | 67 => ⟨S1x5, .i32⟩
  | 68 => ⟨S36x5, .i32⟩
  | 69 => ⟨S36x5, .i32⟩
  | 70 => ⟨S36x5, .i1⟩
  | 71 => ⟨S36x5, .i32⟩
  | 72 => ⟨S_, .i32⟩
  | 73 => ⟨S36, .i32⟩
  | 74 => ⟨S_, .i32⟩
  | 75 => ⟨S36, .i32⟩
  | 76 => ⟨S_, .i32⟩
  | 77 => ⟨S36, .i32⟩
  | 78 => ⟨S36, .i1⟩
  | 79 => ⟨S_, .i32⟩
  | 80 => ⟨S36, .i32⟩
  | 81 => ⟨S36, .i32⟩
  | 82 => ⟨S36, .i32⟩
  | 83 => ⟨S36x1, .i32⟩
  | 84 => ⟨S36, .i32⟩
  | 85 => ⟨S36, .i32⟩
  | 86 => ⟨S5, .i32⟩
  | 87 => ⟨S_, .i32⟩
  | 88 => ⟨S5, .i32⟩
  | 89 => ⟨S5, .i32⟩
  | 90 => ⟨S5, .i32⟩
  | 91 => ⟨S_, .i32⟩
  | 92 => ⟨S36, .i32⟩
  | 93 => ⟨S36, .i1⟩
  | 94 => ⟨S_, .i32⟩
  | 95 => ⟨S36, .i32⟩
  | 96 => ⟨S36, .i32⟩
  | 97 => ⟨S36, .i32⟩
  | 98 => ⟨S36x1, .i32⟩
  | 99 => ⟨S36, .i32⟩
  | 100 => ⟨S36, .i32⟩
  | 101 => ⟨S1, .i32⟩
  | 102 => ⟨S_, .i32⟩
  | 103 => ⟨S36, .i32⟩
  | 104 => ⟨S36, .i1⟩
  | 105 => ⟨S_, .i32⟩
  | 106 => ⟨S36, .i32⟩
  | 107 => ⟨S_, .i32⟩
  | 108 => ⟨S36, .i32⟩
  | 109 => ⟨S36, .i1⟩
  | 110 => ⟨S_, .i32⟩
  | 111 => ⟨S36, .i32⟩
  | 112 => ⟨S36, .i32⟩
  | 113 => ⟨S36, .i32⟩
  | 114 => ⟨S36x1, .i32⟩
  | 115 => ⟨S36, .i32⟩
  | 116 => ⟨S_, .i32⟩
  | 117 => ⟨S36, .i32⟩
  | 118 => ⟨S36, .i32⟩
  | 119 => ⟨S36, .i32⟩
  | 120 => ⟨S_, .i32⟩
  | 121 => ⟨S_, .i32⟩
  | 122 => ⟨S_, .i32⟩
  | 123 => ⟨S36, .i32⟩
  | 124 => ⟨S36, .i32⟩
  | 125 => ⟨S_, .i32⟩
  | 126 => ⟨S36, .i32⟩
  | 127 => ⟨S_, .i32⟩
  | _ => ⟨S2x8192x12288, .bf16⟩

abbrev hbmTy0_1 (i : Nat) : BufTy := match i % 128 with
  | 0 => ⟨S36, .i32⟩
  | 1 => ⟨S36, .i1⟩
  | 2 => ⟨S_, .i32⟩
  | 3 => ⟨S36, .i32⟩
  | 4 => ⟨S36, .i32⟩
  | 5 => ⟨S36, .i32⟩
  | 6 => ⟨S36x1, .i32⟩
  | 7 => ⟨S36, .i32⟩
  | 8 => ⟨S_, .i32⟩
  | 9 => ⟨S36, .i32⟩
  | 10 => ⟨S36, .i32⟩
  | 11 => ⟨S36, .i32⟩
  | 12 => ⟨S_, .i32⟩
  | 13 => ⟨S_, .i32⟩
  | 14 => ⟨S_, .i32⟩
  | 15 => ⟨S36, .i32⟩
  | 16 => ⟨S36, .i32⟩
  | 17 => ⟨S_, .i32⟩
  | 18 => ⟨S36, .i32⟩
  | 19 => ⟨S36, .i32⟩
  | 20 => ⟨S_, .i32⟩
  | 21 => ⟨S_, .i32⟩
  | 22 => ⟨S36, .i32⟩
  | 23 => ⟨S5x1792x12288, .f32⟩
  | 24 => ⟨S16384x12288, .fp8e4m3⟩
  | 25 => ⟨S128x12288, .f32⟩
  | 26 => ⟨S2x8192x12288, .fp8e4m3⟩
  | 27 => ⟨S2x64x12288, .f32⟩
  | 28 => ⟨S2x8192x1792, .fp8e4m3⟩
  | 29 => ⟨S2x64x1792, .f32⟩
  | _ => ⟨S2x8192x12288, .bf16⟩

abbrev hbmTy (i : Nat) : BufTy := match i / 128 with
  | 0 => hbmTy0_0 i
  | 1 => hbmTy0_1 i
  | _ => ⟨S2x8192x12288, .bf16⟩

abbrev bufTy : (tb : Table) → Fin (tcTables nBuf tb) → BufTy
  | .hbm, ⟨i, _⟩ => hbmTy i
  | .local _ .vmem, ⟨0, _⟩ => ⟨S1024x1792, .bf16⟩
  | .local _ .vmem, ⟨1, _⟩ => ⟨S1024x1792, .bf16⟩
  | .local _ .vmem, ⟨2, _⟩ => ⟨S1024x1792, .fp8e4m3⟩
  | .local _ .vmem, ⟨3, _⟩ => ⟨S1024x1792, .fp8e4m3⟩
  | .local _ .vmem, ⟨4, _⟩ => ⟨S8x1792, .f32⟩
  | .local _ .vmem, ⟨5, _⟩ => ⟨S8x1792, .f32⟩
  | .local _ .vmem, ⟨6, _⟩ => ⟨S1792x1024, .bf16⟩
  | .local _ .vmem, ⟨7, _⟩ => ⟨S1792x1024, .bf16⟩
  | .local _ .vmem, ⟨8, _⟩ => ⟨S512x2048, .bf16⟩
  | .local _ .vmem, ⟨9, _⟩ => ⟨S512x2048, .bf16⟩
  | .local _ .vmem, ⟨10, _⟩ => ⟨S1792x512, .bf16⟩
  | .local _ .vmem, ⟨11, _⟩ => ⟨S1792x512, .bf16⟩
  | .local _ .vmem, ⟨12, _⟩ => ⟨S1x1792x2048, .f32⟩
  | .local _ .vmem, ⟨13, _⟩ => ⟨S1x1792x2048, .f32⟩
  | .local _ .vmem, ⟨14, _⟩ => ⟨S512x2048, .fp8e4m3⟩
  | .local _ .vmem, ⟨15, _⟩ => ⟨S512x2048, .fp8e4m3⟩
  | .local _ .vmem, ⟨16, _⟩ => ⟨S8x2048, .f32⟩
  | .local _ .vmem, ⟨17, _⟩ => ⟨S8x2048, .f32⟩
  | .local _ .vmem, ⟨18, _⟩ => ⟨S512x2048, .bf16⟩
  | .local _ .smem, ⟨0, _⟩ => ⟨S36, .i32⟩
  | .local _ .smem, ⟨1, _⟩ => ⟨S36, .i32⟩
  | .local _ .smem, ⟨2, _⟩ => ⟨S36, .i32⟩
  | .local _ .smem, ⟨3, _⟩ => ⟨S36, .i32⟩
  | _, _ => ⟨S2x8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_call0_call0_c : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_c : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_0 : Ref sig .tc := ⟨.hbm, 26, rfl⟩
abbrev main_call1_v12 : Ref sig .tc := ⟨.hbm, 27, rfl⟩
abbrev main_call1_v13 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_c : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_0 : Ref sig .tc := ⟨.hbm, 53, rfl⟩
abbrev main_call2_v12 : Ref sig .tc := ⟨.hbm, 54, rfl⟩
abbrev main_call2_v13 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_c_4 : Ref sig .tc := ⟨.hbm, 59, rfl⟩
abbrev main_v15 : Ref sig .tc := ⟨.hbm, 60, rfl⟩
abbrev main_v16 : Ref sig .tc := ⟨.hbm, 61, rfl⟩
abbrev main_call4_call0_c : Ref sig .tc := ⟨.hbm, 62, rfl⟩
abbrev main_call4_call0_v0 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_5 : Ref sig .tc := ⟨.hbm, 72, rfl⟩
abbrev main_v25 : Ref sig .tc := ⟨.hbm, 73, rfl⟩
abbrev main_c_6 : Ref sig .tc := ⟨.hbm, 74, rfl⟩
abbrev main_v26 : Ref sig .tc := ⟨.hbm, 75, rfl⟩
abbrev main_c_7 : Ref sig .tc := ⟨.hbm, 76, rfl⟩
abbrev main_v28 : Ref sig .tc := ⟨.hbm, 77, rfl⟩
abbrev main_v29 : Ref sig .tc := ⟨.hbm, 78, rfl⟩
abbrev main_c_8 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c_9 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_10 : Ref sig .tc := ⟨.hbm, 91, rfl⟩
abbrev main_v40 : Ref sig .tc := ⟨.hbm, 92, rfl⟩
abbrev main_v41 : Ref sig .tc := ⟨.hbm, 93, rfl⟩
abbrev main_c_11 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_c_12 : Ref sig .tc := ⟨.hbm, 105, rfl⟩
abbrev main_v52 : Ref sig .tc := ⟨.hbm, 106, rfl⟩
abbrev main_c_13 : Ref sig .tc := ⟨.hbm, 107, rfl⟩
abbrev main_v54 : Ref sig .tc := ⟨.hbm, 108, rfl⟩
abbrev main_v55 : Ref sig .tc := ⟨.hbm, 109, rfl⟩
abbrev main_c_14 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_c_15 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_c_16 : Ref sig .tc := ⟨.hbm, 120, rfl⟩
abbrev main_c_17 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_c_18 : Ref sig .tc := ⟨.hbm, 127, rfl⟩
abbrev main_v65 : Ref sig .tc := ⟨.hbm, 128, rfl⟩
abbrev main_v66 : Ref sig .tc := ⟨.hbm, 129, rfl⟩
abbrev main_c_19 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_c_20 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_c_21 : Ref sig .tc := ⟨.hbm, 140, rfl⟩
abbrev main_c_22 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_v75 : Ref sig .tc := ⟨.hbm, 147, rfl⟩
abbrev main_c_23 : Ref sig .tc := ⟨.hbm, 148, rfl⟩
abbrev main_call7_v0 : Ref sig .tc := ⟨.hbm, 149, rfl⟩
abbrev main_call7_v1 : Ref sig .tc := ⟨.hbm, 150, rfl⟩
abbrev main_v77_0 : Ref sig .tc := ⟨.hbm, 151, rfl⟩
abbrev main_v77_1 : Ref sig .tc := ⟨.hbm, 152, rfl⟩
abbrev main_v77_2 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v53 : Ref sig .tc := ⟨.smem, 0, rfl⟩
abbrev main_v27 : Ref sig .tc := ⟨.smem, 1, rfl⟩
abbrev main_v64 : Ref sig .tc := ⟨.smem, 2, rfl⟩
abbrev main_v76 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1792 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![6, 36], ![false, false]⟩

abbrev pre1 : Pipeline.Prefetch sig := ⟨4, ![main_v53.idx, main_v27.idx, main_v64.idx, main_v76.idx], fun | 0 => main_v53.names | 1 => main_v27.names | 2 => main_v64.names | 3 => main_v76.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_off2 (i : grid1.Coords) : Fin 1 → Nat :=
  let arg1 : BitVec 32 := BitVec.ofNat 32 (i 1).val
  let c1_i32 : BitVec 32 := 1#32
  let v9 : BitVec 32 := Scalar.subi arg1 c1_i32
  let c0_i32_0 : BitVec 32 := 0#32
  let v10 : BitVec 32 := Scalar.maxsi v9 c0_i32_0
  let v11 : Index := Scalar.indexCast v10
  ![v11.toNat]
def k1_off3 (v1 : BitVec 32) (c0_i32_21 : BitVec 32) : Fin 2 → Nat :=
  let c2_i32 : BitVec 32 := 2#32
  let c0_i32_1 : BitVec 32 := 0#32
  let v16 : BitVec 1 := Scalar.cmpi .eq c2_i32 c0_i32_1
  let c1_i32_2 : BitVec 32 := 1#32
  let v17 : BitVec 32 := Scalar.select v16 c1_i32_2 c2_i32
  let v18 : BitVec 32 := Scalar.remsi v1 v17
  let c0_i32_4 : BitVec 32 := 0#32
  let v20 : BitVec 1 := Scalar.cmpi .slt v18 c0_i32_4
  let c0_i32_5 : BitVec 32 := 0#32
  let v21 : BitVec 1 := Scalar.cmpi .slt v17 c0_i32_5
  let v22 : BitVec 1 := Scalar.xori v20 v21
  let c0_i32_3 : BitVec 32 := 0#32
  let v19 : BitVec 1 := Scalar.cmpi .ne v18 c0_i32_3
  let v23 : BitVec 1 := Scalar.andi v22 v19
  let v24 : BitVec 32 := Scalar.addi v18 v17
  let v25 : BitVec 32 := Scalar.select v23 v24 v18
  let c4_i32 : BitVec 32 := 4#32
  let v26 : BitVec 32 := Scalar.muli v25 c4_i32
  let v84 : BitVec 32 := Scalar.addi v26 c0_i32_21
  let v85 : Index := Scalar.indexCast v84
  let c0_22 : Index := 0#32
  ![v85.toNat, 0]

def k1_off4 (v1 : BitVec 32) (c0_i32_121 : BitVec 32) : Fin 2 → Nat :=
  let c2_i32 : BitVec 32 := 2#32
  let c0_i32_1 : BitVec 32 := 0#32
  let v16 : BitVec 1 := Scalar.cmpi .eq c2_i32 c0_i32_1
  let c1_i32_2 : BitVec 32 := 1#32
  let v17 : BitVec 32 := Scalar.select v16 c1_i32_2 c2_i32
  let v18 : BitVec 32 := Scalar.remsi v1 v17
  let c0_i32_4 : BitVec 32 := 0#32
  let v20 : BitVec 1 := Scalar.cmpi .slt v18 c0_i32_4
  let c0_i32_5 : BitVec 32 := 0#32
  let v21 : BitVec 1 := Scalar.cmpi .slt v17 c0_i32_5
  let v22 : BitVec 1 := Scalar.xori v20 v21
  let c0_i32_3 : BitVec 32 := 0#32
  let v19 : BitVec 1 := Scalar.cmpi .ne v18 c0_i32_3
  let v23 : BitVec 1 := Scalar.andi v22 v19
  let v24 : BitVec 32 := Scalar.addi v18 v17
  let v25 : BitVec 32 := Scalar.select v23 v24 v18
  let c4_i32 : BitVec 32 := 4#32
  let v26 : BitVec 32 := Scalar.muli v25 c4_i32
  let v372 : BitVec 32 := Scalar.addi v26 c0_i32_121
  let v373 : Index := Scalar.indexCast v372
  let c512_122 : Index := 512#32
  ![v373.toNat, 512]
def k1_off5 (v1 : BitVec 32) (c0_i32_228 : BitVec 32) : Fin 2 → Nat :=
  let c2_i32 : BitVec 32 := 2#32
  let c0_i32_1 : BitVec 32 := 0#32
  let v16 : BitVec 1 := Scalar.cmpi .eq c2_i32 c0_i32_1
  let c1_i32_2 : BitVec 32 := 1#32
  let v17 : BitVec 32 := Scalar.select v16 c1_i32_2 c2_i32
  let v18 : BitVec 32 := Scalar.remsi v1 v17
  let c0_i32_4 : BitVec 32 := 0#32
  let v20 : BitVec 1 := Scalar.cmpi .slt v18 c0_i32_4
  let c0_i32_5 : BitVec 32 := 0#32
  let v21 : BitVec 1 := Scalar.cmpi .slt v17 c0_i32_5
  let v22 : BitVec 1 := Scalar.xori v20 v21
  let c0_i32_3 : BitVec 32 := 0#32
  let v19 : BitVec 1 := Scalar.cmpi .ne v18 c0_i32_3
  let v23 : BitVec 1 := Scalar.andi v22 v19
  let v24 : BitVec 32 := Scalar.addi v18 v17
  let v25 : BitVec 32 := Scalar.select v23 v24 v18
  let c4_i32 : BitVec 32 := 4#32
  let v26 : BitVec 32 := Scalar.muli v25 c4_i32
  let v660 : BitVec 32 := Scalar.addi v26 c0_i32_228
  let v661 : Index := Scalar.indexCast v660
  let c1024_229 : Index := 1024#32
  ![v661.toNat, 1024]
def k1_off6 (v1 : BitVec 32) (c0_i32_335 : BitVec 32) : Fin 2 → Nat :=
  let c2_i32 : BitVec 32 := 2#32
  let c0_i32_1 : BitVec 32 := 0#32
  let v16 : BitVec 1 := Scalar.cmpi .eq c2_i32 c0_i32_1
  let c1_i32_2 : BitVec 32 := 1#32
  let v17 : BitVec 32 := Scalar.select v16 c1_i32_2 c2_i32
  let v18 : BitVec 32 := Scalar.remsi v1 v17
  let c0_i32_4 : BitVec 32 := 0#32
  let v20 : BitVec 1 := Scalar.cmpi .slt v18 c0_i32_4
  let c0_i32_5 : BitVec 32 := 0#32
  let v21 : BitVec 1 := Scalar.cmpi .slt v17 c0_i32_5
  let v22 : BitVec 1 := Scalar.xori v20 v21
  let c0_i32_3 : BitVec 32 := 0#32
  let v19 : BitVec 1 := Scalar.cmpi .ne v18 c0_i32_3
  let v23 : BitVec 1 := Scalar.andi v22 v19
  let v24 : BitVec 32 := Scalar.addi v18 v17
  let v25 : BitVec 32 := Scalar.select v23 v24 v18
  let c4_i32 : BitVec 32 := 4#32
  let v26 : BitVec 32 := Scalar.muli v25 c4_i32
  let v948 : BitVec 32 := Scalar.addi v26 c0_i32_335
  let v949 : Index := Scalar.indexCast v948
  let c1536_336 : Index := 1536#32
  ![v949.toNat, 1536]

def k1_chk1 (v1 : BitVec 32) : Prop :=
  (∀ (r : Fin 4), ∀ a, (k1_off3 v1 (BitVec.ofNat 32 r.val)) a + S1x512.size a ≤ S8x2048.size a) ∧
  (∀ (r : Fin 4), ∀ a, (k1_off4 v1 (BitVec.ofNat 32 r.val)) a + S1x512.size a ≤ S8x2048.size a) ∧
  (∀ (r : Fin 4), ∀ a, (k1_off5 v1 (BitVec.ofNat 32 r.val)) a + S1x512.size a ≤ S8x2048.size a) ∧
  (∀ (r : Fin 4), ∀ a, (k1_off6 v1 (BitVec.ofNat 32 r.val)) a + S1x512.size a ≤ S8x2048.size a)
theorem k1_off3_inb : ∀ (v1 : BitVec 32) (k1_hw1 : k1_chk1 v1), ∀ (r : Fin 4), ∀ a, (k1_off3 v1 (BitVec.ofNat 32 r.val)) a + S1x512.size a ≤ S8x2048.size a := fun v1 k1_hw1 r => k1_hw1.1 r
theorem k1_off4_inb : ∀ (v1 : BitVec 32) (k1_hw1 : k1_chk1 v1), ∀ (r : Fin 4), ∀ a, (k1_off4 v1 (BitVec.ofNat 32 r.val)) a + S1x512.size a ≤ S8x2048.size a := fun v1 k1_hw1 r => k1_hw1.2.1 r
theorem k1_off5_inb : ∀ (v1 : BitVec 32) (k1_hw1 : k1_chk1 v1), ∀ (r : Fin 4), ∀ a, (k1_off5 v1 (BitVec.ofNat 32 r.val)) a + S1x512.size a ≤ S8x2048.size a := fun v1 k1_hw1 r => k1_hw1.2.2.1 r
theorem k1_off6_inb : ∀ (v1 : BitVec 32) (k1_hw1 : k1_chk1 v1), ∀ (r : Fin 4), ∀ a, (k1_off6 v1 (BitVec.ofNat 32 r.val)) a + S1x512.size a ≤ S8x2048.size a := fun v1 k1_hw1 r => k1_hw1.2.2.2 r

def k1_cond1 (i : grid1.Coords) (v8 : BitVec 32) (v12 : BitVec 32) : BitVec 1 :=
  let arg1 : BitVec 32 := BitVec.ofNat 32 (i 1).val
  let c0_i32 : BitVec 32 := 0#32
  let v6 : BitVec 1 := Scalar.cmpi .eq arg1 c0_i32
  let v13 : BitVec 1 := Scalar.cmpi .ne v8 v12
  let v14 : BitVec 1 := Scalar.ori v6 v13
  let v27 : BitVec 32 := Scalar.extui v14
  let c0_i32_6 : BitVec 32 := 0#32
  let v28 : BitVec 1 := Scalar.cmpi .ne v27 c0_i32_6
  v28

def k1_cond2 (v3 : BitVec 32) (v5 : BitVec 32) : BitVec 1 :=
  let v1181 : BitVec 1 := Scalar.cmpi .sgt v5 v3
  let v1182 : BitVec 32 := Scalar.extui v1181
  let c0_i32_423 : BitVec 32 := 0#32
  let v1183 : BitVec 1 := Scalar.cmpi .ne v1182 c0_i32_423
  v1183

def cc1_transform_0 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  ![v1.toNat, arg0.toNat]

def cc1_transform_1 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  let c0_i32_0 : BitVec 32 := 0#32
  ![c0_i32.toNat, v1.toNat]

def cc1_transform_2 (k1_off1_inb : ∀ i : grid1.Coords, ∀ a, (k1_off1 i) a + S1.size a ≤ S36.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c0_i32 : BitVec 32 := 0#32
  let c0_i32_0 : BitVec 32 := 0#32
  ![v1.toNat, c0_i32.toNat, arg0.toNat]

def cc1_transform_3 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  ![v1.toNat, arg0.toNat]

def cc1_transform_4 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  ![v18.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1792x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1792x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x2048 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S2x8192x12288 : Shape := ⟨3, ![2, 8192, 12288]⟩
abbrev S2x8192x1792 : Shape := ⟨3, ![2, 8192, 1792]⟩
abbrev S5 : Shape := ⟨1, ![5]⟩
abbrev S5x1792x12288 : Shape := ⟨3, ![5, 1792, 12288]⟩
abbrev S2x64x12288 : Shape := ⟨3, ![2, 64, 12288]⟩
abbrev S2x64x1792 : Shape := ⟨3, ![2, 64, 1792]⟩
abbrev S2x64x128x12288 : Shape := ⟨4, ![2, 64, 128, 12288]⟩
abbrev S254x2x64x12288 : Shape := ⟨4, ![254, 2, 64, 12288]⟩
abbrev S1x2x64x12288 : Shape := ⟨4, ![1, 2, 64, 12288]⟩
abbrev S2x64x1x12288 : Shape := ⟨4, ![2, 64, 1, 12288]⟩
abbrev S2x64x128x1792 : Shape := ⟨4, ![2, 64, 128, 1792]⟩
abbrev S254x2x64x1792 : Shape := ⟨4, ![254, 2, 64, 1792]⟩
abbrev S1x2x64x1792 : Shape := ⟨4, ![1, 2, 64, 1792]⟩
abbrev S2x64x1x1792 : Shape := ⟨4, ![2, 64, 1, 1792]⟩
abbrev S16384x12288 : Shape := ⟨2, ![16384, 12288]⟩
abbrev S16384x1792 : Shape := ⟨2, ![16384, 1792]⟩
abbrev S16384x1 : Shape := ⟨2, ![16384, 1]⟩
abbrev S1 : Shape := ⟨1, ![1]⟩
abbrev S1792x12288 : Shape := ⟨2, ![1792, 12288]⟩
abbrev S1x1792x12288 : Shape := ⟨3, ![1, 1792, 12288]⟩

abbrev nBuf : Space → Nat
  | .hbm => 8
  | .vmem => 7
  | .smem => 1
  | _ => 0

abbrev bufTy : (tb : Table) → Fin (tcTables nBuf tb) → BufTy
  | .hbm, ⟨0, _⟩ => ⟨S2x8192x12288, .bf16⟩
  | .hbm, ⟨1, _⟩ => ⟨S2x8192x1792, .bf16⟩
  | .hbm, ⟨2, _⟩ => ⟨S5, .i32⟩
  | .hbm, ⟨3, _⟩ => ⟨S5x1792x12288, .f32⟩
  | .hbm, ⟨4, _⟩ => ⟨S2x8192x12288, .fp8e4m3⟩
  | .hbm, ⟨5, _⟩ => ⟨S2x64x12288, .f32⟩
  | .hbm, ⟨6, _⟩ => ⟨S2x8192x1792, .fp8e4m3⟩
  | .hbm, ⟨7, _⟩ => ⟨S2x64x1792, .f32⟩
  | .local _ .vmem, ⟨0, _⟩ => ⟨S2x8192x12288, .bf16⟩
  | .local _ .vmem, ⟨1, _⟩ => ⟨S2x8192x1792, .bf16⟩
  | .local _ .vmem, ⟨2, _⟩ => ⟨S5x1792x12288, .f32⟩
  | .local _ .vmem, ⟨3, _⟩ => ⟨S2x8192x12288, .fp8e4m3⟩
  | .local _ .vmem, ⟨4, _⟩ => ⟨S2x64x12288, .f32⟩
  | .local _ .vmem, ⟨5, _⟩ => ⟨S2x8192x1792, .fp8e4m3⟩
  | .local _ .vmem, ⟨6, _⟩ => ⟨S2x64x1792, .f32⟩
  | .local _ .smem, ⟨0, _⟩ => ⟨S5, .i32⟩
  | _, _ => ⟨S2x8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x8192x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8192x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S5 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x1792x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x64x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8192x1792 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x64x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Body1.lean ====
/-
  The body of the `wgrad` kernel, run on whole staging memrefs: what its stores leave in each buffer.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Work

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The second body's run at a point: from what its windows hold before to what they hold after. -/
noncomputable def kernelRun1 (c : Dev nD) (i : grid1.Coords)
    (arg2 : Memref sig .tc .smem S36 .i32) (harg2 : arg2.IsWhole) (arg3 : Memref sig .tc .smem S36 .i32) (harg3 : arg3.IsWhole) (arg4 : Memref sig .tc .smem S36 .i32) (harg4 : arg4.IsWhole) (arg5 : Memref sig .tc .smem S36 .i32) (harg5 : arg5.IsWhole) (arg6 : Memref sig .tc .vmem S512x2048 .bf16) (harg6 : arg6.IsWhole) (arg7 : Memref sig .tc .vmem S1792x512 .bf16) (harg7 : arg7.IsWhole) (arg8 : Memref sig .tc .vmem S1x1792x2048 .f32) (harg8 : arg8.IsWhole) (arg9 : Memref sig .tc .vmem S512x2048 .fp8e4m3) (harg9 : arg9.IsWhole) (arg10 : Memref sig .tc .vmem S8x2048 .f32) (harg10 : arg10.IsWhole) (arg11 : Memref sig .tc .vmem S512x2048 .bf16) (harg11 : arg11.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ)))
    (hw : ∀ v, k1_chk1 v) :
    Σ' (g8 : Buf (Elt F) (arg8.view.loc (c : Thread nD τ))), Σ' (g9 : Buf (Elt F) (arg9.view.loc (c : Thread nD τ))), Σ' (g10 : Buf (Elt F) (arg10.view.loc (c : Thread nD τ))), { g11 : Buf (Elt F) (arg11.view.loc (c : Thread nD τ)) //
      ∀ (E : Set ℕ) (K : PUnit → sProp 𝕄),
        iprop((arg2.view.loc (c : Thread nD τ) ↦[arg2.view.set]{fullShare} f2) ∗ (arg3.view.loc (c : Thread nD τ) ↦[arg3.view.set]{fullShare} f3)
            ∗ (arg4.view.loc (c : Thread nD τ) ↦[arg4.view.set]{fullShare} f4) ∗ (arg5.view.loc (c : Thread nD τ) ↦[arg5.view.set]{fullShare} f5)
            ∗ (arg6.view.loc (c : Thread nD τ) ↦[arg6.view.set]{fullShare} f6) ∗ (arg7.view.loc (c : Thread nD τ) ↦[arg7.view.set]{fullShare} f7)
            ∗ (arg8.view.loc (c : Thread nD τ) ↦[arg8.view.set]{fullShare} f8) ∗ (arg9.view.loc (c : Thread nD τ) ↦[arg9.view.set]{fullShare} f9)
            ∗ (arg10.view.loc (c : Thread nD τ) ↦[arg10.view.set]{fullShare} f10) ∗ (arg11.view.loc (c : Thread nD τ) ↦[arg11.view.set]{fullShare} f11)
            ∗ (iprop((arg2.view.loc (c : Thread nD τ) ↦[arg2.view.set]{fullShare} f2) ∗ (arg3.view.loc (c : Thread nD τ) ↦[arg3.view.set]{fullShare} f3)
            ∗ (arg4.view.loc (c : Thread nD τ) ↦[arg4.view.set]{fullShare} f4) ∗ (arg5.view.loc (c : Thread nD τ) ↦[arg5.view.set]{fullShare} f5)
            ∗ (arg6.view.loc (c : Thread nD τ) ↦[arg6.view.set]{fullShare} f6) ∗ (arg7.view.loc (c : Thread nD τ) ↦[arg7.view.set]{fullShare} f7)
            ∗ (arg8.view.loc (c : Thread nD τ) ↦[arg8.view.set]{fullShare} g8) ∗ (arg9.view.loc (c : Thread nD τ) ↦[arg9.view.set]{fullShare} g9)
            ∗ (arg10.view.loc (c : Thread nD τ) ↦[arg10.view.set]{fullShare} g10) ∗ (arg11.view.loc (c : Thread nD τ) ↦[arg11.view.set]{fullShare} g11)) -∗ K ⟨⟩))
          ⊢ wp frame (wpE (defs₀ (F := F)) Variants.none c none) E (cc1_wgrad i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_wgrad_eq_skeleton]; unfold cc1_wgrad_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton]
    iintro ⟨H2, H3, H4, H5, H6, H7, H8, H9, H10, H11, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel.Work

end
-- ==== Proof.Quant.lean ====
/-
  The group quantiser both kernels use, at any width, and blocks given by their pieces.
-/
module

public import Idealize.ShloMosaic.Lib.Pipeline.FrameBody
public import Idealize.ShloMosaic.Lib.Ring
public import Idealize.ShloMosaic.Lib.VecWindow
public import Idealize.ShloMosaic.Lib.WritesUnit
public import Idealize.ShloMosaic.Lib.ValueIdxCore

@[expose] public section

noncomputable section

namespace Cert.Quant

open Idealize.ShloMosaic Idealize.ShloMosaic.ValueIdx

variable {F : FTy → Type} [FloatOps F]

/-! ## The quantiser of one group of 128 rows -/

/-- The shape facts the quantiser of a group of 128 rows and `c` columns uses. -/
structure Shapes (c : ℕ) : Prop where
  same : (⟨2, ![128, c]⟩ : Shape).ShapeCasts ⟨2, ![128, c]⟩
  split : (⟨2, ![128, c]⟩ : Shape).ShapeCasts ⟨3, ![8, 16, c]⟩
  red8 : (⟨3, ![8, 16, c]⟩ : Shape).Reduces [0] ⟨2, ![16, c]⟩
  red16 : (⟨2, ![16, c]⟩ : Shape).Reduces [0] ⟨1, ![c]⟩
  row : (⟨1, ![c]⟩ : Shape).ShapeCasts ⟨2, ![1, c]⟩
  iota : (⟨2, ![255, c]⟩ : Shape).Iotas Kind.tc 32 [0]
  bc255 : (⟨2, ![1, c]⟩ : Shape).Broadcasts ⟨2, ![255, c]⟩
  red255 : (⟨2, ![255, c]⟩ : Shape).Reduces [0] ⟨1, ![c]⟩
  bc128 : (⟨2, ![1, c]⟩ : Shape).Broadcasts ⟨2, ![128, c]⟩

variable {c : ℕ}

/-- The group's largest magnitude in each column. -/
def amax (h : Shapes c) (v : FVec F ⟨2, ![128, c]⟩ .bf16) : FVec F ⟨2, ![1, c]⟩ .f32 :=
  shapeCast ⟨2, ![1, c]⟩ (multiReduction .maximumf [0] ⟨1, ![c]⟩
    (extf .f32 (multiReduction .maximumf [0] ⟨2, ![16, c]⟩ (shapeCast ⟨3, ![8, 16, c]⟩
      (absf (shapeCast ⟨2, ![128, c]⟩ v h.same)) h.split) 0xFF80#16 h.red8 (.inr rfl) rfl) (by decide)) 0xFF800000#32 h.red16 (.inl rfl) rfl) h.row

/-- How many of the 255 powers of two, taken as the words `k <<< 23`, lie below the scaled magnitude: its exponent field. -/
def field (h : Shapes c) (v : FVec F ⟨2, ![128, c]⟩ .bf16) : IVec ⟨2, ![1, c]⟩ 32 :=
  shapeCast ⟨2, ![1, c]⟩ (multiReductionI .add [0] ⟨1, ![c]⟩
    (extui 32 (cmpf .oge
      (broadcastTo ⟨2, ![255, c]⟩ (mulf (amax h v) (broadcast ⟨2, ![1, c]⟩ (Scalar.ofBits .f32 0x3B124925#32 : F .f32))) h.bc255)
      (bitcastToFloat .f32 (shli (addi (iota .tc ⟨2, ![255, c]⟩ 32 [0] h.iota) (broadcast _ 1#32)) (broadcast _ 23#32)) : FVec F ⟨2, ![255, c]⟩ .f32)) (by decide))
    0#32 h.red255 rfl) h.row

/-- The exponent of the group's scale. -/
def expo (h : Shapes c) (v : FVec F ⟨2, ![128, c]⟩ .bf16) : IVec ⟨2, ![1, c]⟩ 32 :=
  select (ori (cmpi .eq (field h v) (broadcast _ 0#32)) (cmpi .eq (field h v) (broadcast _ 255#32))) (broadcast _ 0#32)
    (subi (field h v) (broadcast _ 126#32))

/-- The group's scale, built as a word. -/
def scale (h : Shapes c) (v : FVec F ⟨2, ![128, c]⟩ .bf16) : FVec F ⟨2, ![1, c]⟩ .f32 :=
  bitcastToFloat .f32 (shli (addi (expo h v) (broadcast _ 127#32)) (broadcast _ 23#32))

/-- The inverse of the scale, built as a word. -/
def inv (h : Shapes c) (v : FVec F ⟨2, ![128, c]⟩ .bf16) : FVec F ⟨2, ![1, c]⟩ .f32 :=
  bitcastToFloat .f32 (shli (subi (broadcast _ 127#32) (expo h v)) (broadcast _ 23#32))

/-- The group's codes. -/
def codes (h : Shapes c) (v : FVec F ⟨2, ![128, c]⟩ .bf16) : FVec F ⟨2, ![128, c]⟩ .fp8e4m3 :=
  truncf .fp8e4m3 (minimumf (broadcast _ (Scalar.truncf .bf16 (by decide) (Scalar.ofBits .f32 0x43E00000#32 : F .f32)))
    (maximumf (broadcast _ (Scalar.truncf .bf16 (by decide) (Scalar.ofBits .f32 0xC3E00000#32 : F .f32)))
      (mulf (shapeCast ⟨2, ![128, c]⟩ v h.same) (broadcastTo ⟨2, ![128, c]⟩ (truncf .bf16 (inv h v) (by decide)) h.bc128)))) (by decide)

/-- The group dequantised: its codes times its scale. -/
def deq (h : Shapes c) (v : FVec F ⟨2, ![128, c]⟩ .bf16) : FVec F ⟨2, ![128, c]⟩ .bf16 :=
  mulf (extf .bf16 (codes h v) (by decide)) (broadcastTo ⟨2, ![128, c]⟩ (truncf .bf16 (scale h v) (by decide)) h.bc128)

/-! ## Blocks by pieces -/

variable {α : Type}

/-- Piece `(g, n)`, of `r` rows and `c` columns, of a block. -/
def chunk {R C : ℕ} [NeZero R] [NeZero C] (r c : ℕ) (x : (⟨2, ![R, C]⟩ : Shape).Idx → α) (g n : ℕ) : (⟨2, ![r, c]⟩ : Shape).Idx → α :=
  fun z => x (ix2 (Fin.ofNat R (r * g + (z 0).val)) (Fin.ofNat C (c * n + (z 1).val)))

/-- The block whose piece `(g, n)` is `G g n`. -/
def tile (R C : ℕ) {r c : ℕ} [NeZero r] [NeZero c] (G : ℕ → ℕ → (⟨2, ![r, c]⟩ : Shape).Idx → α) : (⟨2, ![R, C]⟩ : Shape).Idx → α :=
  fun y => G ((y 0).val / r) ((y 1).val / c) (ix2 (Fin.ofNat r (y 0).val) (Fin.ofNat c (y 1).val))

/-- A load of a piece of a block reads the piece. -/
theorem readAt_chunk {sig : RefSig} {κ : Kind} {sp : Space} {R C r c : ℕ} [NeZero R] [NeZero C] {e : EltTy} {Val : EltTy → Type}
    (v : View sig κ sp ⟨2, ![R, C]⟩ e) (f : v.ty.Contents Val) (g n : ℕ) {off : Fin 2 → ℕ} (hoff : off = ![r * g, c * n])
    (inb : ∀ a, off a + ![r, c] a ≤ ![R, C] a) :
    v.readAt Val (Rect.unit (s := ⟨2, ![R, C]⟩) off ![r, c] inb).toLoadRect f = chunk r c (v.read Val f) g n := by
  subst hoff
  funext z
  show v.read Val f _ = v.read Val f _
  congr 1
  have h0 : r * g + r ≤ R := inb 0
  have h1 : c * n + c ≤ C := inb 1
  have z0 : (z 0).val < r := (z 0).isLt
  have z1 : (z 1).val < c := (z 1).isLt
  funext a
  match a with
  | ⟨0, _⟩ =>
    apply Fin.ext
    show r * g + 1 * (z 0).val = (r * g + (z 0).val) % R
    rw [Nat.mod_eq_of_lt (by omega)]; omega
  | ⟨1, _⟩ =>
    apply Fin.ext
    show c * n + 1 * (z 1).val = (c * n + (z 1).val) % C
    rw [Nat.mod_eq_of_lt (by omega)]; omega

/-- A stored piece is the block's own piece there. -/
theorem piece_tile {R C r c : ℕ} [NeZero r] [NeZero c] (G : ℕ → ℕ → (⟨2, ![r, c]⟩ : Shape).Idx → α) (g n : ℕ) {off : Fin 2 → ℕ}
    (hoff : off = ![r * g, c * n]) (inb : ∀ a, off a + ![r, c] a ≤ ![R, C] a) (w : (⟨2, ![r, c]⟩ : Shape).Idx → α) (hw : w = G g n)
    (x : (Rect.unit (s := ⟨2, ![R, C]⟩) off ![r, c] inb).shape.Idx) :
    w x = tile R C G ((Rect.unit (s := ⟨2, ![R, C]⟩) off ![r, c] inb).emb x) := by
  subst hoff; subst hw
  have z0 : (x 0).val < r := (x 0).isLt
  have z1 : (x 1).val < c := (x 1).isLt
  have e0 : (((Rect.unit (s := ⟨2, ![R, C]⟩) ![r * g, c * n] ![r, c] inb).emb x) 0).val = r * g + (x 0).val := by
    show r * g + 1 * (x 0).val = _; omega
  have e1 : (((Rect.unit (s := ⟨2, ![R, C]⟩) ![r * g, c * n] ![r, c] inb).emb x) 1).val = c * n + (x 1).val := by
    show c * n + 1 * (x 1).val = _; omega
  unfold tile
  rw [e0, e1, Nat.mul_add_div (by omega), Nat.mul_add_div (by omega), Nat.div_eq_of_lt z0, Nat.div_eq_of_lt z1]
  simp only [Nat.add_zero]
  congr 1
  funext a
  match a with
  | ⟨0, _⟩ =>
    apply Fin.ext
    show (x 0).val = (r * g + (x 0).val) % r
    rw [Nat.mul_add_mod, Nat.mod_eq_of_lt z0]
  | ⟨1, _⟩ =>
    apply Fin.ext
    show (x 1).val = (c * n + (x 1).val) % c
    rw [Nat.mul_add_mod, Nat.mod_eq_of_lt z1]

/-- What a view reads after stores that cover it, each a piece of one block: the block. -/
theorem read_pieces {sig : RefSig} {κ : Kind} {sp : Space} {s : Shape} {e : EltTy} {Val : EltTy → Type} (v : View sig κ sp s e)
    (f : v.ty.Contents Val) (T : s.Idx → Val e) (L : List (View.Piece Val s e)) (size : Fin s.rank → ℕ)
    (hc : View.Piece.tiledL L size = true) (hL : ∀ p ∈ L, ∀ x : p.1.shape.Idx, p.2 x = T (p.1.emb x)) :
    v.read Val (v.writes Val f L) = T :=
  funext fun y => View.read_writes_apply_of_pieces (v := v) (f := f) T L hL y (View.cover_of_tiledL L size hc y)

end Cert.Quant

end
-- ==== Proof.K.Read1.lean ====
/-
  What the body of `wgrad` leaves in its buffers, as blocks made of the sixteen groups it quantises.
-/
module

public import proofs.«01_k».proof.Proof.K.Body1
public import proofs.«01_k».proof.Proof.Quant

@[expose] public section

set_option maxRecDepth 16384

noncomputable section

namespace Cert.Kernel.Work

open Cert.Kernel.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The row offset of a stripe's scales -/

/-- The remainder by 2 the kernel computes of a word, whatever the word: its lowest bit. -/
theorem rem2 (v : BitVec 32) :
    Scalar.select (Scalar.andi (Scalar.xori (Scalar.cmpi .slt (Scalar.remsi v 2#32) 0#32) (Scalar.cmpi .slt 2#32 0#32)) (Scalar.cmpi .ne (Scalar.remsi v 2#32) 0#32))
      (Scalar.addi (Scalar.remsi v 2#32) 2#32) (Scalar.remsi v 2#32) = BitVec.ofNat 32 (v.toNat % 2) := by
  have h1 : Scalar.remsi v 2#32 = v.srem 2#32 := by
    show (if IntOp.SDivCorner v 2#32 then _ else _) = _
    rw [if_neg]
    simp [IntOp.SDivCorner]
  have hm : v.srem 2#32 = BitVec.ofInt 32 (v.toInt.tmod 2) := by
    apply BitVec.eq_of_toInt_eq
    rw [BitVec.toInt_srem, BitVec.toInt_ofInt]
    show v.toInt.tmod 2 = _
    have := Int.tmod_lt_of_pos v.toInt (show (0:ℤ) < 2 by omega)
    have := Int.lt_tmod_of_pos v.toInt (show (0:ℤ) < 2 by omega)
    rw [Int.bmod_eq_of_le_mul_two] <;> omega
  have hv : v.toInt = v.toNat ∨ v.toInt = v.toNat - 4294967296 := by
    rw [BitVec.toInt_eq_toNat_cond]; split
    · left; rfl
    · right; rfl
  have e := Int.tmod_add_mul_tdiv v.toInt 2
  have l1 := Int.tmod_lt_of_pos v.toInt (show (0:ℤ) < 2 by omega)
  have l2 := Int.lt_tmod_of_pos v.toInt (show (0:ℤ) < 2 by omega)
  rw [h1, hm]
  have : v.toInt.tmod 2 = 0 ∧ v.toNat % 2 = 0 ∨ v.toInt.tmod 2 = 1 ∧ v.toNat % 2 = 1 ∨ v.toInt.tmod 2 = -1 ∧ v.toNat % 2 = 1 := by omega
  rcases this with ⟨a, b⟩ | ⟨a, b⟩ | ⟨a, b⟩ <;> rw [a, b] <;> decide

/-- Each word's offset check holds: the offsets depend on the word's lowest bit alone. -/
theorem off_eq (v : BitVec 32) (r : ℕ) (hr : r < 4) :
    k1_off3 v (BitVec.ofNat 32 r) = ![4 * (v.toNat % 2) + r, 0] ∧ k1_off4 v (BitVec.ofNat 32 r) = ![4 * (v.toNat % 2) + r, 512] ∧
    k1_off5 v (BitVec.ofNat 32 r) = ![4 * (v.toNat % 2) + r, 1024] ∧ k1_off6 v (BitVec.ofNat 32 r) = ![4 * (v.toNat % 2) + r, 1536] := by
  have key : (Scalar.indexCast (Scalar.addi (Scalar.muli (Scalar.select (Scalar.andi (Scalar.xori (Scalar.cmpi .slt (Scalar.remsi v 2#32) 0#32) (Scalar.cmpi .slt 2#32 0#32)) (Scalar.cmpi .ne (Scalar.remsi v 2#32) 0#32))
      (Scalar.addi (Scalar.remsi v 2#32) 2#32) (Scalar.remsi v 2#32)) 4#32) (BitVec.ofNat 32 r)) : Index).toNat = 4 * (v.toNat % 2) + r := by
    rw [rem2]
    have h2 : v.toNat % 2 < 2 := Nat.mod_lt _ (by omega)
    generalize v.toNat % 2 = p at h2
    interval_cases p <;> interval_cases r <;> rfl
  refine ⟨?_, ?_, ?_, ?_⟩
  · show ![_, 0] = _; exact congrArg (fun n => ![n, 0]) key
  · show ![_, 512] = _; exact congrArg (fun n => ![n, 512]) key
  · show ![_, 1024] = _; exact congrArg (fun n => ![n, 1024]) key
  · show ![_, 1536] = _; exact congrArg (fun n => ![n, 1536]) key

/-- So the body's check holds of every word. -/
theorem chk1 (v : BitVec 32) : k1_chk1 v := by
  have h2 : v.toNat % 2 < 2 := Nat.mod_lt _ (by omega)
  refine ⟨fun r a => ?_, fun r a => ?_, fun r a => ?_, fun r a => ?_⟩
  · rw [(off_eq v r r.isLt).1]; have := r.isLt; match a with
      | ⟨0, _⟩ => show 4 * (v.toNat % 2) + r.val + 1 ≤ 8; omega
      | ⟨1, _⟩ => show 0 + 512 ≤ 2048; omega
  · rw [(off_eq v r r.isLt).2.1]; have := r.isLt; match a with
      | ⟨0, _⟩ => show 4 * (v.toNat % 2) + r.val + 1 ≤ 8; omega
      | ⟨1, _⟩ => show 512 + 512 ≤ 2048; omega
  · rw [(off_eq v r r.isLt).2.2.1]; have := r.isLt; match a with
      | ⟨0, _⟩ => show 4 * (v.toNat % 2) + r.val + 1 ≤ 8; omega
      | ⟨1, _⟩ => show 1024 + 512 ≤ 2048; omega
  · rw [(off_eq v r r.isLt).2.2.2]; have := r.isLt; match a with
      | ⟨0, _⟩ => show 4 * (v.toNat % 2) + r.val + 1 ≤ 8; omega
      | ⟨1, _⟩ => show 1536 + 512 ≤ 2048; omega

/-! ## The blocks -/

/-- The shape facts of a group of 512 columns. -/
theorem shapes1 : Quant.Shapes 512 where
  same := shapeCasts_S128x512_S128x512
  split := shapeCasts_S128x512_S8x16x512
  red8 := reduces_S8x16x512_S16x512
  red16 := reduces_S16x512_S512
  row := shapeCasts_S512_S1x512
  iota := iota_S255x512_d0_w32
  bc255 := broadcasts_S1x512_S255x512
  red255 := reduces_S255x512_S512
  bc128 := broadcasts_S1x512_S128x512

/-- The codes of a tile of x: each group's own. -/
def codesB1 (x : Vec F S512x2048 .bf16) : Vec F S512x2048 .fp8e4m3 :=
  tile 512 2048 (r := 128) (c := 512) fun g n => Quant.codes shapes1 (chunk 128 512 x g n)

/-- The tile's scales: one row per group. -/
def scaleB1 (x : Vec F S512x2048 .bf16) : Vec F ⟨2, ![4, 2048]⟩ .f32 :=
  tile 4 2048 (r := 1) (c := 512) fun g n => Quant.scale shapes1 (chunk 128 512 x g n)

/-- A group dequantised, zero outside the rows from `lo` to `hi` of the tile, the group's first row being row `base`. -/
def maskC (base lo hi : BitVec 32) (v : Vec F S128x512 .bf16) : Vec F S128x512 .bf16 :=
  shapeCast S128x512 (select (andi (cmpi .sge (addi (iota .tc S128x512 32 [0] iota_S128x512_d0_w32) (broadcast S128x512 base)) (broadcast S128x512 lo))
      (cmpi .slt (addi (iota .tc S128x512 32 [0] iota_S128x512_d0_w32) (broadcast S128x512 base)) (broadcast S128x512 hi)))
    (Quant.deq shapes1 v) (broadcast S128x512 (Scalar.ofBits .bf16 0x0000#16))) shapeCasts_S128x512_S128x512

/-- The tile dequantised, zero outside the rows from `lo` to `hi`. -/
def maskB (lo hi : BitVec 32) (x : Vec F S512x2048 .bf16) : Vec F S512x2048 .bf16 :=
  tile 512 2048 (r := 128) (c := 512) fun g n => maskC (BitVec.ofNat 32 (128 * g)) lo hi (chunk 128 512 x g n)

/-- The 512 columns from `512 * n` of a block of the output. -/
def cols3 (y : Vec F S1x1792x2048 .f32) (n : ℕ) : Vec F S1x1792x512 .f32 :=
  fun z => y (ix3 (z 0) (z 1) (Fin.ofNat 2048 (512 * n + (z 2).val)))

/-- One step's block of the output: the product of the two tiles added. -/
def accB (y : Vec F S1x1792x2048 .f32) (d : Vec F S1792x512 .bf16) (w : Vec F S512x2048 .bf16) : Vec F S1x1792x2048 .f32 :=
  fun y' => k1_pay3 (cols3 y ((y' 2).val / 512)) d (chunk 512 512 w 0 ((y' 2).val / 512)) (ix3 (y' 0) (y' 1) (Fin.ofNat 512 (y' 2).val))

variable (c : Dev nD) (i : grid1.Coords)
    (arg2 : Memref sig .tc .smem S36 .i32) (harg2 : arg2.IsWhole) (arg3 : Memref sig .tc .smem S36 .i32) (harg3 : arg3.IsWhole) (arg4 : Memref sig .tc .smem S36 .i32) (harg4 : arg4.IsWhole) (arg5 : Memref sig .tc .smem S36 .i32) (harg5 : arg5.IsWhole)
    (arg6 : Memref sig .tc .vmem S512x2048 .bf16) (harg6 : arg6.IsWhole) (arg7 : Memref sig .tc .vmem S1792x512 .bf16) (harg7 : arg7.IsWhole) (arg8 : Memref sig .tc .vmem S1x1792x2048 .f32) (harg8 : arg8.IsWhole)
    (arg9 : Memref sig .tc .vmem S512x2048 .fp8e4m3) (harg9 : arg9.IsWhole) (arg10 : Memref sig .tc .vmem S8x2048 .f32) (harg10 : arg10.IsWhole) (arg11 : Memref sig .tc .vmem S512x2048 .bf16) (harg11 : arg11.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ)))
    (hw : ∀ v, k1_chk1 v)

set_option maxHeartbeats 4000000 in
/-- The codes' buffer reads the tile's codes. -/
theorem read_codes1 : arg9.view.read (Elt F) (arg9.view.writes (Elt F) f9 (kernelRun1.sl.H9_16 c arg6 f6)) = codesB1 (arg6.view.read (Elt F) f6) := by
  refine read_pieces _ _ _ _ S128x512.size (by sl_kernel_rfl) ?_
  have h : ∀ g n {off : Fin 2 → ℕ} (hoff : off = ![128 * g, 512 * n]) (inb), Quant.codes shapes1 (arg6.view.readAt (Elt F) (Rect.unit (s := S512x2048) off ![128, 512] inb).toLoadRect f6) = Quant.codes shapes1 (chunk 128 512 (arg6.view.read (Elt F) f6) g n) :=
    fun g n off hoff inb => congrArg _ (readAt_chunk _ _ g n hoff inb)
  unfold kernelRun1.sl.H9_16
  simp only [List.forall_mem_cons, List.not_mem_nil, false_implies, implies_true, and_true]
  exact ⟨piece_tile _ 3 3 rfl _ _ (h 3 3 rfl inb_S512x2048_S128x512_384_1536), piece_tile _ 2 3 rfl _ _ (h 2 3 rfl inb_S512x2048_S128x512_256_1536),
    piece_tile _ 1 3 rfl _ _ (h 1 3 rfl inb_S512x2048_S128x512_128_1536), piece_tile _ 0 3 rfl _ _ (h 0 3 rfl inb_S512x2048_S128x512_0_1536),
    piece_tile _ 3 2 rfl _ _ (h 3 2 rfl inb_S512x2048_S128x512_384_1024), piece_tile _ 2 2 rfl _ _ (h 2 2 rfl inb_S512x2048_S128x512_256_1024),
    piece_tile _ 1 2 rfl _ _ (h 1 2 rfl inb_S512x2048_S128x512_128_1024), piece_tile _ 0 2 rfl _ _ (h 0 2 rfl inb_S512x2048_S128x512_0_1024),
    piece_tile _ 3 1 rfl _ _ (h 3 1 rfl inb_S512x2048_S128x512_384_512), piece_tile _ 2 1 rfl _ _ (h 2 1 rfl inb_S512x2048_S128x512_256_512),
    piece_tile _ 1 1 rfl _ _ (h 1 1 rfl inb_S512x2048_S128x512_128_512), piece_tile _ 0 1 rfl _ _ (h 0 1 rfl inb_S512x2048_S128x512_0_512),
    piece_tile _ 3 0 rfl _ _ (h 3 0 rfl inb_S512x2048_S128x512_384_0), piece_tile _ 2 0 rfl _ _ (h 2 0 rfl inb_S512x2048_S128x512_256_0),
    piece_tile _ 1 0 rfl _ _ (h 1 0 rfl inb_S512x2048_S128x512_128_0), piece_tile _ 0 0 rfl _ _ (h 0 0 rfl inb_S512x2048_S128x512_0_0)⟩

set_option maxHeartbeats 4000000 in
/-- Each store of the masked tile is the tile's own piece. -/
theorem pieces_mask1 : ∀ p ∈ kernelRun1.sl.H11_16 c i arg4 arg5 arg6 f4 f5 f6, ∀ x : p.1.shape.Idx, p.2 x = maskB (kernelRun1.sl.r_1 c i arg4 f4) (kernelRun1.sl.r_2 c i arg5 f5) (arg6.view.read (Elt F) f6) (p.1.emb x) := by
  have h : ∀ g n {off : Fin 2 → ℕ} (hoff : off = ![128 * g, 512 * n]) (inb), maskC (BitVec.ofNat 32 (128 * g)) (kernelRun1.sl.r_1 c i arg4 f4) (kernelRun1.sl.r_2 c i arg5 f5) (arg6.view.readAt (Elt F) (Rect.unit (s := S512x2048) off ![128, 512] inb).toLoadRect f6) = maskC (BitVec.ofNat 32 (128 * g)) (kernelRun1.sl.r_1 c i arg4 f4) (kernelRun1.sl.r_2 c i arg5 f5) (chunk 128 512 (arg6.view.read (Elt F) f6) g n) :=
    fun g n off hoff inb => congrArg _ (readAt_chunk _ _ g n hoff inb)
  unfold kernelRun1.sl.H11_16
  simp only [List.forall_mem_cons, List.not_mem_nil, false_implies, implies_true, and_true]
  exact ⟨piece_tile _ 3 3 rfl _ _ (h 3 3 rfl inb_S512x2048_S128x512_384_1536), piece_tile _ 2 3 rfl _ _ (h 2 3 rfl inb_S512x2048_S128x512_256_1536),
    piece_tile _ 1 3 rfl _ _ (h 1 3 rfl inb_S512x2048_S128x512_128_1536), piece_tile _ 0 3 rfl _ _ (h 0 3 rfl inb_S512x2048_S128x512_0_1536),
    piece_tile _ 3 2 rfl _ _ (h 3 2 rfl inb_S512x2048_S128x512_384_1024), piece_tile _ 2 2 rfl _ _ (h 2 2 rfl inb_S512x2048_S128x512_256_1024),
    piece_tile _ 1 2 rfl _ _ (h 1 2 rfl inb_S512x2048_S128x512_128_1024), piece_tile _ 0 2 rfl _ _ (h 0 2 rfl inb_S512x2048_S128x512_0_1024),
    piece_tile _ 3 1 rfl _ _ (h 3 1 rfl inb_S512x2048_S128x512_384_512), piece_tile _ 2 1 rfl _ _ (h 2 1 rfl inb_S512x2048_S128x512_256_512),
    piece_tile _ 1 1 rfl _ _ (h 1 1 rfl inb_S512x2048_S128x512_128_512), piece_tile _ 0 1 rfl _ _ (h 0 1 rfl inb_S512x2048_S128x512_0_512),
    piece_tile _ 3 0 rfl _ _ (h 3 0 rfl inb_S512x2048_S128x512_384_0), piece_tile _ 2 0 rfl _ _ (h 2 0 rfl inb_S512x2048_S128x512_256_0),
    piece_tile _ 1 0 rfl _ _ (h 1 0 rfl inb_S512x2048_S128x512_128_0), piece_tile _ 0 0 rfl _ _ (h 0 0 rfl inb_S512x2048_S128x512_0_0)⟩

/-- The scales' block with the four rows of one tile's stripe replaced. -/
def putScale (p : ℕ) (s : Vec F ⟨2, ![4, 2048]⟩ .f32) (y : Vec F S8x2048 .f32) : Vec F S8x2048 .f32 :=
  fun z => if (z 0).val / 4 = p then s (ix2 (Fin.ofNat 4 (z 0).val) (z 1)) else y z

/-- A stored row of scales is the new block's own row. -/
theorem piece_scale {x : Vec F S512x2048 .bf16} {y : Vec F S8x2048 .f32} (p g n : ℕ) (hg : g < 4) {off : Fin 2 → ℕ} (hoff : off = ![4 * p + g, 512 * n])
    (inb : ∀ a, off a + S1x512.size a ≤ S8x2048.size a) (w : Vec F S1x512 .f32)
    (hwv : w = Quant.scale shapes1 (chunk 128 512 x g n)) (z : (Rect.unit (s := S8x2048) off S1x512.size inb).shape.Idx) :
    w z = putScale p (scaleB1 x) y ((Rect.unit (s := S8x2048) off S1x512.size inb).emb z) := by
  subst hoff; subst hwv
  have z0 : (z 0).val < 1 := (z 0).isLt
  have z1 : (z 1).val < 512 := (z 1).isLt
  have b1 : 512 * n + 512 ≤ 2048 := inb 1
  have e0 : (((Rect.unit (s := S8x2048) ![4 * p + g, 512 * n] S1x512.size inb).emb z) 0).val = 4 * p + g := by
    show 4 * p + g + 1 * (z 0).val = _; omega
  have e1 : (((Rect.unit (s := S8x2048) ![4 * p + g, 512 * n] S1x512.size inb).emb z) 1).val = 512 * n + (z 1).val := by
    show 512 * n + 1 * (z 1).val = _; omega
  unfold putScale
  rw [e0, if_pos (by omega)]
  show _ = Quant.scale shapes1 (chunk 128 512 x ((4 * p + g) % 4 / 1) _) _
  rw [show (ix2 (Fin.ofNat 4 (4 * p + g)) (((Rect.unit (s := S8x2048) ![4 * p + g, 512 * n] S1x512.size inb).emb z) 1) : (⟨2, ![4, 2048]⟩ : Shape).Idx) 1 = ((Rect.unit (s := S8x2048) ![4 * p + g, 512 * n] S1x512.size inb).emb z) 1 from rfl, e1]
  rw [show (4 * p + g) % 4 / 1 = g by omega, show (512 * n + (z 1).val) / 512 = n by omega]
  congr 1
  funext a
  match a with
  | ⟨0, _⟩ => apply Fin.ext; show (z 0).val = _ % 1; omega
  | ⟨1, _⟩ => apply Fin.ext; show (z 1).val = (512 * n + (z 1).val) % 512; omega

set_option maxHeartbeats 4000000 in
/-- The scales' buffer reads what it held, with the rows of the tile's stripe replaced by the tile's scales. -/
theorem read_scale1 : arg10.view.read (Elt F) (arg10.view.writes (Elt F) f10 (kernelRun1.sl.H10_16 c i arg2 arg6 f2 f6 hw))
    = putScale ((kernelRun1.sl.r c i arg2 f2).toNat % 2) (scaleB1 (arg6.view.read (Elt F) f6)) (arg10.view.read (Elt F) f10) := by
  have h : ∀ g n {off : Fin 2 → ℕ} (hoff : off = ![128 * g, 512 * n]) (inb), Quant.scale shapes1 (arg6.view.readAt (Elt F) (Rect.unit (s := S512x2048) off ![128, 512] inb).toLoadRect f6) = Quant.scale shapes1 (chunk 128 512 (arg6.view.read (Elt F) f6) g n) :=
    fun g n off hoff inb => congrArg _ (readAt_chunk _ _ g n hoff inb)
  have ho := off_eq (kernelRun1.sl.r c i arg2 f2)
  have hL : ∀ p ∈ kernelRun1.sl.H10_16 c i arg2 arg6 f2 f6 hw, ∀ x : p.1.shape.Idx, p.2 x = putScale ((kernelRun1.sl.r c i arg2 f2).toNat % 2) (scaleB1 (arg6.view.read (Elt F) f6)) (arg10.view.read (Elt F) f10) (p.1.emb x) := by
    unfold kernelRun1.sl.H10_16
    simp only [List.forall_mem_cons, List.not_mem_nil, false_implies, implies_true, and_true]
    exact ⟨piece_scale _ 3 3 (by decide) (ho 3 (by decide)).2.2.2 _ _ (h 3 3 rfl inb_S512x2048_S128x512_384_1536), piece_scale _ 2 3 (by decide) (ho 2 (by decide)).2.2.2 _ _ (h 2 3 rfl inb_S512x2048_S128x512_256_1536),
      piece_scale _ 1 3 (by decide) (ho 1 (by decide)).2.2.2 _ _ (h 1 3 rfl inb_S512x2048_S128x512_128_1536), piece_scale _ 0 3 (by decide) (ho 0 (by decide)).2.2.2 _ _ (h 0 3 rfl inb_S512x2048_S128x512_0_1536),
      piece_scale _ 3 2 (by decide) (ho 3 (by decide)).2.2.1 _ _ (h 3 2 rfl inb_S512x2048_S128x512_384_1024), piece_scale _ 2 2 (by decide) (ho 2 (by decide)).2.2.1 _ _ (h 2 2 rfl inb_S512x2048_S128x512_256_1024),
      piece_scale _ 1 2 (by decide) (ho 1 (by decide)).2.2.1 _ _ (h 1 2 rfl inb_S512x2048_S128x512_128_1024), piece_scale _ 0 2 (by decide) (ho 0 (by decide)).2.2.1 _ _ (h 0 2 rfl inb_S512x2048_S128x512_0_1024),
      piece_scale _ 3 1 (by decide) (ho 3 (by decide)).2.1 _ _ (h 3 1 rfl inb_S512x2048_S128x512_384_512), piece_scale _ 2 1 (by decide) (ho 2 (by decide)).2.1 _ _ (h 2 1 rfl inb_S512x2048_S128x512_256_512),
      piece_scale _ 1 1 (by decide) (ho 1 (by decide)).2.1 _ _ (h 1 1 rfl inb_S512x2048_S128x512_128_512), piece_scale _ 0 1 (by decide) (ho 0 (by decide)).2.1 _ _ (h 0 1 rfl inb_S512x2048_S128x512_0_512),
      piece_scale _ 3 0 (by decide) (ho 3 (by decide)).1 _ _ (h 3 0 rfl inb_S512x2048_S128x512_384_0), piece_scale _ 2 0 (by decide) (ho 2 (by decide)).1 _ _ (h 2 0 rfl inb_S512x2048_S128x512_256_0),
      piece_scale _ 1 0 (by decide) (ho 1 (by decide)).1 _ _ (h 1 0 rfl inb_S512x2048_S128x512_128_0), piece_scale _ 0 0 (by decide) (ho 0 (by decide)).1 _ _ (h 0 0 rfl inb_S512x2048_S128x512_0_0)⟩
  funext y
  by_cases hy : ∃ p ∈ kernelRun1.sl.H10_16 c i arg2 arg6 f2 f6 hw, y ∈ p.1.set
  · exact View.read_writes_apply_of_pieces (v := arg10.view) (f := f10) _ _ hL y hy
  · rw [View.read_writes_apply_of_forall_not_mem (v := arg10.view) (f := f10) y _ (fun p hp hm => hy ⟨p, hp, hm⟩)]
    unfold putScale
    rw [if_neg]
    intro hp
    have hn : ∀ p ∈ kernelRun1.sl.H10_16 c i arg2 arg6 f2 f6 hw, y ∉ p.1.set := fun p hp hm => hy ⟨p, hp, hm⟩
    have m : ∀ g n {off : Fin 2 → ℕ} (hoff : off = ![4 * ((kernelRun1.sl.r c i arg2 f2).toNat % 2) + g, 512 * n]) (inb), (y 0).val % 4 = g → (y 1).val / 512 = n → y ∈ (Rect.unit (s := S8x2048) off S1x512.size inb).set := by
      intro g n off hoff inb hg hnn
      subst hoff
      rw [Rect.mem_set_unit]
      intro a
      match a with
      | ⟨0, _⟩ => show 4 * ((kernelRun1.sl.r c i arg2 f2).toNat % 2) + g ≤ (y 0).val ∧ (y 0).val < 4 * ((kernelRun1.sl.r c i arg2 f2).toNat % 2) + g + 1; omega
      | ⟨1, _⟩ => show 512 * n ≤ (y 1).val ∧ (y 1).val < 512 * n + 512; omega
    unfold kernelRun1.sl.H10_16 at hn
    simp only [List.forall_mem_cons, List.not_mem_nil, false_implies, implies_true, and_true] at hn
    obtain ⟨n33, n23, n13, n03, n32, n22, n12, n02, n31, n21, n11, n01, n30, n20, n10, n00⟩ := hn
    have hg : (y 0).val % 4 < 4 := Nat.mod_lt _ (by decide)
    have hq : (y 1).val / 512 < 4 := Nat.div_lt_of_lt_mul (y 1).isLt
    generalize hgv : (y 0).val % 4 = gv at hg
    generalize hqv : (y 1).val / 512 = qv at hq
    interval_cases qv <;> interval_cases gv
    · exact n00 (m 0 0 (ho 0 (by decide)).1 _ hgv hqv)
    · exact n10 (m 1 0 (ho 1 (by decide)).1 _ hgv hqv)
    · exact n20 (m 2 0 (ho 2 (by decide)).1 _ hgv hqv)
    · exact n30 (m 3 0 (ho 3 (by decide)).1 _ hgv hqv)
    · exact n01 (m 0 1 (ho 0 (by decide)).2.1 _ hgv hqv)
    · exact n11 (m 1 1 (ho 1 (by decide)).2.1 _ hgv hqv)
    · exact n21 (m 2 1 (ho 2 (by decide)).2.1 _ hgv hqv)
    · exact n31 (m 3 1 (ho 3 (by decide)).2.1 _ hgv hqv)
    · exact n02 (m 0 2 (ho 0 (by decide)).2.2.1 _ hgv hqv)
    · exact n12 (m 1 2 (ho 1 (by decide)).2.2.1 _ hgv hqv)
    · exact n22 (m 2 2 (ho 2 (by decide)).2.2.1 _ hgv hqv)
    · exact n32 (m 3 2 (ho 3 (by decide)).2.2.1 _ hgv hqv)
    · exact n03 (m 0 3 (ho 0 (by decide)).2.2.2 _ hgv hqv)
    · exact n13 (m 1 3 (ho 1 (by decide)).2.2.2 _ hgv hqv)
    · exact n23 (m 2 3 (ho 2 (by decide)).2.2.2 _ hgv hqv)
    · exact n33 (m 3 3 (ho 3 (by decide)).2.2.2 _ hgv hqv)

/-- The output's block before the product is added: zeros where a new expert begins, else what it held. -/
def baseB (b : BitVec 1) (y : Vec F S1x1792x2048 .f32) : Vec F S1x1792x2048 .f32 := if b = 1#1 then k1_pay6 else y

/-- The output's block after the body, from what it held: the product added where the item has rows. -/
def stepB (z b : BitVec 1) (lo hi : BitVec 32) (x : Vec F S512x2048 .bf16) (d : Vec F S1792x512 .bf16) (y : Vec F S1x1792x2048 .f32) : Vec F S1x1792x2048 .f32 :=
  if b = 1#1 then accB (baseB z y) d (maskB lo hi x) else baseB z y

/-- The masked tile read back by columns. -/
theorem readCov_mask1 (n : ℕ) {off : Fin 2 → ℕ} (hoff : off = ![512 * 0, 512 * n]) (inb) :
    arg11.view.readCov (kernelRun1.sl.H11_16 c i arg4 arg5 arg6 f4 f5 f6) (Rect.unit (s := S512x2048) off ![512, 512] inb).toLoadRect
      = chunk 512 512 (maskB (kernelRun1.sl.r_1 c i arg4 f4) (kernelRun1.sl.r_2 c i arg5 f5) (arg6.view.read (Elt F) f6)) 0 n := by
  rw [← read_pieces arg11.view arg11.view.junk _ _ S128x512.size (by sl_kernel_rfl) (pieces_mask1 c i arg4 arg5 arg6 f4 f5 f6)]
  exact readAt_chunk _ _ 0 n hoff inb

/-- The columns of a block read by a load. -/
theorem readAt_cols3 (v : View sig .tc .vmem S1x1792x2048 .f32) (f : v.ty.Contents (Elt F)) (n : ℕ) {off : Fin 3 → ℕ} (hoff : off = ![0, 0, 512 * n])
    (inb : ∀ a, off a + ![1, 1792, 512] a ≤ S1x1792x2048.size a) :
    v.readAt (Elt F) (Rect.unit (s := S1x1792x2048) off ![1, 1792, 512] inb).toLoadRect f = cols3 (v.read (Elt F) f) n := by
  subst hoff
  funext z
  show v.read (Elt F) f _ = v.read (Elt F) f _
  congr 1
  have h2 : 512 * n + 512 ≤ 2048 := inb 2
  have z2 : (z 2).val < 512 := (z 2).isLt
  funext a
  match a with
  | ⟨0, _⟩ => apply Fin.ext; show 0 + 1 * (z 0).val = (z 0).val; omega
  | ⟨1, _⟩ => apply Fin.ext; show 0 + 1 * (z 1).val = (z 1).val; omega
  | ⟨2, _⟩ =>
    apply Fin.ext
    show 512 * n + 1 * (z 2).val = (512 * n + (z 2).val) % 2048
    omega

/-- A stored quarter of the output's block is the new block's own quarter. -/
theorem piece_acc (y : Vec F S1x1792x2048 .f32) (d : Vec F S1792x512 .bf16) (w : Vec F S512x2048 .bf16) (n : ℕ) {off : Fin 3 → ℕ} (hoff : off = ![0, 0, 512 * n])
    (inb : ∀ a, off a + ![1, 1792, 512] a ≤ S1x1792x2048.size a) (p : Vec F S1x1792x512 .f32) (hp : p = k1_pay3 (cols3 y n) d (chunk 512 512 w 0 n))
    (x : (Rect.unit (s := S1x1792x2048) off ![1, 1792, 512] inb).shape.Idx) :
    p x = accB y d w ((Rect.unit (s := S1x1792x2048) off ![1, 1792, 512] inb).emb x) := by
  subst hoff; subst hp
  have x2 : (x 2).val < 512 := (x 2).isLt
  have e2 : (((Rect.unit (s := S1x1792x2048) ![0, 0, 512 * n] ![1, 1792, 512] inb).emb x) 2).val = 512 * n + (x 2).val := by
    show 512 * n + 1 * (x 2).val = _; omega
  unfold accB
  rw [e2, show (512 * n + (x 2).val) / 512 = n by omega]
  congr 1
  funext a
  match a with
  | ⟨0, _⟩ => apply Fin.ext; show (x 0).val = 0 + 1 * (x 0).val; omega
  | ⟨1, _⟩ => apply Fin.ext; show (x 1).val = 0 + 1 * (x 1).val; omega
  | ⟨2, _⟩ => apply Fin.ext; show (x 2).val = (512 * n + (x 2).val) % 512; omega

set_option maxHeartbeats 4000000 in
/-- The output's buffer reads its next block. -/
theorem read_dw1 : arg8.view.read (Elt F) (kernelRun1 c i arg2 harg2 arg3 harg3 arg4 harg4 arg5 harg5 arg6 harg6 arg7 harg7 arg8 harg8 arg9 harg9 arg10 harg10 arg11 harg11 f2 f3 f4 f5 f6 f7 f8 f9 f10 f11 hw).1
    = stepB (k1_cond1 i (kernelRun1.sl.r_3 c i arg3 f3) (kernelRun1.sl.r_4 c i arg3 f3)) (k1_cond2 (kernelRun1.sl.r_1 c i arg4 f4) (kernelRun1.sl.r_2 c i arg5 f5))
        (kernelRun1.sl.r_1 c i arg4 f4) (kernelRun1.sl.r_2 c i arg5 f5) (arg6.view.read (Elt F) f6) (arg7.view.read (Elt F) f7) (arg8.view.read (Elt F) f8) := by
  dsimp only [kernelRun1]
  have hb : arg8.view.read (Elt F) (if hc : k1_cond1 i (kernelRun1.sl.r_3 c i arg3 f3) (kernelRun1.sl.r_4 c i arg3 f3) = 1#1 then
        arg8.view.writes (Elt F) f8 [⟨Rect.unit ![0, 0, 0] S1x1792x2048.size inb_S1x1792x2048_S1x1792x2048_0_0_0, k1_pay6⟩] else f8)
      = baseB (k1_cond1 i (kernelRun1.sl.r_3 c i arg3 f3) (kernelRun1.sl.r_4 c i arg3 f3)) (arg8.view.read (Elt F) f8) := by
    unfold baseB
    split
    · exact View.read_writes_full _ _ _ _ []
    · rfl
  unfold stepB
  split
  · have hd : arg7.view.readAt (Elt F) (Rect.unit ![0, 0] S1792x512.size inb_S1792x512_S1792x512_0_0).toLoadRect f7 = arg7.view.read (Elt F) f7 :=
      View.readAt_full _ _ _
    have h : ∀ n {off : Fin 3 → ℕ} (hoff : off = ![0, 0, 512 * n]) (inb) {off' : Fin 2 → ℕ} (hoff' : off' = ![512 * 0, 512 * n]) (inb'),
        k1_pay3 (arg8.view.readAt (Elt F) (Rect.unit (s := S1x1792x2048) off ![1, 1792, 512] inb).toLoadRect (if hc : k1_cond1 i (kernelRun1.sl.r_3 c i arg3 f3) (kernelRun1.sl.r_4 c i arg3 f3) = 1#1 then
            arg8.view.writes (Elt F) f8 [⟨Rect.unit ![0, 0, 0] S1x1792x2048.size inb_S1x1792x2048_S1x1792x2048_0_0_0, k1_pay6⟩] else f8))
          (arg7.view.readAt (Elt F) (Rect.unit ![0, 0] S1792x512.size inb_S1792x512_S1792x512_0_0).toLoadRect f7)
          (arg11.view.readCov (kernelRun1.sl.H11_16 c i arg4 arg5 arg6 f4 f5 f6) (Rect.unit (s := S512x2048) off' ![512, 512] inb').toLoadRect)
        = k1_pay3 (cols3 (baseB (k1_cond1 i (kernelRun1.sl.r_3 c i arg3 f3) (kernelRun1.sl.r_4 c i arg3 f3)) (arg8.view.read (Elt F) f8)) n) (arg7.view.read (Elt F) f7)
          (chunk 512 512 (maskB (kernelRun1.sl.r_1 c i arg4 f4) (kernelRun1.sl.r_2 c i arg5 f5) (arg6.view.read (Elt F) f6)) 0 n) := by
      intro n off hoff inb off' hoff' inb'
      rw [readAt_cols3 _ _ n hoff inb, hb, hd, readCov_mask1 c i arg4 arg5 arg6 arg11 f4 f5 f6 n hoff' inb']
    refine read_pieces _ _ _ _ S1x1792x512.size (by sl_kernel_rfl) ?_
    simp only [List.forall_mem_cons, List.not_mem_nil, false_implies, implies_true, and_true]
    exact ⟨piece_acc _ _ _ 3 rfl _ _ (h 3 rfl inb_S1x1792x2048_S1x1792x512_0_0_1536 rfl inb_S512x2048_S512x512_0_1536),
      piece_acc _ _ _ 2 rfl _ _ (h 2 rfl inb_S1x1792x2048_S1x1792x512_0_0_1024 rfl inb_S512x2048_S512x512_0_1024),
      piece_acc _ _ _ 1 rfl _ _ (h 1 rfl inb_S1x1792x2048_S1x1792x512_0_0_512 rfl inb_S512x2048_S512x512_0_512),
      piece_acc _ _ _ 0 rfl _ _ (h 0 rfl inb_S1x1792x2048_S1x1792x512_0_0_0 rfl inb_S512x2048_S512x512_0_0)⟩
  · exact hb

end Cert.Kernel.Work

end
-- ==== Proof.K.Region1.lean ====
/-
  The second kernel call (`wgrad`) as relational proof data: what its body may leave in each output's buffer at each point.
-/
module

public import proofs.«01_k».proof.Proof.K.Read1
public import proofs.«01_k».proof.Proof.Gen.Kernel.Launch
public import Idealize.ShloMosaic.Lib.Pipeline.Frame
public import Idealize.ShloMosaic.Lib.Pipeline.FrameBody
public import Idealize.ShloMosaic.Lib.Pipeline.Regions

@[expose] public section

set_option maxRecDepth 16384

noncomputable section

namespace Cert.Kernel.Work

open Cert.Kernel.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat RDat Cfg Window cellOf)

variable (W : Dev nD → Valuation τ sig (Elt F)) (a : (pcfg1 (F := F)).Adm)

/-- Item `i`'s entry of a work list. -/
def word (f : Vec F S36 .i32) (i : ℕ) : BitVec 32 := f (ValueIdx.ix1 (Fin.ofNat 36 i))

/-- The place in the work list that a point's scalar loads read. -/
theorem off1_eq (i : grid1.Coords) : k1_off1 i = ![(i 1).val] := by
  have h : (i 1).val < 36 := (i 1).isLt
  generalize hj : (i 1).val = j at h
  unfold k1_off1
  rw [hj]
  interval_cases j <;> rfl

/-- The place of the item before it (the first item's own place at the first item). -/
theorem off2_eq (i : grid1.Coords) : k1_off2 i = ![(i 1).val - 1] := by
  have h : (i 1).val < 36 := (i 1).isLt
  generalize hj : (i 1).val = j at h
  unfold k1_off2
  rw [hj]
  interval_cases j <;> rfl

/-- A scalar load from a whole work list reads its entry. -/
theorem load_word (b : Memref sig .tc .smem S36 .i32) (f : b.view.ty.Contents (Elt F)) (off : Fin 1 → ℕ) (n : ℕ) (hn : n < 36) (hoff : off = ![n])
    (inb : ∀ a, off a + S1.size a ≤ S36.size a) (h1) :
    View.readAt (Elt F) b.view (Rect.unit (s := S36) off S1.size inb).toLoadRect f (Shape.Idx.first h1) = word (b.view.read (Elt F) f) n := by
  subst hoff
  unfold word
  show b.view.read (Elt F) f _ = _
  congr 1
  funext d
  match d with
  | ⟨0, _⟩ => apply Fin.ext; show n + 1 * _ = n % 36; rw [Nat.mod_eq_of_lt hn]; have : ((Shape.Idx.first h1 : (S1).Idx) 0).val < 1 := ((Shape.Idx.first h1 : (S1).Idx) 0).isLt; show n + 1 * ((Shape.Idx.first h1 : (S1).Idx) 0).val = n; omega

/-- The item of point `t`. -/
abbrev item (t : Fin grid1.N) : ℕ := (grid1.coords t 1).val
/-- The column block of point `t`. -/
abbrev colb (t : Fin grid1.N) : ℕ := (grid1.coords t 0).val

/-- The four work lists. -/
abbrev tileL (pf : pre1.Contents (Elt F)) : Vec F S36 .i32 := pf 0
/-- The list of the items' experts. -/
abbrev expertL (pf : pre1.Contents (Elt F)) : Vec F S36 .i32 := pf 1
/-- The list of the lower ends of the items' row ranges. -/
abbrev loL (pf : pre1.Contents (Elt F)) : Vec F S36 .i32 := pf 2
/-- The list of the upper ends of the items' row ranges. -/
abbrev hiL (pf : pre1.Contents (Elt F)) : Vec F S36 .i32 := pf 3

/-- Whether a point starts an expert's sum. -/
def starts (pf : pre1.Contents (Elt F)) (t : Fin grid1.N) : BitVec 1 :=
  k1_cond1 (grid1.coords t) (word (expertL pf) (item t)) (word (expertL pf) (item t - 1))

/-- Whether a point has rows of its tile to add. -/
def adds (pf : pre1.Contents (Elt F)) (t : Fin grid1.N) : BitVec 1 := k1_cond2 (word (loL pf) (item t)) (word (hiL pf) (item t))

/-- Window `w`'s block at point `t` of the second kernel call, read off the array as the call finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

/-- The tile of `x` at point `t`. -/
abbrev xblk (c : Dev nD) (t : Fin (cfg1 a).N) : Vec F S512x2048 .bf16 := iblk1 W a c 0 t
/-- The tile of the transposed dequantised `dy` at point `t`. -/
abbrev yblk (c : Dev nD) (t : Fin (cfg1 a).N) : Vec F S1792x512 .bf16 := iblk1 W a c 1 t

/-- The proof data of the second kernel call: the arrays and tables as the call finds them; the inputs' buffers kept, the sum's
    buffer stepped, the codes' filled, and the tile's rows of the scales' replaced. -/
def rd1 (c : Dev nD) : RDat τ (Elt F) Unit ℕ (UR sig nD τ) ℕ (cfg1 a) c where
  A w := W c (Proc.devRef .tc (Pipeline.arrRef spec1 w))
  after w t := match w with
    | ⟨0, _⟩ => fun Y X => X = Y
    | ⟨1, _⟩ => fun Y X => X = Y
    | ⟨2, _⟩ => fun Y X => X = stepB (F := F) (starts a.1 t) (adds a.1 t) (word (loL a.1) (item t)) (word (hiL a.1) (item t)) (xblk W a c t) (yblk W a c t) Y
    | ⟨3, _⟩ => fun _ X => X = codesB1 (F := F) (xblk W a c t)
    | ⟨4, _⟩ => fun Y X => X = putScale (F := F) ((word (tileL a.1) (item t)).toNat % 2) (scaleB1 (F := F) (xblk W a c t)) Y
  Φ _ := iprop(Pipeline.ΦA spec1 c ∗ Pipeline.prefHeld pre1 c (fun _ => fullShare) a.1)
  q _ := fullShare
  owed _ := 0

/-- The second call's arrays before it. -/
theorem rd1_A (c : Dev nD) (w : Fin (cfg1 a).W) : (rd1 W a c).A w = W c (Proc.devRef .tc (Pipeline.arrRef spec1 w)) := by dsimp only [rd1]
/-- The body leaves the block of `x` as it was. -/
theorem rd1_0 (c : Dev nD) (t) (Y X) : (rd1 W a c).after 0 t Y X = (X = Y) := rfl
/-- The body leaves the block of the transposed `dy` as it was. -/
theorem rd1_1 (c : Dev nD) (t) (Y X) : (rd1 W a c).after 1 t Y X = (X = Y) := rfl
/-- What the body leaves in the gradient's block. -/
theorem rd1_2 (c : Dev nD) (t) (Y X) : (rd1 W a c).after 2 t Y X = (X = stepB (F := F) (starts a.1 t) (adds a.1 t) (word (loL a.1) (item t)) (word (hiL a.1) (item t)) (xblk W a c t) (yblk W a c t) Y) := rfl
/-- What the body leaves in the codes' block. -/
theorem rd1_3 (c : Dev nD) (t) (Y X) : (rd1 W a c).after 3 t Y X = (X = codesB1 (F := F) (xblk W a c t)) := rfl
/-- What the body leaves in the scales' block. -/
theorem rd1_4 (c : Dev nD) (t) (Y X) : (rd1 W a c).after 4 t Y X = (X = putScale (F := F) ((word (tileL a.1) (item t)).toNat % 2) (scaleB1 (F := F) (xblk W a c t)) Y) := rfl

/-- The buffer of `x` holds the tile at every point. -/
theorem finds0 (c : Dev nD) (t) (Y) (h : (rd1 W a c).Finds 0 t Y) : Y = xblk W a c t := by
  obtain ⟨d, rfl⟩ := (rd1 W a c).finds_in_eq_fetched 0 rfl (fun _ _ _ => rfl) (fun t Y X h => by rw [rd1_0] at h; exact h) t Y h
  unfold RDat.fetched RDat.blockOf xblk iblk1; rw [rd1_A]; try rfl
/-- The buffer of the transposed `dy` holds the tile at every point. -/
theorem finds1 (c : Dev nD) (t) (Y) (h : (rd1 W a c).Finds 1 t Y) : Y = yblk W a c t := by
  obtain ⟨d, rfl⟩ := (rd1 W a c).finds_in_eq_fetched 1 rfl (fun _ _ _ => rfl) (fun t Y X h => by rw [rd1_1] at h; exact h) t Y h
  unfold RDat.fetched RDat.blockOf yblk iblk1; rw [rd1_A]; try rfl

/-- The second call's body at point `t`, as the pipeline calls it. -/
abbrev bodyAt1 (t : Fin (cfg1 a).N) : Prog (TpuEff nD τ sig (Elt F) Λ₀ .tc) PUnit :=
  cc1_wgrad (grid1.coords t) (Memref.whole main_v53) (Memref.isWhole_whole _) (Memref.whole main_v27) (Memref.isWhole_whole _) (Memref.whole main_v64) (Memref.isWhole_whole _) (Memref.whole main_v76) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1))
    (spec1_2.stage ((cfg1 a).slots t 2)) (hstage1_2 (((cfg1 a).slots t 2).cast nbuf1_2)) (spec1_3.stage ((cfg1 a).slots t 3)) (hstage1_3 (((cfg1 a).slots t 3).cast nbuf1_3))
    (spec1_4.stage ((cfg1 a).slots t 4)) (hstage1_4 (((cfg1 a).slots t 4).cast nbuf1_4)) (Memref.whole cc1_scratch0) (Memref.isWhole_whole _)

/-- The body table's row for the second call at a point's slots is the body there. -/
theorem row1 (t : Fin (cfg1 a).N) : defs₀ (F := F) .tc (cfg1 a).body ((cfg1 a).bodyArgs t ((cfg1 a).slots t)) = bodyAt1 a t := by
  unfold defs₀; rw [Defs.onTc_tc]

/-- The work lists' four buffers, one by one. -/
theorem pref1_eq (c : Dev nD) (pf : pre1.Contents (Elt F)) :
    (Pipeline.prefHeld pre1 c (fun _ => fullShare) pf : sProp 𝕄)
      = iprop((((c : Thread nD τ).loc main_v53) ↦{fullShare} pf 0) ∗ (((c : Thread nD τ).loc main_v27) ↦{fullShare} pf 1)
        ∗ (((c : Thread nD τ).loc main_v64) ↦{fullShare} pf 2) ∗ (((c : Thread nD τ).loc main_v76) ↦{fullShare} pf 3)) := by
  unfold Pipeline.prefHeld
  exact bigSep_univ_eq_bigSepL [(0 : Fin 4), (1 : Fin 4), (2 : Fin 4), (3 : Fin 4)] (by decide) (by decide) _

/-- A whole buffer held is its whole memref's view held. -/
theorem whole_loc (c : Dev nD) (b : Ref sig .tc) (f : b.ty.Contents (Elt F)) :
    ((((c : Thread nD τ).loc b) ↦{fullShare} f) : sProp 𝕄) = ((Memref.whole b).view.loc (c : Thread nD τ) ↦[(Memref.whole b).view.set]{fullShare} f) := by
  simp only [Memref.view_whole, View.set_whole]

set_option maxHeartbeats 4000000 in
/-- The second call's body at any point. -/
theorem sound1 (c : Dev nD) (t : Fin (cfg1 a).N) (Y : (w : Fin (cfg1 a).W) → ((cfg1 a).win w).block.Idx → Elt F ((cfg1 a).win w).elt)
    (hx : Y 0 = xblk W a c t) (hy : Y 1 = yblk W a c t) :
    iprop((rd1 W a c).Φ t.castSucc ∗ (rd1 W a c).owesAt () t.castSucc
      ∗ owns (c : Thread nD τ) (spec1_0.stage ((cfg1 a).slots t 0)) fullShare (Y 0)
      ∗ owns (c : Thread nD τ) (spec1_1.stage ((cfg1 a).slots t 1)) fullShare (Y 1)
      ∗ owns (c : Thread nD τ) (spec1_2.stage ((cfg1 a).slots t 2)) fullShare (Y 2)
      ∗ owns (c : Thread nD τ) (spec1_3.stage ((cfg1 a).slots t 3)) fullShare (Y 3)
      ∗ owns (c : Thread nD τ) (spec1_4.stage ((cfg1 a).slots t 4)) fullShare (Y 4))
    ⊢ wp frame (wpE (defs₀ (F := F)) Variants.none c none) Set.univ (bodyAt1 a t) (fun _ =>
      iprop((rd1 W a c).Φ t.succ ∗ (rd1 W a c).owesAt () t.succ
        ∗ (∃ X, ⌜(rd1 W a c).after 0 t (Y 0) X⌝ ∗ owns (c : Thread nD τ) (spec1_0.stage ((cfg1 a).slots t 0)) fullShare X)
        ∗ (∃ X, ⌜(rd1 W a c).after 1 t (Y 1) X⌝ ∗ owns (c : Thread nD τ) (spec1_1.stage ((cfg1 a).slots t 1)) fullShare X)
        ∗ (∃ X, ⌜(rd1 W a c).after 2 t (Y 2) X⌝ ∗ owns (c : Thread nD τ) (spec1_2.stage ((cfg1 a).slots t 2)) fullShare X)
        ∗ (∃ X, ⌜(rd1 W a c).after 3 t (Y 3) X⌝ ∗ owns (c : Thread nD τ) (spec1_3.stage ((cfg1 a).slots t 3)) fullShare X)
        ∗ (∃ X, ⌜(rd1 W a c).after 4 t (Y 4) X⌝ ∗ owns (c : Thread nD τ) (spec1_4.stage ((cfg1 a).slots t 4)) fullShare X))) := by
  rw [show (rd1 W a c).Φ t.succ = (rd1 W a c).Φ t.castSucc from rfl,
    show (rd1 W a c).owesAt () t.succ = (rd1 W a c).owesAt () t.castSucc from rfl,
    show (rd1 W a c).Φ t.castSucc = iprop(Pipeline.ΦA spec1 c ∗ Pipeline.prefHeld pre1 c (fun _ => fullShare) a.1) from rfl]
  unfold bodyAt1 owns Pipeline.ΦA
  simp only [rd1_0, rd1_1, rd1_2, rd1_3, rd1_4]
  rw [scopedRest1_eq, pref1_eq]
  simp only [whole_loc]
  iintro ⟨⟨⟨⟨A0, A1, A2, A3, A4, A5, A6, A7, ⟨%fs, HS⟩⟩, Hp⟩, ⟨T0, T1, T2, T3⟩⟩, Ho, ⟨%f0, %h0, H0⟩, ⟨%f1, %h1, H1⟩, ⟨%f2, %h2, H2⟩, ⟨%f3, %h3, H3⟩, ⟨%f4, %h4, H4⟩⟩
  iapply ((kernelRun1 c (grid1.coords t) (Memref.whole main_v53) (Memref.isWhole_whole _) (Memref.whole main_v27) (Memref.isWhole_whole _) (Memref.whole main_v64) (Memref.isWhole_whole _) (Memref.whole main_v76) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1))
    (spec1_2.stage ((cfg1 a).slots t 2)) (hstage1_2 (((cfg1 a).slots t 2).cast nbuf1_2)) (spec1_3.stage ((cfg1 a).slots t 3)) (hstage1_3 (((cfg1 a).slots t 3).cast nbuf1_3))
    (spec1_4.stage ((cfg1 a).slots t 4)) (hstage1_4 (((cfg1 a).slots t 4).cast nbuf1_4)) (Memref.whole cc1_scratch0) (Memref.isWhole_whole _)
    (a.1 0) (a.1 1) (a.1 2) (a.1 3) f0 f1 f2 f3 f4 fs chk1).2.2.2.2 Set.univ _)
  isplitl [T0]; · iexact T0
  isplitl [T1]; · iexact T1
  isplitl [T2]; · iexact T2
  isplitl [T3]; · iexact T3
  isplitl [H0]; · iexact H0
  isplitl [H1]; · iexact H1
  isplitl [H2]; · iexact H2
  isplitl [H3]; · iexact H3
  isplitl [H4]; · iexact H4
  isplitl [HS]; · iexact HS
  iintro ⟨T0, T1, T2, T3, H0, H1, H2, H3, H4, HS⟩
  isplitl [A0 A1 A2 A3 A4 A5 A6 A7 HS Hp T0 T1 T2 T3]
  · isplitl [A0 A1 A2 A3 A4 A5 A6 A7 HS Hp]
    · isplitl [A0 A1 A2 A3 A4 A5 A6 A7 HS]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        iexists _; iexact HS
      iexact Hp
    isplitl [T0]; · iexact T0
    isplitl [T1]; · iexact T1
    isplitl [T2]; · iexact T2
    iexact T3
  isplitl [Ho]; · iexact Ho
  have w1 : kernelRun1.sl.r c (grid1.coords t) (Memref.whole main_v53) (a.1 0) = word (tileL a.1) (item t) :=
    load_word (Memref.whole main_v53) (a.1 0) _ _ (grid1.coords t 1).isLt (off1_eq _) _ _
  have w2 : kernelRun1.sl.r_1 c (grid1.coords t) (Memref.whole main_v64) (a.1 2) = word (loL a.1) (item t) :=
    load_word (Memref.whole main_v64) (a.1 2) _ _ (grid1.coords t 1).isLt (off1_eq _) _ _
  have w3 : kernelRun1.sl.r_2 c (grid1.coords t) (Memref.whole main_v76) (a.1 3) = word (hiL a.1) (item t) :=
    load_word (Memref.whole main_v76) (a.1 3) _ _ (grid1.coords t 1).isLt (off1_eq _) _ _
  have w4 : kernelRun1.sl.r_3 c (grid1.coords t) (Memref.whole main_v27) (a.1 1) = word (expertL a.1) (item t) :=
    load_word (Memref.whole main_v27) (a.1 1) _ _ (grid1.coords t 1).isLt (off1_eq _) _ _
  have w5 : kernelRun1.sl.r_4 c (grid1.coords t) (Memref.whole main_v27) (a.1 1) = word (expertL a.1) (item t - 1) :=
    load_word (Memref.whole main_v27) (a.1 1) _ _ (lt_of_le_of_lt (Nat.sub_le _ _) (grid1.coords t 1).isLt) (off2_eq _) _ _
  isplitl [H0]
  · iexists _; isplitr
    · ipureintro; exact rfl
    iexists _; isplitr
    swap; · iexact H0
    ipureintro; exact h0
  isplitl [H1]
  · iexists _; isplitr
    · ipureintro; exact rfl
    iexists _; isplitr
    swap; · iexact H1
    ipureintro; exact h1
  isplitl [H2]
  · iexists _; isplitr
    · ipureintro; exact rfl
    iexists _; isplitr
    swap; · iexact H2
    ipureintro
    refine (read_dw1 ..).trans ?_
    rw [w2, w3, w4, w5, h0, h1, h2, hx, hy]; rfl
  isplitl [H3]
  · iexists _; isplitr
    · ipureintro; exact rfl
    iexists _; isplitr
    swap; · iexact H3
    ipureintro
    refine (read_codes1 ..).trans ?_
    rw [h0, hx]
  iexists _; isplitr
  · ipureintro; exact rfl
  iexists _; isplitr
  swap; · iexact H4
  ipureintro
  refine (read_scale1 (hw := chk1) ..).trans ?_
  rw [w1, h0, h4, hx]

/-- The second call's body obligation, at every point. -/
theorem body1 (c : Dev nD) : (rd1 (F := F) W a c).BodyObligation (defs₀ (F := F)) Variants.none () Set.univ := fun t Y hY => by
  rw [bigSep_W1, bigSep_W1, row1]
  exact triple_restated (sound1 W a c t Y (finds0 W a c t _ (hY 0)) (finds1 W a c t _ (hY 1))) rfl .rfl fun _ => .rfl

end Cert.Kernel.Work

end
-- ==== Proof.K.Body0.lean ====
/-
  The body of the `dy_quant` kernel, run on whole staging memrefs: what its stores leave in each buffer.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Work

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body of `dy_quant` at any point, from its four buffers at any contents: it leaves the input alone and the three outputs at the contents named here. -/
noncomputable def kernelRun0 (c : Dev nD) (i : grid0.Coords)
    (arg1 : Memref sig .tc .vmem S1024x1792 .bf16) (harg1 : arg1.IsWhole) (arg2 : Memref sig .tc .vmem S1024x1792 .fp8e4m3) (harg2 : arg2.IsWhole) (arg3 : Memref sig .tc .vmem S8x1792 .f32) (harg3 : arg3.IsWhole) (arg4 : Memref sig .tc .vmem S1792x1024 .bf16) (harg4 : arg4.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) :
    Σ' (g2 : Buf (Elt F) (arg2.view.loc (c : Thread nD τ))), Σ' (g3 : Buf (Elt F) (arg3.view.loc (c : Thread nD τ))), { g4 : Buf (Elt F) (arg4.view.loc (c : Thread nD τ)) //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (iprop((arg1.view.loc (c : Thread nD τ) ↦[arg1.view.set]{fullShare} f1) ∗ (arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4)) -∗ K ⟨⟩))
          ⊢ wp frame (wpE (defs₀ (F := F)) Variants.none c none) E (cc0_dy_quant i arg1 harg1 arg2 harg2 arg3 harg3 arg4 harg4) K } := by
  refine ⟨?_, ?_, ?_, fun E K => ?run⟩
  case run =>
    simp only [cc0_dy_quant_eq_skeleton]; unfold cc0_dy_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨H1, H2, H3, H4, Hk⟩
    sl_exec
    sl_step
    iapply Hk
    isplitl [H1]; · iexact H1
    isplitl [H2]; · iexact H2
    isplitl [H3]; · iexact H3
    iexact H4

end Cert.Kernel.Work

end
-- ==== Proof.K.Read0.lean ====
/-
  What the body of `dy_quant` leaves in its three output buffers, as blocks made of the eight groups it quantises.
-/
module

public import proofs.«01_k».proof.Proof.K.Body0
public import proofs.«01_k».proof.Proof.Quant

@[expose] public section

set_option maxRecDepth 16384

noncomputable section

namespace Cert.Kernel.Work

open Cert.Kernel.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The shape facts of a group of 1792 columns. -/
theorem shapes0 : Quant.Shapes 1792 where
  same := shapeCasts_S128x1792_S128x1792
  split := shapeCasts_S128x1792_S8x16x1792
  red8 := reduces_S8x16x1792_S16x1792
  red16 := reduces_S16x1792_S1792
  row := shapeCasts_S1792_S1x1792
  iota := iota_S255x1792_d0_w32
  bc255 := broadcasts_S1x1792_S255x1792
  red255 := reduces_S255x1792_S1792
  bc128 := broadcasts_S1x1792_S128x1792

/-- The codes of a block: each group's own. -/
def codesB0 (x : Vec F S1024x1792 .bf16) : Vec F S1024x1792 .fp8e4m3 :=
  tile 1024 1792 (r := 128) (c := 1792) fun g n => Quant.codes shapes0 (chunk 128 1792 x g n)

/-- The scales of a block: one row per group. -/
def scaleB0 (x : Vec F S1024x1792 .bf16) : Vec F S8x1792 .f32 :=
  tile 8 1792 (r := 1) (c := 1792) fun g n => Quant.scale shapes0 (chunk 128 1792 x g n)

/-- The dequantised block, transposed. -/
def dytB0 (x : Vec F S1024x1792 .bf16) : Vec F S1792x1024 .bf16 :=
  tile 1792 1024 (r := 1792) (c := 128) fun n g => transpose S1792x128 [1, 0] (Quant.deq shapes0 (chunk 128 1792 x g n)) transposes_S128x1792_p1_0_S1792x128

variable (c : Dev nD) (i : grid0.Coords)
    (arg1 : Memref sig .tc .vmem S1024x1792 .bf16) (harg1 : arg1.IsWhole) (arg2 : Memref sig .tc .vmem S1024x1792 .fp8e4m3) (harg2 : arg2.IsWhole) (arg3 : Memref sig .tc .vmem S8x1792 .f32) (harg3 : arg3.IsWhole) (arg4 : Memref sig .tc .vmem S1792x1024 .bf16) (harg4 : arg4.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))

set_option maxHeartbeats 4000000 in
/-- The codes' buffer reads the codes of the input's block. -/
theorem read_codes0 : arg2.view.read (Elt F) (kernelRun0 c i arg1 harg1 arg2 harg2 arg3 harg3 arg4 harg4 f1 f2 f3 f4).1 = codesB0 (arg1.view.read (Elt F) f1) := by
  dsimp only [kernelRun0]
  refine read_pieces _ _ _ _ S128x1792.size (by sl_kernel_rfl) ?_
  have h : ∀ g n {off : Fin 2 → ℕ} (hoff : off = ![128 * g, 1792 * n]) (inb), Quant.codes shapes0 (arg1.view.readAt (Elt F) (Rect.unit (s := S1024x1792) off ![128, 1792] inb).toLoadRect f1) = Quant.codes shapes0 (chunk 128 1792 (arg1.view.read (Elt F) f1) g n) :=
    fun g n off hoff inb => congrArg _ (readAt_chunk _ _ g n hoff inb)
  simp only [List.forall_mem_cons, List.not_mem_nil, false_implies, implies_true, and_true]
  exact ⟨piece_tile _ 7 0 rfl _ _ (h 7 0 rfl inb_S1024x1792_S128x1792_896_0), piece_tile _ 6 0 rfl _ _ (h 6 0 rfl inb_S1024x1792_S128x1792_768_0),
    piece_tile _ 5 0 rfl _ _ (h 5 0 rfl inb_S1024x1792_S128x1792_640_0), piece_tile _ 4 0 rfl _ _ (h 4 0 rfl inb_S1024x1792_S128x1792_512_0),
    piece_tile _ 3 0 rfl _ _ (h 3 0 rfl inb_S1024x1792_S128x1792_384_0), piece_tile _ 2 0 rfl _ _ (h 2 0 rfl inb_S1024x1792_S128x1792_256_0),
    piece_tile _ 1 0 rfl _ _ (h 1 0 rfl inb_S1024x1792_S128x1792_128_0), piece_tile _ 0 0 rfl _ _ (h 0 0 rfl inb_S1024x1792_S128x1792_0_0)⟩

set_option maxHeartbeats 4000000 in
/-- The scales' buffer reads the scales of the input's block. -/
theorem read_scale0 : arg3.view.read (Elt F) (kernelRun0 c i arg1 harg1 arg2 harg2 arg3 harg3 arg4 harg4 f1 f2 f3 f4).2.1 = scaleB0 (arg1.view.read (Elt F) f1) := by
  dsimp only [kernelRun0]
  refine read_pieces _ _ _ _ S1x1792.size (by sl_kernel_rfl) ?_
  have h : ∀ g n {off : Fin 2 → ℕ} (hoff : off = ![128 * g, 1792 * n]) (inb), Quant.scale shapes0 (arg1.view.readAt (Elt F) (Rect.unit (s := S1024x1792) off ![128, 1792] inb).toLoadRect f1) = Quant.scale shapes0 (chunk 128 1792 (arg1.view.read (Elt F) f1) g n) :=
    fun g n off hoff inb => congrArg _ (readAt_chunk _ _ g n hoff inb)
  simp only [List.forall_mem_cons, List.not_mem_nil, false_implies, implies_true, and_true]
  exact ⟨piece_tile _ 7 0 rfl _ _ (h 7 0 rfl inb_S1024x1792_S128x1792_896_0), piece_tile _ 6 0 rfl _ _ (h 6 0 rfl inb_S1024x1792_S128x1792_768_0),
    piece_tile _ 5 0 rfl _ _ (h 5 0 rfl inb_S1024x1792_S128x1792_640_0), piece_tile _ 4 0 rfl _ _ (h 4 0 rfl inb_S1024x1792_S128x1792_512_0),
    piece_tile _ 3 0 rfl _ _ (h 3 0 rfl inb_S1024x1792_S128x1792_384_0), piece_tile _ 2 0 rfl _ _ (h 2 0 rfl inb_S1024x1792_S128x1792_256_0),
    piece_tile _ 1 0 rfl _ _ (h 1 0 rfl inb_S1024x1792_S128x1792_128_0), piece_tile _ 0 0 rfl _ _ (h 0 0 rfl inb_S1024x1792_S128x1792_0_0)⟩

set_option maxHeartbeats 4000000 in
/-- The third output's buffer reads the dequantised block, transposed. -/
theorem read_dyt0 : arg4.view.read (Elt F) (kernelRun0 c i arg1 harg1 arg2 harg2 arg3 harg3 arg4 harg4 f1 f2 f3 f4).2.2.1 = dytB0 (arg1.view.read (Elt F) f1) := by
  dsimp only [kernelRun0]
  refine read_pieces _ _ _ _ S1792x128.size (by sl_kernel_rfl) ?_
  have h : ∀ g n {off : Fin 2 → ℕ} (hoff : off = ![128 * g, 1792 * n]) (inb), transpose S1792x128 [1, 0] (Quant.deq shapes0 (arg1.view.readAt (Elt F) (Rect.unit (s := S1024x1792) off ![128, 1792] inb).toLoadRect f1)) transposes_S128x1792_p1_0_S1792x128 = transpose S1792x128 [1, 0] (Quant.deq shapes0 (chunk 128 1792 (arg1.view.read (Elt F) f1) g n)) transposes_S128x1792_p1_0_S1792x128 :=
    fun g n off hoff inb => congrArg (fun v => transpose S1792x128 [1, 0] (Quant.deq shapes0 v) transposes_S128x1792_p1_0_S1792x128) (readAt_chunk _ _ g n hoff inb)
  simp only [List.forall_mem_cons, List.not_mem_nil, false_implies, implies_true, and_true]
  exact ⟨piece_tile _ 0 7 rfl _ _ (h 7 0 rfl inb_S1024x1792_S128x1792_896_0), piece_tile _ 0 6 rfl _ _ (h 6 0 rfl inb_S1024x1792_S128x1792_768_0),
    piece_tile _ 0 5 rfl _ _ (h 5 0 rfl inb_S1024x1792_S128x1792_640_0), piece_tile _ 0 4 rfl _ _ (h 4 0 rfl inb_S1024x1792_S128x1792_512_0),
    piece_tile _ 0 3 rfl _ _ (h 3 0 rfl inb_S1024x1792_S128x1792_384_0), piece_tile _ 0 2 rfl _ _ (h 2 0 rfl inb_S1024x1792_S128x1792_256_0),
    piece_tile _ 0 1 rfl _ _ (h 1 0 rfl inb_S1024x1792_S128x1792_128_0), piece_tile _ 0 0 rfl _ _ (h 0 0 rfl inb_S1024x1792_S128x1792_0_0)⟩

end Cert.Kernel.Work

end
-- ==== Proof.K.Region0.lean ====
module

public import proofs.«01_k».proof.Proof.K.Read0
public import proofs.«01_k».proof.Proof.Gen.Kernel.Launch
public import proofs.«01_k».proof.Proof.Gen.Kernel.Points
public import Idealize.ShloMosaic.Lib.Pipeline.Frame
public import Idealize.ShloMosaic.Lib.Pipeline.Regions

@[expose] public section

set_option maxRecDepth 16384

noncomputable section

namespace Cert.Kernel.Work

open Cert.Kernel.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat RDat Cfg Window BodyObligation cellOf)

variable (W : Dev nD → Valuation τ sig (Elt F))

/-- Window `w`'s block at point `t` of the first kernel call, read off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The proof data of the first kernel call: the arrays as the call finds them; after the body at a point the input's
    buffer at its block, and the three outputs' at the codes, the scales and the transposed dequantised tile of it. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => codesB0 (F := F) (iblk0 W c 0 t)
    | ⟨2, _⟩ => scaleB0 (F := F) (iblk0 W c 0 t)
    | ⟨3, _⟩ => dytB0 (F := F) (iblk0 W c 0 t)
  Φ _ := Pipeline.ΦA spec0 c
  q _ := fullShare
  owed _ := 0

/-- The arrays of the first call's proof data. -/
theorem dat0_A (c : Dev nD) (w : Fin cfg0.W) : (dat0 W c).A w = W c (Proc.devRef .tc (Pipeline.arrRef spec0 w)) := by
  dsimp only [dat0]
/-- What the first call's body leaves in the input's buffer. -/
theorem after0_0 (c : Dev nD) (t : Fin cfg0.N) : (dat0 W c).after 0 t = iblk0 W c 0 t := by dsimp only [dat0]
/-- What the first call's body leaves in the codes' buffer. -/
theorem after0_1 (c : Dev nD) (t : Fin cfg0.N) : (dat0 W c).after 1 t = codesB0 (F := F) (iblk0 W c 0 t) := by dsimp only [dat0]
/-- What the first call's body leaves in the scales' buffer. -/
theorem after0_2 (c : Dev nD) (t : Fin cfg0.N) : (dat0 W c).after 2 t = scaleB0 (F := F) (iblk0 W c 0 t) := by dsimp only [dat0]
/-- What the first call's body leaves in the transposed buffer. -/
theorem after0_3 (c : Dev nD) (t : Fin cfg0.N) : (dat0 W c).after 3 t = dytB0 (F := F) (iblk0 W c 0 t) := by dsimp only [dat0]

/-- The input's buffer holds its block at every point. -/
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)

/-- What the first call's body is handed at a point. -/
def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d)))

/-- What it gives back. -/
def post0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t))

/-- The first call's body at any point: from the input's block it leaves the codes, scales and transposed tile. -/
theorem sound0 (c : Dev nD) (t : Fin cfg0.N) :
    pre0 W c t ⊢ wp frame (wpE (defs₀ (F := F)) Variants.none c none) Set.univ (bodyAt0 t) (fun _ => post0 W c t) := by
  unfold pre0 post0 bodyAt0
  simp only [before0_0]
  rw [show (dat0 W c).Φ t.succ = (dat0 W c).Φ t.castSucc from rfl,
    show (dat0 W c).owesAt () t.succ = (dat0 W c).owesAt () t.castSucc from rfl,
    after0_0, after0_1, after0_2, after0_3]
  unfold owns
  iintro ⟨HΦ, Ho, ⟨%d0, ⟨%f0, %h0, H0⟩⟩, ⟨%d1, ⟨%f1, %h1, H1⟩⟩, ⟨%d2, ⟨%f2, %h2, H2⟩⟩, ⟨%d3, ⟨%f3, %h3, H3⟩⟩⟩
  iapply ((kernelRun0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) f0 f1 f2 f3).2.2.2 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists _; isplitr
    swap; · iexact H0
    ipureintro; exact h0
  isplitl [H1]
  · iexists _; isplitr
    swap; · iexact H1
    ipureintro; exact (read_codes0 ..).trans (congrArg codesB0 h0)
  isplitl [H2]
  · iexists _; isplitr
    swap; · iexact H2
    ipureintro; exact (read_scale0 ..).trans (congrArg scaleB0 h0)
  iexists _; isplitr
  swap; · iexact H3
  ipureintro; exact (read_dyt0 ..).trans (congrArg dytB0 h0)

/-- The body table's row for the first call at a point's slots is the body there. -/
theorem row0 (t : Fin cfg0.N) : defs₀ (F := F) .tc cfg0.body (cfg0.bodyArgs t (cfg0.slots t)) = bodyAt0 t := by
  unfold defs₀; rw [Defs.onTc_tc]

/-- The first call's body obligation, at every point. -/
theorem body0 (c : Dev nD) : BodyObligation (dat0 (F := F) W c) (defs₀ (F := F)) Variants.none () Set.univ := fun t => by
  rw [bigSep_W0, bigSep_W0, row0]; exact triple_restated (sound0 W c t) rfl .rfl fun _ => .rfl

end Cert.Kernel.Work

end
-- ==== Proof.K.Seg.lean ====
/-
  A kernel region as a segment of the program, for relational proof data: entered with every host buffer held, left with the region's arrays
  at contents its write-backs may have made.
-/
module

public import proofs.«01_k».proof.Proof.K.Region1
public import proofs.«01_k».proof.Proof.K.Region0
public import proofs.«01_k».proof.Proof.Gen.Kernel.Regions
public import Idealize.ShloMosaic.Lib.Pipeline.RegionArraysTS
public import Idealize.ShloMosaic.Lib.Pipeline.ArrRel

@[expose] public section

set_option maxRecDepth 16384

noncomputable section

namespace Cert.Kernel.Work

open Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat RDat Cfg Window cellOf arrRef arrRefs tblRefs pin prefHeld scopedRest PLaunchFacts afterRegion ucRefs)

variable (a : (p : Fin 2) → (pcfgs (F := F) p).Adm)
variable (rdats : (p : Fin 2) → (c : Dev nD) → RDat τ (Elt F) Unit ℕ (UR sig nD τ) ℕ (pin (pcfgs (F := F)) a p) c)

/-- No level is assigned to any semaphore: no core owes another anything. -/
abbrev noLevels : GSem nD τ sig → Finset Unit := fun _ => ∅
/-- The level of every semaphore. -/
abbrev level0 : GSem nD τ sig → Unit → ℕ := fun _ _ => 0

/-- What rides beside the host buffers: the random number register and an empty list of dues. -/
abbrev Rest (c : Dev nD) : sProp 𝕄 := iprop((∃ r, prngReg c r) ∗ ∃ Wd, owes (c : Thread nD τ) (0 : CellTallies nD τ sig Unit) Wd)

/-- What is known of a region's arrays when it ends: they are what `after`, which the body may have left, makes of them. -/
def Ends (p : Fin 2) (c : Dev nD) (after : (w : Fin (pin (pcfgs (F := F)) a p).W) → Fin (pin (pcfgs (F := F)) a p).N →
    ((pin (pcfgs (F := F)) a p).win w).block.Idx → Elt F ((pin (pcfgs (F := F)) a p).win w).elt) : Prop :=
  (∀ w, (rdats p c).ArrAt w (pin (pcfgs (F := F)) a p).N (((rdats p c).withAfter after).arrAt w (pin (pcfgs (F := F)) a p).N))
  ∧ ∀ w u, ((pin (pcfgs (F := F)) a p).win w).flush u = true → (rdats p c).Leaves w u (after w u)

/-- The arrays of a region at contents `G` are its array buffers held at any valuation that has them at `G`. -/
theorem arrays_held (p : Fin 2) (kit : PLaunchFacts (nD := nD) (τ := τ) (pcfgs (F := F)) p) (c : Dev nD)
    (hshare : ∀ w, (rdats p c).share w = fullShare)
    (G : (w : Fin (pin (pcfgs (F := F)) a p).W) → Buf (Elt F) (((pin (pcfgs (F := F)) a p).win w).arr.view.loc (c.tc : Thread nD τ)))
    (Wc : Valuation τ sig (Elt F)) (hG : ∀ w, G w = Wc (Proc.devRef .tc (arrRef (pin (pcfgs (F := F)) a p).spec w))) :
    ((rdats p c).arrays G : sProp 𝕄) = StableHlo.held (c.tc : Thread nD τ) (arrRefs (pcfgs (F := F) p).spec) Wc := by
  rw [Pipeline.RDat.arrays_eq (pcfgs (F := F)) a rdats p c kit.arr_whole hshare G]
  unfold StableHlo.held arrRefs
  rw [bigSep_map, show Finset.univ.image (arrRef (pcfgs (F := F) p).spec) = Finset.univ.map ⟨arrRef (pcfgs (F := F) p).spec, kit.win.arr_inj⟩ from
    (Finset.map_eq_image ⟨arrRef (pcfgs (F := F) p).spec, kit.win.arr_inj⟩ Finset.univ).symm, bigSep_map]
  exact bigSep_congr fun w _ => by rw [hG]; rfl

/-- The arrays after the write-backs, each at contents it may hold, are the arrays at one family of contents, which some `after` makes. -/
theorem arraysAt_ends (p : Fin 2) (c : Dev nD) :
    ((rdats p c).arraysAt (pin (pcfgs (F := F)) a p).N : sProp 𝕄)
      ⊢ iprop(∃ after, ⌜Ends a rdats p c after⌝ ∗ (rdats p c).arrays (fun w => ((rdats p c).withAfter after).arrAt w (pin (pcfgs (F := F)) a p).N)) := by
  unfold RDat.arraysAt RDat.arrays
  refine (BI.bigSep_exists_pi Finset.univ _).trans ?_
  iintro ⟨%A, H⟩
  ihave H' := (BI.bigSep_pure_sep Finset.univ (fun w => (rdats p c).ArrAt w (pin (pcfgs (F := F)) a p).N (A w)) _) $$ H
  icases H' with ⟨%hA, H⟩
  obtain ⟨after, hl, he⟩ := RDat.ArrAt.exists_exact_all (rd := rdats p c) (fun w => hA w (Finset.mem_univ w))
  obtain rfl : A = fun w => ((rdats p c).withAfter after).arrAt w (pin (pcfgs (F := F)) a p).N := funext he
  iexists after
  isplitr
  · ipureintro
    exact ⟨fun w => hA w (Finset.mem_univ w), fun w u hf => hl w u u.isLt hf⟩
  iexact H

/-- Region `p` as a segment, entered with the host buffers at `W c` and left with its arrays at contents that some `after` makes. -/
def heldSeg (p : Fin 2) (kit : PLaunchFacts (nD := nD) (τ := τ) (pcfgs (F := F)) p)
    (hbody : ∀ c, (rdats p c).BodyObligation defs₀ Variants.none () Set.univ)
    (howed : ∀ c t, (rdats p c).owed t = 0) (hrec : ∀ c, (rdats p c).recorded 0 = Set.univ)
    (hshare : ∀ c w, (rdats p c).share w = fullShare)
    (W : Dev nD → Valuation τ sig (Elt F))
    (hA : ∀ c w, (rdats p c).A w = W c (Proc.devRef .tc (arrRef (pin (pcfgs (F := F)) a p).spec w)))
    (hT : ∀ c k, (a p).1 k = W c (Proc.devRef .tc ((pcfgs (F := F) p).pre.ref k)))
    (hin : ∀ c, iprop((∃ r, prngReg c r) ∗ prefHeld (pcfgs (F := F) p).pre c (fun _ => fullShare) (a p).1 ∗ scopedRest (pin (pcfgs (F := F)) a p).spec c)
      ⊢ (rdats p c).Φ 0)
    (hout : ∀ c, (rdats p c).Φ (Fin.last (pin (pcfgs (F := F)) a p).N)
      ⊢ iprop(((∃ r, prngReg c r) ∗ prefHeld (pcfgs (F := F) p).pre c (fun _ => fullShare) (a p).1) ∗ scopedRest (pin (pcfgs (F := F)) a p).spec c))
    (hS : arrRefs (pcfgs (F := F) p).spec ⊆ ucRefs τ sig) (hS' : tblRefs (pcfgs (F := F) p).pre ⊆ ucRefs τ sig \ arrRefs (pcfgs (F := F) p).spec)
    (hinj : Function.Injective (pcfgs (F := F) p).pre.ref) :
    RDat.RegionSeg (pcfgs (F := F)) a rdats () defs₀ Variants.none noLevels level0 p where
  win := kit.to₀.win
  block_pos := kit.to₀.block_pos
  stage_whole := kit.to₀.stage_whole
  K := PEmpty
  osem k := k.elim
  ho := Pipeline.OwnSemFacts.none _
  hbody := hbody
  hwaits := RDat.hwaits_of_owed_zero (pcfgs (F := F)) a rdats () noLevels level0 p howed
  pre c := iprop(StableHlo.held (c : Thread nD τ) (ucRefs τ sig) (W c) ∗ Rest c)
  post c := iprop(∃ after, ⌜Ends a rdats p c after⌝ ∗ StableHlo.held (c : Thread nD τ) (ucRefs τ sig) (afterRegion ((rdats p c).withAfter after) (W c)) ∗ Rest c)
  X c := iprop(∃ r, prngReg c r)
  Y c := iprop((∃ r, prngReg c r) ∗ prefHeld (pcfgs (F := F) p).pre c (fun _ => fullShare) (a p).1)
  Z c := StableHlo.held (c : Thread nD τ) ((ucRefs τ sig \ arrRefs (pcfgs (F := F) p).spec) \ tblRefs (pcfgs (F := F) p).pre) (W c)
  hentry c := by
    rw [Pipeline.ownSems0_none, arrays_held a rdats p kit c (hshare c) (rdats p c).A (W c) (hA c),
      Pipeline.prefHeld_held (pcfgs (F := F) p).pre hinj c (a p).1 (W c) (hT c), StableHlo.held_sub_split (c.tc : Thread nD τ) hS (W c),
      StableHlo.held_sub_split (c.tc : Thread nD τ) hS' (W c)]
    iintro ⟨⟨⟨Ha, Ht, Hz⟩, Hr, HO⟩, -, -⟩
    imodintro
    isplitl [Ha]; · iexact Ha
    isplitl [Ht]; · iexact Ht
    isplitl [HO]
    · unfold RDat.owesAt Pipeline.owesWithin RDat.bound
      rw [howed c 0, hrec c]
      icases HO with ⟨%Wd, HO⟩; iexists Wd; isplitr; · ipureintro; exact fun _ _ => Or.inl trivial
      iexact HO
    isplitl [Hr]; · iexact Hr
    iexact Hz
  hin := hin
  hout c := (hout c).trans (by
    rw [Pipeline.ownSems0_none]
    iintro ⟨HY, Hs⟩
    isplitl [HY]; · iexact HY
    isplitr; · iempintro
    iexact Hs)
  hexit c := by
    iintro ⟨Ha, HO, ⟨Hr, Ht⟩, Hz⟩
    ihave Ha := (arraysAt_ends a rdats p c) $$ Ha
    icases Ha with ⟨%after, %he, Ha⟩
    imodintro
    iexists after
    isplitr; · ipureintro; exact he
    have hoff := Pipeline.afterRegion_off ((rdats p c).withAfter after) (W c) (ucRefs τ sig)
    have hj : iprop((rdats p c).arrays (fun w => ((rdats p c).withAfter after).arrAt w (pin (pcfgs (F := F)) a p).N)
          ∗ prefHeld (pcfgs (F := F) p).pre c (fun _ => fullShare) (a p).1
          ∗ StableHlo.held (c : Thread nD τ) ((ucRefs τ sig \ arrRefs (pcfgs (F := F) p).spec) \ tblRefs (pcfgs (F := F) p).pre) (W c))
        ⊢ (StableHlo.held (c : Thread nD τ) (ucRefs τ sig) (afterRegion ((rdats p c).withAfter after) (W c)) : sProp 𝕄) := by
      rw [arrays_held a rdats p kit c (hshare c) _ (afterRegion ((rdats p c).withAfter after) (W c))
          (fun w => (Pipeline.afterRegion_arr ((rdats p c).withAfter after) (W c) kit.win.arr_inj w).symm),
        Pipeline.prefHeld_held (pcfgs (F := F) p).pre hinj c (a p).1 (W c) (hT c),
        StableHlo.held_sub_split (c.tc : Thread nD τ) hS (afterRegion ((rdats p c).withAfter after) (W c)),
        StableHlo.held_congr (c.tc : Thread nD τ) (S := ucRefs τ sig \ arrRefs (pcfgs (F := F) p).spec) hoff,
        StableHlo.held_sub_split (c.tc : Thread nD τ) hS' (W c)]
    isplitl [Ha Ht Hz]
    · iapply hj
      isplitl [Ha]; · iexact Ha
      isplitl [Ht]; · iexact Ht
      iexact Hz
    isplitl [Hr]; · iexact Hr
    unfold RDat.owesAt Pipeline.owesWithin
    rw [howed c (Fin.last _)]
    icases HO with ⟨%Wd, -, HO⟩; iexists Wd; iexact HO

/-- A region's exit valuation depends on its proof data through the arrays' final contents alone. -/
theorem afterRegion_congr {cfg : Cfg sig Λ₀} {c : Dev nD} (d d' : Dat τ (Elt F) Unit ℕ (UR sig nD τ) ℕ cfg c) (V : Valuation τ sig (Elt F))
    (h : ∀ w, d.arrAt w cfg.N = d'.arrAt w cfg.N) : afterRegion d V = afterRegion d' V := by
  funext b
  unfold afterRegion
  by_cases hb : ∃ w : Fin cfg.W, b = Proc.devRef .tc (arrRef cfg.spec w)
  · rw [dif_pos hb, dif_pos hb, h]
  · rw [dif_neg hb, dif_neg hb]

set_option backward.isDefEq.respectTransparency.types false in
/-- A host stretch entered from buffers held at one of a family of valuations, of which a fact is known, and left with them advanced. -/
def hostSome (ops : List (HloOp τ sig (Elt F))) (hS : ∀ op ∈ ops, op.bufs ⊆ ucRefs τ sig) (hf : ∀ op ∈ ops, op.fresh = ∅)
    {A : Type} (P : Dev nD → A → Prop) (V : Dev nD → A → Valuation τ sig (Elt F)) :
    Pipeline.HostSeg (Ix := Unit) (Name := ℕ) (U := UR sig nD τ) (Lvl := ℕ) (pcfgs (F := F)) defs₀ Variants.none noLevels level0 where
  prog := StableHlo.seq ops
  pre c := iprop(∃ x, ⌜P c x⌝ ∗ StableHlo.held (c : Thread nD τ) (ucRefs τ sig) (V c x) ∗ Rest c)
  post c := iprop((∃ x, ⌜P c x⌝ ∗ StableHlo.held (c : Thread nD τ) (ucRefs τ sig) (StableHlo.after ops (V c x)))
    ∗ ∃ Wd, owes (c : Thread nD τ) (0 : CellTallies nD τ sig Unit) Wd)
  run c {β} k K := by
    have hseq := fun x => StableHlo.wp_seq (defs := Pipeline.defs (pcfgs (F := F)) defs₀) (Variants.lift Variants.none) none Set.univ c (ucRefs τ sig) k (K := K) ops hS hf (V c x)
    iintro ⟨Hk, Hbd, ⟨%x, %hx, Hh, Hr, HO⟩, -⟩
    iapply (hseq x) $$ [Hbd Hh]
    · isplitl [Hbd] <;> iassumption
    iintro ⟨Hbd, Hh⟩
    iapply Hk
    isplitl [Hbd]; · iexact Hbd
    isplitl [Hh]
    · iexists x
      isplitr; · ipureintro; exact hx
      iexact Hh
    iexact HO

end Cert.Kernel.Work

end
-- ==== Proof.K.Run.lean ====
/-
  The whole program's run: @main as its host stretches and its two kernel regions, and what every final memory then holds.
-/
module

public import proofs.«01_k».proof.Proof.K.Seg

@[expose] public section

set_option maxRecDepth 16384

noncomputable section

namespace Cert.Kernel.Work

open Cert.Kernel.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat RDat Cfg Window HostSeg cellOf arrRef arrRefs tblRefs pin prefHeld scopedRest PLaunchFacts afterRegion ucRefs)

variable (m : (ℓ : Loc nD τ sig) → Buf (Elt F) ℓ)

/-- What the first kernel call leaves in the buffers it may change. -/
def outs0 : Outs (F := F) := fun _ r c => afterRegion (dat0 (V1 m) c) (V1 m c) (Proc.devRef .tc r)

/-- The host buffers when the second kernel call is entered. -/
def entry1 (c : Dev nD) : Valuation τ sig (Elt F) := V16 m (outs0 m) c

/-- The work lists the second kernel call is entered with. -/
def lists (c : Dev nD) : pre1.Contents (Elt F) := fun k => entry1 m c (Proc.devRef .tc (pre1.ref k))

variable (hok : ok1 (lists m 0))

/-- The admissible contents of the prefetched tables: none for the first call, the work lists for the second. -/
abbrev adm : (p : Fin 2) → (pcfgs (F := F) p).Adm := fun
  | ⟨0, _⟩ => cfg0.toPCfg_adm
  | ⟨1, _⟩ => ⟨lists m 0, hok⟩
  | ⟨_ + 2, h⟩ => absurd h (Nat.not_lt.2 (Nat.le_add_left _ _))

/-- The second call's work lists with the fact that they are admissible. -/
abbrev adm1 : (pcfg1 (F := F)).Adm := ⟨lists m 0, hok⟩

/-- The two calls' proof data. -/
def rdats : (p : Fin 2) → (c : Dev nD) → RDat τ (Elt F) Unit ℕ (UR sig nD τ) ℕ (pin (pcfgs (F := F)) (adm m hok) p) c := fun
  | ⟨0, _⟩ => fun c => (dat0 (V1 m) c).toR
  | ⟨1, _⟩ => fun c => rd1 (entry1 m) (adm1 m hok) c
  | ⟨_ + 2, h⟩ => absurd h (Nat.not_lt.2 (Nat.le_add_left _ _))

/-- The buffers after the first kernel call. -/
theorem V2_eq (c : Dev nD) : V2 m (outs0 m) c = afterRegion (dat0 (V1 m) c) (V1 m c) := by
  have keep : ∀ b : DevRef τ sig, b ≠ Proc.devRef .tc main_v2_0 → b ≠ Proc.devRef .tc main_v2_1 → b ≠ Proc.devRef .tc main_v2_2 →
      afterRegion (dat0 (V1 m) c) (V1 m c) b = V1 m c b := by
    intro b h0 h1 h2
    by_cases h : ∃ w : Fin cfg0.W, b = Proc.devRef .tc (arrRef spec0 w)
    · obtain ⟨w, rfl⟩ := h
      refine (Pipeline.afterRegion_arr (dat0 (V1 m) c) (V1 m c) winFacts0.arr_inj w).trans ?_
      have hw : w = 0 := by
        fin_cases w
        · rfl
        · exact absurd rfl h0
        · exact absurd rfl h1
        · exact absurd rfl h2
      subst hw
      exact ((dat0 (V1 m) c).arrAt_in 0 rfl _).trans (dat0_A (V1 m) c 0)
    · unfold afterRegion; exact dif_neg h
  funext b
  by_cases h2 : b = Proc.devRef .tc main_v2_2
  · subst h2; exact Function.update_self ..
  refine (Function.update_of_ne h2 ..).trans ?_
  by_cases h1 : b = Proc.devRef .tc main_v2_1
  · subst h1; exact Function.update_self ..
  refine (Function.update_of_ne h1 ..).trans ?_
  by_cases h0 : b = Proc.devRef .tc main_v2_0
  · subst h0; exact Function.update_self ..
  exact (Function.update_of_ne h0 ..).trans (keep b h0 h1 h2).symm

set_option backward.isDefEq.respectTransparency.types false in
/-- The first kernel call as a segment. -/
def reg0 : RDat.RegionSeg (pcfgs (F := F)) (adm m hok) (rdats m hok) () defs₀ Variants.none noLevels level0 0 :=
  heldSeg (adm m hok) (rdats m hok) 0 launch0 (fun c => (body0 (V1 m) c).toR) (fun _ _ => rfl) (fun _ => rfl)
    (fun c w => by unfold RDat.share; exact ite_self _) (V1 m) (fun c w => dat0_A (V1 m) c w) (fun _ k => k.elim0)
    (fun c => show _ ⊢ Pipeline.ΦA spec0 c from by
      unfold Pipeline.ΦA
      iintro ⟨Hp, -, Hs⟩
      isplitl [Hs]; · iexact Hs
      iexact Hp)
    (fun c => show Pipeline.ΦA spec0 c ⊢ _ from by
      rw [Pipeline.prefHeld_of_none _ rfl]
      unfold Pipeline.ΦA
      iintro ⟨Hs, Hp⟩
      isplitl [Hp]
      · isplitl [Hp]; · iexact Hp
        iempintro
      iexact Hs)
    (Pipeline.arrRefs_sub_ucRefs _ launch0.win.arr_unscoped) (Pipeline.tblRefs_sub_ucRefs_sdiff _ _ launch0.pre.unscoped launch0.pre.disj) (fun k => k.elim0)

set_option backward.isDefEq.respectTransparency.types false in
/-- The second kernel call as a segment. -/
def reg1 : RDat.RegionSeg (pcfgs (F := F)) (adm m hok) (rdats m hok) () defs₀ Variants.none noLevels level0 1 :=
  heldSeg (adm m hok) (rdats m hok) 1 launch1 (fun c => body1 (entry1 m) (adm1 m hok) c) (fun _ _ => rfl) (fun _ => rfl)
    (fun c w => by unfold RDat.share; exact ite_self _) (entry1 m) (fun c w => rd1_A (entry1 m) (adm1 m hok) c w)
    (fun c k => by obtain rfl : c = 0 := Subsingleton.elim _ _; rfl)
    (fun c => show _ ⊢ iprop(Pipeline.ΦA spec1 c ∗ prefHeld pre1 c (fun _ => fullShare) (lists m 0)) from by
      unfold Pipeline.ΦA
      iintro ⟨Hp, Ht, Hs⟩
      isplitl [Hp Hs]
      · isplitl [Hs]; · iexact Hs
        iexact Hp
      iexact Ht)
    (fun c => show iprop(Pipeline.ΦA spec1 c ∗ prefHeld pre1 c (fun _ => fullShare) (lists m 0)) ⊢ _ from by
      unfold Pipeline.ΦA
      iintro ⟨⟨Hs, Hp⟩, Ht⟩
      isplitl [Hp Ht]
      · isplitl [Hp]; · iexact Hp
        iexact Ht
      iexact Hs)
    (Pipeline.arrRefs_sub_ucRefs _ launch1.win.arr_unscoped) (Pipeline.tblRefs_sub_ucRefs_sdiff _ _ launch1.pre.unscoped launch1.pre.disj) launch1.pre.inj

/-- The last host buffers, the second call's arrays being what `after` makes of them. -/
abbrev final (c : Dev nD) (after : (w : Fin (cfg1 (adm1 m hok)).W) → Fin (cfg1 (adm1 m hok)).N → ((cfg1 (adm1 m hok)).win w).block.Idx → Elt F ((cfg1 (adm1 m hok)).win w).elt) :
    Valuation τ sig (Elt F) :=
  StableHlo.after hostOps2 (afterRegion ((rd1 (entry1 m) (adm1 m hok) c).withAfter after) (entry1 m c))

/-- The last host stretch as a segment. -/
def segLast : HostSeg (Ix := Unit) (Name := ℕ) (U := UR sig nD τ) (Lvl := ℕ) (pcfgs (F := F)) defs₀ Variants.none noLevels level0 :=
  hostSome hostOps2 (fun op h => Pipeline.sub_ucRefs op ((List.forall_iff_forall_mem.mp hostOps2_sub) op h))
    (fun op h => (List.forall_iff_forall_mem.mp hostOps2_fresh) op h) (Ends (adm m hok) (rdats m hok) 1)
    (fun c after => afterRegion ((rdats m hok 1 c).withAfter after) (entry1 m c))

/-- What rides beside the host buffers at every item. -/
abbrev riding : Fin 3 → Dev nD → sProp 𝕄 := fun _ => Rest

/-- @main's items as segments. -/
abbrev segList : List (RDat.Seg (pcfgs (F := F)) (adm m hok) (rdats m hok) () defs₀ Variants.none noLevels level0) :=
  [.host (seg0 m Variants.none noLevels level0 riding), .region (reg0 m hok),
   .host (seg2 m (outs0 m) Variants.none noLevels level0 riding), .host (seg3 m (outs0 m) Variants.none noLevels level0 riding),
   .host (seg4 m (outs0 m) Variants.none noLevels level0 riding), .host (seg5 m (outs0 m) Variants.none noLevels level0 riding),
   .host (seg6 m (outs0 m) Variants.none noLevels level0 riding), .host (seg7 m (outs0 m) Variants.none noLevels level0 riding),
   .host (seg8 m (outs0 m) Variants.none noLevels level0 riding), .host (seg9 m (outs0 m) Variants.none noLevels level0 riding),
   .host (seg10 m (outs0 m) Variants.none noLevels level0 riding), .host (seg11 m (outs0 m) Variants.none noLevels level0 riding),
   .host (seg12 m (outs0 m) Variants.none noLevels level0 riding), .host (seg13 m (outs0 m) Variants.none noLevels level0 riding),
   .host (seg14 m (outs0 m) Variants.none noLevels level0 riding), .host (seg15 m (outs0 m) Variants.none noLevels level0 riding),
   .region (reg1 m hok), .host (segLast m hok)]

/-- What the first call leaves is what the next host stretch is entered with. -/
theorem post0_to (c : Dev nD) : (reg0 m hok).post c ⊢ (seg2 m (outs0 m) Variants.none noLevels level0 riding).pre c := by
  show iprop(∃ after, ⌜Ends (adm m hok) (rdats m hok) 0 c after⌝ ∗ StableHlo.held (c : Thread nD τ) (ucRefs τ sig)
      (afterRegion ((rdats m hok 0 c).withAfter after) (V1 m c)) ∗ Rest c) ⊢ iprop(StableHlo.held (c.tc : Thread nD τ) (ucRefs τ sig) (V2 m (outs0 m) c) ∗ Rest c)
  iintro ⟨%after, %he, Hh, Hr⟩
  have e : afterRegion ((rdats m hok 0 c).withAfter after) (V1 m c) = V2 m (outs0 m) c := by
    rw [V2_eq]
    exact afterRegion_congr (cfg := cfg0) ((rdats m hok 0 c).withAfter after) (dat0 (V1 m) c) (V1 m c)
      fun w => (dat0 (V1 m) c).toR_arrAt w cfg0.N _ (he.1 w)
  rw [e]
  isplitl [Hh]; · iexact Hh
  iexact Hr

/-- The facts of a final memory: every host buffer at the last valuation, for some contents the second call's body may leave. -/
def Finals (c : Dev nD) (s : MemSt nD τ sig (Elt F)) : Prop :=
  ∃ after, Ends (adm m hok) (rdats m hok) 1 c after ∧ ∀ b ∈ ucRefs τ sig, s.mem ((c : Thread nD τ).1, b) = final m hok c after b

set_option backward.isDefEq.respectTransparency.types false in
/-- The run of the whole program, when the work lists are admissible: it ends, nothing faulting, with `Finals` on every core and every
    semaphore at zero. -/
theorem run_main (ρ : Dev nD → PrngReg) : θ_run defs (onTc (τ := τ) (main (F := F))) ⟨m, fun _ => 0, ρ⟩
    (fun r => (∀ c : Dev nD, Finals m hok c r.2) ∧ r.2.sem = fun _ => 0) := by
  refine RDat.θ_run_regions_kit_dev_sems (pcfgs (F := F)) (adm m hok) (rdats m hok) () (cellOf_inj (adm m hok)) emb₁ defs₀ Variants.none noLevels level0 m ρ main
    (fun _ => segList m hok)
    (fun c Q => by
      rewrite [main_chain c, RDat.Seg.run_eq_chain,
        show (segList m hok).map RDat.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          Prog.lift (.customCall (Pipeline.entry 1) ()),
          StableHlo.seq hostOps2 ] from rfl]
      dsimp (config := { failIfUnchanged := false }) only
      exact .rfl)
    (fun c => by simp only [segList, RDat.Seg.pipes_host, RDat.Seg.pipes_region, RDat.Seg.pipes_nil]; decide)
    0 (fun _ _ => rfl) (fun _ => iprop(emp))
    (initOf (Pipeline.cells (pin (pcfgs (F := F)) (adm m hok)) (cellOf_inj (adm m hok))) (Pipeline.launchToks (pin (pcfgs (F := F)) (adm m hok)) (cellOf_inj (adm m hok))))
    (by
      iintro Hu; imodintro
      isplitl [Hu]
      · iapply (show (ownU _ : sProp 𝕄) ⊢ BI.own (emb₁ (initOf (Pipeline.cells (pin (pcfgs (F := F)) (adm m hok)) (cellOf_inj (adm m hok))) (Pipeline.launchToks (pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ Rest c))
    (Tₙ := fun c => iprop(∃ after, ⌜Ends (adm m hok) (rdats m hok) 1 c after⌝ ∗ StableHlo.held (c : Thread nD τ) (ucRefs τ sig) (final m hok c after)))
    (hch := fun c => ⟨.rfl, .rfl, post0_to m hok c, .rfl, .rfl, .rfl, .rfl, .rfl, .rfl, .rfl, .rfl, .rfl, .rfl, .rfl, .rfl, .rfl, .rfl, .rfl, .rfl⟩)
    (hinit := by
      refine Pipeline.initEach noLevels level0 fun c => ?_
      rw [show unscopedBufs c (fun b => m ((c.tc : Thread nD τ).loc b)) = StableHlo.held (c.tc : Thread nD τ) (ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists ∅; iexact HO)
    (QY := fun c s => Finals m hok c s) (hfin := fun c s' => ?_)
    (hQ := fun _ h hz => ⟨h, funext fun g => hz g (.inr (regions_no_unscoped g.2))⟩)
  unfold StableHlo.held
  iintro ⟨⟨%after, %he, Hh⟩, HSI⟩
  ihave Hr := (pointsTo_read_all (ucRefs τ sig) (fun b => ((c : Thread nD τ).1, b)) (final m hok c after) s') $$ [Hh HSI]
  · isplitl [Hh] <;> iassumption
  icases Hr with ⟨%h, HSI⟩
  imodintro
  isplitr
  · ipureintro; exact ⟨after, he, h⟩
  iexact HSI

/-- A host argument is at the end what it was at launch. -/
theorem final_arg (c : Dev nD) (after) (r : Ref sig .tc) (h2 : r ∉ hostOps2_W) (ha : ∀ w, arrRef spec1 w ≠ r)
    (h0 : V16 m (outs0 m) c r = m ((c : Thread nD τ).loc r)) :
    final m hok c after (Proc.devRef .tc r) = m ((c : Thread nD τ).loc r) :=
  (StableHlo.after_of_writes_sub hostOps2 _ hostOps2_writes h2).trans
    ((Pipeline.afterRegion_of_not_arr _ _ fun w e => ha w e.symm).trans h0)

/-- The program's arguments after a run. -/
theorem Finals.args {c : Dev nD} {s : MemSt nD τ sig (Elt F)} (h : Finals m hok c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2) := by
  obtain ⟨after, he, hb⟩ := h
  have e16 : ∀ r : Ref sig .tc, r ∉ hostOps2_W → r ∉ ([main_v77_0, main_v77_1, main_v77_2] : List (Ref sig .tc)) → V16 m (outs0 m) c r = V18 m (outs0 m) c r :=
    fun r h h' => ((V18_of m (outs0 m) c r h).trans (V17_of m (outs0 m) c r h')).symm
  refine ⟨?_, ?_, ?_⟩
  · exact (hb _ (Finset.mem_filter.mpr ⟨StableHlo.devRef_mem_tcRefs main_arg0, by decide⟩)).trans
      (final_arg m hok c after main_arg0 (by decide) (by decide) ((e16 _ (by decide) (by decide)).trans (V18_main_arg0 m (outs0 m) c)))
  · exact (hb _ (Finset.mem_filter.mpr ⟨StableHlo.devRef_mem_tcRefs main_arg1, by decide⟩)).trans
      (final_arg m hok c after main_arg1 (by decide) (by decide) ((e16 _ (by decide) (by decide)).trans (V18_main_arg1 m (outs0 m) c)))
  · exact (hb _ (Finset.mem_filter.mpr ⟨StableHlo.devRef_mem_tcRefs main_arg2, by decide⟩)).trans
      (final_arg m hok c after main_arg2 (by decide) (by decide) ((e16 _ (by decide) (by decide)).trans (V18_main_arg2 m (outs0 m) c)))

end Cert.Kernel.Work

end
-- ==== Proof.Plan.lean ====
/-
  The work list of the grouped product, in natural numbers: which row tile and which expert each of the 36 items has, and which of the
  tile's rows it takes. `g e` is the number of rows of expert `e`; the experts' rows lie one after another.
-/
module

public import Idealize.ShloMosaic.Lib.Routing.Words

@[expose] public section

namespace Cert.Plan

open Idealize.ShloMosaic Idealize.ShloMosaic.ValueIdx Idealize.ShloMosaic.Routing Idealize.ShloMosaic.WordCmp

/-! ## The lists -/

section Lists

variable (g : ℕ → ℕ)

/-- The sum of the first `n` terms. -/
def pre (f : ℕ → ℕ) (n : ℕ) : ℕ := ((List.range n).map f).sum

/-- The row after expert `e`'s last. -/
def ends (e : ℕ) : ℕ := pre g (e + 1)

/-- Expert `e`'s first row. -/
def begins (e : ℕ) : ℕ := ends g e - g e

/-- The tile of expert `e`'s first row. -/
def first (e : ℕ) : ℕ := min (begins g e / 512) 31

/-- The tile of expert `e`'s last row; the first one if it has no rows. -/
def last (e : ℕ) : ℕ := if 0 < g e then (ends g e - 1) / 512 else first g e

/-- How many items expert `e` has. -/
def cnt (e : ℕ) : ℕ := last g e - first g e + 1

/-- How many items the experts up to `e` have. -/
def cum (e : ℕ) : ℕ := pre (cnt g) (e + 1)

/-- Item `i`'s expert. -/
def ex (i : ℕ) : ℕ := min (Nat.count (fun q => cum g q ≤ i) 5) 4

/-- Item `i`'s row tile. -/
def til (i : ℕ) : ℕ := min (first g (ex g i) + i - (cum g (ex g i) - cnt g (ex g i))) 31

/-- The first row of its tile that item `i` takes. -/
def lo (i : ℕ) : ℕ := min 512 (begins g (ex g i) - til g i * 512)

/-- The row after the last that item `i` takes; none if the item is past the end of the list. -/
def hi (i : ℕ) : ℕ := if cum g 4 ≤ i then 0 else min 512 (ends g (ex g i) - til g i * 512)

end Lists

/-! ## Bounds -/

/-- The sum of no terms. -/
theorem pre_zero (f : ℕ → ℕ) : pre f 0 = 0 := rfl

/-- The sum of one term more. -/
theorem pre_succ (f : ℕ → ℕ) (n : ℕ) : pre f (n + 1) = pre f n + f n := by
  unfold pre
  rw [List.range_succ, List.map_append, List.sum_append]
  simp

/-- More terms sum to no less. -/
theorem pre_mono (f : ℕ → ℕ) {a b : ℕ} (h : a ≤ b) : pre f a ≤ pre f b := by
  induction b, h using Nat.le_induction with
  | base => exact le_rfl
  | succ n _ ih => rw [pre_succ]; omega

variable {g : ℕ → ℕ}

/-- An item's expert is one of five. -/
theorem ex_le (i : ℕ) : ex g i ≤ 4 := Nat.min_le_right _ _

/-- An item's tile is one of 32. -/
theorem til_le (i : ℕ) : til g i ≤ 31 := Nat.min_le_right _ _

/-- The next expert's end. -/
theorem ends_succ (e : ℕ) : ends g (e + 1) = ends g e + g (e + 1) := pre_succ ..

/-- An expert begins after all the rows before it. -/
theorem begins_eq (e : ℕ) : begins g e = pre g e := by
  unfold begins ends; rw [pre_succ]; omega

/-- An expert's begin and size give its end. -/
theorem begins_add (e : ℕ) : begins g e + g e = ends g e := by
  rw [begins_eq]; exact (pre_succ g e).symm

/-- An expert begins where the one before ends. -/
theorem begins_succ (e : ℕ) : begins g (e + 1) = ends g e := begins_eq _

/-- The experts' rows are all the 16384. -/
def Total (g : ℕ → ℕ) : Prop := ends g 4 = 16384

section Bounds

variable (hT : Total g)
include hT

/-- No expert ends past the last row. -/
theorem ends_le {e : ℕ} (he : e ≤ 4) : ends g e ≤ 16384 := by
  rw [← hT]; exact pre_mono g (by omega)

/-- No size exceeds the number of rows. -/
theorem g_le {e : ℕ} (he : e ≤ 4) : g e ≤ 16384 := by
  have := ends_le hT he
  have := begins_add (g := g) e
  omega

/-- No expert begins past the last row. -/
theorem begins_le {e : ℕ} (he : e ≤ 4) : begins g e ≤ 16384 := by
  have := ends_le hT he
  have := begins_add (g := g) e
  omega

/-- An expert's first tile is not after its last. -/
theorem first_le_last {e : ℕ} (he : e ≤ 4) : first g e ≤ last g e := by
  have := begins_add (g := g) e
  unfold last first
  split <;> omega

/-- An expert's last tile is one of 32. -/
theorem last_le {e : ℕ} (he : e ≤ 4) : last g e ≤ 31 := by
  have := ends_le hT he
  unfold last first
  split <;> omega

/-- An expert's last tile is not past the next one's first. -/
theorem last_le_first {e : ℕ} (he : e < 4) : last g e ≤ first g (e + 1) := by
  have h1 := begins_succ (g := g) e
  have h2 := begins_add (g := g) e
  have h3 := ends_le hT (e := e) (by omega)
  unfold last first
  rw [h1]
  split <;> omega

/-- An expert has at most 32 items. -/
theorem cnt_le {e : ℕ} (he : e ≤ 4) : cnt g e ≤ 32 := by
  have := last_le hT he
  unfold cnt; omega

end Bounds

/-- Every expert has an item. -/
theorem cnt_pos (e : ℕ) : 0 < cnt g e := Nat.succ_pos _

/-- The number of items up to the next expert. -/
theorem cum_succ (e : ℕ) : cum g (e + 1) = cum g e + cnt g (e + 1) := pre_succ ..

/-- The number of items before an expert. -/
theorem cum_sub (e : ℕ) : cum g e - cnt g e = pre (cnt g) e := by
  unfold cum; rw [pre_succ]; omega

/-- The number of items of the first expert. -/
theorem cum_zero : cum g 0 = cnt g 0 := by unfold cum; rw [pre_succ, pre_zero]; omega

/-- The list's length. -/
theorem cum_four_le (hT : Total g) : cum g 4 ≤ 36 := by
  have a0 := last_le_first hT (e := 0) (by omega)
  have a1 := last_le_first hT (e := 1) (by omega)
  have a2 := last_le_first hT (e := 2) (by omega)
  have a3 := last_le_first hT (e := 3) (by omega)
  have a4 := last_le hT (e := 4) (by omega)
  have b0 := first_le_last hT (e := 0) (by omega)
  have b1 := first_le_last hT (e := 1) (by omega)
  have b2 := first_le_last hT (e := 2) (by omega)
  have b3 := first_le_last hT (e := 3) (by omega)
  have b4 := first_le_last hT (e := 4) (by omega)
  rw [cum_succ, cum_succ, cum_succ, cum_succ, cum_zero]
  unfold cnt
  simp only [Nat.zero_add, Nat.reduceAdd] at *
  omega

/-- There are at most 36 items. -/
theorem cum_le (hT : Total g) {e : ℕ} (he : e ≤ 4) : cum g e ≤ 36 :=
  (pre_mono _ (by omega)).trans (cum_four_le hT)

/-- Which expert an item has, by the running counts. -/
theorem ex_cases (i : ℕ) :
    (i < cum g 0 ∧ ex g i = 0) ∨ (cum g 0 ≤ i ∧ i < cum g 1 ∧ ex g i = 1) ∨ (cum g 1 ≤ i ∧ i < cum g 2 ∧ ex g i = 2)
      ∨ (cum g 2 ≤ i ∧ i < cum g 3 ∧ ex g i = 3) ∨ (cum g 3 ≤ i ∧ ex g i = 4) := by
  have h1 := cum_succ (g := g) 0
  have h2 := cum_succ (g := g) 1
  have h3 := cum_succ (g := g) 2
  have h4 := cum_succ (g := g) 3
  have p1 := cnt_pos (g := g) 1
  have p2 := cnt_pos (g := g) 2
  have p3 := cnt_pos (g := g) 3
  have p4 := cnt_pos (g := g) 4
  have hx : ex g i = min ((if cum g 0 ≤ i then 1 else 0) + (if cum g 1 ≤ i then 1 else 0) + (if cum g 2 ≤ i then 1 else 0)
      + (if cum g 3 ≤ i then 1 else 0) + (if cum g 4 ≤ i then 1 else 0)) 4 := by
    unfold ex
    rw [Nat.count_succ, Nat.count_succ, Nat.count_succ, Nat.count_succ, Nat.count_succ, Nat.count_zero]
    simp
  rw [hx]
  norm_num at h1 h2 h3 h4
  split_ifs <;> omega

/-- The items before an item's expert come before the item. -/
theorem pre_ex_le (i : ℕ) : pre (cnt g) (ex g i) ≤ i := by
  rcases ex_cases (g := g) i with ⟨_, h⟩ | ⟨h', _, h⟩ | ⟨h', _, h⟩ | ⟨h', _, h⟩ | ⟨h', h⟩ <;> rw [h]
  · exact Nat.zero_le _
  all_goals exact h'

/-! ## Vectors of words that hold naturals -/

section Words

variable {s : Shape}

/-- A difference of words that does not go below zero is the word of the difference. -/
theorem sub_w (x y : IVec s 32) (i : s.Idx) {a b : ℕ} (hx : x i = BitVec.ofNat 32 a) (hy : y i = BitVec.ofNat 32 b) (h : b ≤ a) :
    subi x y i = BitVec.ofNat 32 (a - b) := by
  rw [subi_ap, hx, hy, ofNat32_sub h]

/-- A sum of words is the word of the sum. -/
theorem add_w (x y : IVec s 32) (i : s.Idx) {a b : ℕ} (hx : x i = BitVec.ofNat 32 a) (hy : y i = BitVec.ofNat 32 b) :
    addi x y i = BitVec.ofNat 32 (a + b) := by
  rw [addi_ap, hx, hy, BitVec.ofNat_add]

/-- A product of words is the word of the product. -/
theorem mul_w (x y : IVec s 32) (i : s.Idx) {a b : ℕ} (hx : x i = BitVec.ofNat 32 a) (hy : y i = BitVec.ofNat 32 b) :
    muli x y i = BitVec.ofNat 32 (a * b) := by
  rw [muli_ap, hx, hy, BitVec.ofNat_mul]

/-- The lesser of two words below 2^31 is the word of the lesser. -/
theorem min_w (x y : IVec s 32) (i : s.Idx) {a b : ℕ} (hx : x i = BitVec.ofNat 32 a) (hy : y i = BitVec.ofNat 32 b)
    (ha : a < 2 ^ 31) (hb : b < 2 ^ 31) : minsi x y i = BitVec.ofNat 32 (min a b) := by
  show IntOp.minsi (x i) (y i) = _
  rw [hx, hy]
  unfold IntOp.minsi
  rw [slt_ofNat32 ha hb]
  by_cases h : a < b
  · rw [if_pos (by simpa using h), Nat.min_eq_left h.le]
  · rw [if_neg (by simpa using h), Nat.min_eq_right (Nat.le_of_not_lt h)]

/-- A difference clipped below at zero is the naturals' truncated one. -/
theorem clip_w (z x y : IVec s 32) (i : s.Idx) {a b : ℕ} (hz : z i = 0#32) (hx : x i = BitVec.ofNat 32 a) (hy : y i = BitVec.ofNat 32 b)
    (ha : a < 2 ^ 31) (hb : b < 2 ^ 31) : maxsi z (subi x y) i = BitVec.ofNat 32 (a - b) := by
  show IntOp.maxsi (z i) (x i - y i) = _
  rw [hz, hx, hy]
  by_cases h : b ≤ a
  · rw [ofNat32_sub h]; exact maxsi_zero_left (by omega)
  · unfold IntOp.maxsi
    have hn : (BitVec.ofNat 32 a - BitVec.ofNat 32 b).slt 0#32 = true := by
      rw [BitVec.slt_zero_iff_msb_cond, BitVec.msb_eq_decide]
      simp only [BitVec.toNat_sub, BitVec.toNat_ofNat, decide_eq_true_eq]
      omega
    rw [if_pos hn, Nat.sub_eq_zero_of_le (by omega)]

end Words

end Cert.Plan

end
-- ==== Proof.K.Lists.lean ====
/-
  The work lists of the second kernel call: what the host stretches between the two calls leave in the four prefetched tables, and that
  the tables address only blocks inside the arrays.
-/
module

public import proofs.«01_k».proof.Proof.K.Run
public import proofs.«01_k».proof.Proof.Plan
public import Idealize.ShloMosaic.Lib.Routing.Words
public import Idealize.ShloMosaic.Lib.Routing.OpsSet

@[expose] public section

set_option maxRecDepth 16384

noncomputable section

namespace Cert.Kernel.Work

open Cert.Kernel.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Routing Cert.Plan Idealize.ShloMosaic.WordCmp

/-! ## The stretches as functions of vectors -/

/-- The index column of a gather by expert: a negative index would count from the end. -/
def colOf (x : IVec S36 32) : IVec S36x1 32 :=
  broadcastInDim S36x1 ![0] bcast_S36_S36x1_0
    (select (cmpi .slt x (broadcastInDim S36 ![] bcast_S_S36 (constantI S_ 32 0#32))) (addi x (broadcastInDim S36 ![] bcast_S_S36 (constantI S_ 32 5#32))) x)

/-- The entries of a vector over the experts that a vector of experts names. -/
def take (t : IVec S5 32) (x : IVec S36 32) : IVec S36 32 := Host.gather gather_S5_S36x1_S36_n_0_n_n_0_1_1 t (colOf x)

/-- Each item's expert, from the running counts of items. -/
def exVec (x17 : IVec S5 32) : IVec S36 32 :=
  minsi (Host.reduce IntOp.addi (extui 32 (cmpi .sge
      (broadcastInDim S36x5 ![0, 1] bcast_S36x1_S36x5_0_1 (broadcastInDim S36x1 ![0] bcast_S36_S36x1_0 (iotaInDim S36 32 0)))
      (broadcastInDim S36x5 ![0, 1] bcast_S1x5_S36x5_0_1 (broadcastInDim S1x5 ![1] bcast_S5_S1x5_1 x17))) natLt_1_32)
    (constantI S_ 32 0#32) reducesTo_S36x5_S36_d1 h_S_) (broadcastInDim S36 ![] bcast_S_S36 (constantI S_ 32 4#32))

/-- Each item's row tile. -/
def tilVec (x7 x13 x17 : IVec S5 32) : IVec S36 32 :=
  minsi (subi (addi (take x7 (exVec x17)) (iotaInDim S36 32 0))
    (take (subi x17 (addi (subi x13 x7) (broadcastInDim S5 ![] bcast_S_S5 (constantI S_ 32 1#32)))) (exVec x17)))
    (broadcastInDim S36 ![] bcast_S_S36 (constantI S_ 32 31#32))

/-- A vector over the experts less the tile's first row, item by item. -/
def offVec (x : IVec S5 32) (e t : IVec S36 32) : IVec S36 32 :=
  subi (take x e) (muli t (broadcastInDim S36 ![] bcast_S_S36 (constantI S_ 32 512#32)))

/-- Which items are past the end of the list. -/
def deadVec (x17 : IVec S5 32) : IVec S36 1 :=
  cmpi .sge (iotaInDim S36 32 0) (broadcastInDim S36 ![] bcast_S_S36
    (shapeCast S_ (extractStridedSlice S1 ![4] x17 slices_S5_S1_4) shapeCasts_S1_S_))

section Stretches

variable (V : Valuation τ sig (Elt F))

/-- The ends of the experts' rows, a running sum of the sizes. -/
theorem s3 : StableHlo.after hostOps1 V main_v3
    = Host.reduceWindow IntOp.addi ![5] ![1] ![4] ![0] (V main_arg2 : IVec S5 32) (broadcastInDim S_ ![] bcast_S_S_ (constantI S_ 32 0#32)) reduceWindows_S5_S5_w5s1p4_0 h_S_ := by
  after_results_simp; rfl

/-- The begins, the ends less the sizes. -/
theorem s4 : StableHlo.after hostOps1_1 V main_v4 = subi (V main_v3 : IVec S5 32) (V main_arg2 : IVec S5 32) := by
  after_results_simp

/-- The tile length, 512. -/
theorem sc : StableHlo.after hostOps1_1 V main_c = constantI S_ 32 512#32 := by
  after_results_simp

/-- The begins divided by the tile length. -/
theorem s5 : StableHlo.after hostOps1_2 V main_v5 = pyDiv bcast_S_S5 (V main_v4 : IVec S5 32) (V main_c : IVec S_ 32) := by
  after_results_simp; rfl

/-- The experts' first tiles, at most the last tile. -/
theorem s7 : StableHlo.after hostOps1_3 V main_v7 = minsi (V main_v5 : IVec S5 32) (broadcastInDim S5 ![] bcast_S_S5 (constantI S_ 32 31#32)) := by
  after_results_simp

/-- Which experts have rows. -/
theorem s9 : StableHlo.after hostOps1_3 V main_v9 = cmpi .sgt (V main_arg2 : IVec S5 32) (broadcastInDim S5 ![] bcast_S_S5 (constantI S_ 32 0#32)) := by
  after_results_simp

/-- The experts' last rows. -/
theorem s11 : StableHlo.after hostOps1_3 V main_v11 = subi (V main_v3 : IVec S5 32) (broadcastInDim S5 ![] bcast_S_S5 (constantI S_ 32 1#32)) := by
  after_results_simp

/-- The tile length again. -/
theorem sc3 : StableHlo.after hostOps1_3 V main_c_3 = constantI S_ 32 512#32 := by
  after_results_simp

/-- The last rows divided by the tile length. -/
theorem s12 : StableHlo.after hostOps1_4 V main_v12 = pyDiv bcast_S_S5 (V main_v11 : IVec S5 32) (V main_c_3 : IVec S_ 32) := by
  after_results_simp; rfl

/-- The experts' last tiles, the first tile for an expert without rows. -/
theorem s13 : StableHlo.after hostOps1_5 V main_v13 = select (V main_v9 : IVec S5 1) (V main_v12 : IVec S5 32) (V main_v7 : IVec S5 32) := by
  after_results_simp; rfl

/-- The numbers of items of the experts. -/
theorem s16 : StableHlo.after hostOps1_6 V main_v16
    = addi (subi (V main_v13 : IVec S5 32) (V main_v7 : IVec S5 32)) (broadcastInDim S5 ![] bcast_S_S5 (constantI S_ 32 1#32)) := by
  after_results_simp

/-- Their running sum. -/
theorem s17 : StableHlo.after hostOps1_7 V main_v17
    = Host.reduceWindow IntOp.addi ![5] ![1] ![4] ![0] (V main_v16 : IVec S5 32) (broadcastInDim S_ ![] bcast_S_S_ (constantI S_ 32 0#32)) reduceWindows_S5_S5_w5s1p4_0 h_S_ := by
  after_results_simp; rfl

/-- The items' experts. -/
theorem s27 : StableHlo.after hostOps1_8 V main_v27 = exVec (V main_v17) := by
  after_results_simp; rfl

/-- The items' tiles. -/
theorem s53 : StableHlo.after hostOps1_8 V main_v53 = tilVec (V main_v7) (V main_v13) (V main_v17) := by
  after_results_simp; rfl

/-- The experts' begins, relative to the items' tiles. -/
theorem s63 : StableHlo.after hostOps1_8 V main_v63
    = offVec (V main_v4) (exVec (V main_v17)) (tilVec (V main_v7) (V main_v13) (V main_v17)) := by
  after_results_simp; rfl

/-- Which items are past the list's end. -/
theorem s51 : StableHlo.after hostOps1_8 V main_v51 = deadVec (V main_v17) := by
  after_results_simp; rfl

/-- The lower bound of a range, 0. -/
theorem sc16 : StableHlo.after hostOps1_8 V main_c_16 = constantI S_ 32 0#32 := by
  after_results_simp

/-- The upper bound of a range, 512. -/
theorem sc17 : StableHlo.after hostOps1_8 V main_c_17 = constantI S_ 32 512#32 := by
  after_results_simp

/-- The lower ends of the items' row ranges, clipped to the tile. -/
theorem s64 : StableHlo.after hostOps1_9 V main_v64 = minsi (broadcastInDim S36 ![] bcast_S_S36 (V main_c_17 : IVec S_ 32))
    (maxsi (broadcastInDim S36 ![] bcast_S_S36 (V main_c_16 : IVec S_ 32)) (V main_v63 : IVec S36 32)) := by
  after_results_simp; rfl

/-- The experts' ends, relative to the items' tiles. -/
theorem s74 : StableHlo.after hostOps1_10 V main_v74 = offVec (V main_v3) (V main_v27) (V main_v53) := by
  after_results_simp; rfl

/-- The lower bound, 0, of the upper ends. -/
theorem sc21 : StableHlo.after hostOps1_10 V main_c_21 = constantI S_ 32 0#32 := by
  after_results_simp

/-- The upper bound, 512, of the upper ends. -/
theorem sc22 : StableHlo.after hostOps1_10 V main_c_22 = constantI S_ 32 512#32 := by
  after_results_simp

/-- The upper ends of the items' row ranges, clipped to the tile. -/
theorem s75 : StableHlo.after hostOps1_11 V main_v75 = minsi (broadcastInDim S36 ![] bcast_S_S36 (V main_c_22 : IVec S_ 32))
    (maxsi (broadcastInDim S36 ![] bcast_S_S36 (V main_c_21 : IVec S_ 32)) (V main_v74 : IVec S36 32)) := by
  after_results_simp; rfl

/-- The upper end of an item past the list's end, 0. -/
theorem sc23 : StableHlo.after hostOps1_12 V main_c_23 = constantI S_ 32 0#32 := by
  after_results_simp

/-- The upper ends, zero for an item past the list's end. -/
theorem s76 : StableHlo.after hostOps1_13 V main_v76 = select (V main_v51 : IVec S36 1)
    (broadcastInDim S36 ![] bcast_S_S36 (V main_c_23 : IVec S_ 32)) (V main_v75 : IVec S36 32) := by
  after_results_simp; rfl

end Stretches

/-! ## The vectors at an entry -/

section Entries

variable {g : ℕ → ℕ}

/-- A lookup at a word between 0 and 4 reads that entry of the table. -/
theorem take_w (t : IVec S5 32) (x : IVec S36 32) (i : Fin 36) {e : ℕ} (he : e ≤ 4) (hx : x (ValueIdx.ix1 i) = BitVec.ofNat 32 e) {v : BitVec 32}
    (hv : t (ValueIdx.ix1 (⟨e, by omega⟩ : Fin 5)) = v) : take t x (ValueIdx.ix1 i) = v := by
  refine (gather_take1 (N := 5) (n := 36) gather_S5_S36x1_S36_n_0_n_n_0_1_1 rfl rfl rfl rfl t (colOf x) i ⟨e, by omega⟩ ?_ (by norm_num)).trans hv
  refine (bcCol (n := 36) bcast_S36_S36x1_0 _ i).trans ?_
  show Scalar.select (IntOp.cmpi .slt (x (ValueIdx.ix1 i)) 0#32) (x (ValueIdx.ix1 i) + 5#32) (x (ValueIdx.ix1 i)) = _
  rw [hx, show (0#32 : BitVec 32) = BitVec.ofNat 32 0 from rfl, cmpi_slt_ofNat (w := 32) (by omega) (by norm_num), select_decide, if_neg (by omega)]

/-- The items' experts, as words of the plan's. -/
theorem exVec_w (hT : Total g) (x17 : IVec S5 32) (h17 : ∀ e : Fin 5, x17 (ValueIdx.ix1 e) = BitVec.ofNat 32 (Plan.cum g e.val)) (i : Fin 36) :
    exVec x17 (ValueIdx.ix1 i) = BitVec.ofNat 32 (ex g i.val) := by
  refine min_w _ _ _ (reduce_count (n := 36) (m := 5) (by norm_num) _ natLt_1_32 reducesTo_S36x5_S36_d1 h_S_ i (fun q => Plan.cum g q ≤ i.val) fun q => ?_) rfl
    (lt_of_le_of_lt (Nat.count_le _) (by norm_num)) (by norm_num)
  have e1 := bcRows (n := 36) (m := 5) bcast_S36_S36x1_0 bcast_S36x1_S36x5_0_1 (iotaInDim S36 32 0) i q
  have e2 := bcCols (n := 36) (m := 5) bcast_S5_S1x5_1 bcast_S1x5_S36x5_0_1 x17 i q
  refine Iff.trans (Eq.congr ((cmpi_at ..).trans (congrArg₂ (IntOp.cmpi .sge) (e1.trans rfl) (e2.trans (h17 q)))) rfl) ?_
  have := cum_le hT (e := q.val) (by omega)
  exact cmpi_sge_ofNat_eq_one_iff (w := 32) (a := i.val) (b := Plan.cum g q.val) (by omega) (by omega)

/-- The items' tiles, as words of the plan's. -/
theorem tilVec_w (hT : Total g) (x7 x13 x17 : IVec S5 32) (h7 : ∀ e : Fin 5, x7 (ValueIdx.ix1 e) = BitVec.ofNat 32 (first g e.val))
    (h13 : ∀ e : Fin 5, x13 (ValueIdx.ix1 e) = BitVec.ofNat 32 (last g e.val)) (h17 : ∀ e : Fin 5, x17 (ValueIdx.ix1 e) = BitVec.ofNat 32 (Plan.cum g e.val))
    (i : Fin 36) : tilVec x7 x13 x17 (ValueIdx.ix1 i) = BitVec.ofNat 32 (til g i.val) := by
  have he := ex_le (g := g) i.val
  have hp := pre_ex_le (g := g) i.val
  have hs := cum_sub (g := g) (ex g i.val)
  have hf : first g (ex g i.val) ≤ 31 := Nat.min_le_right _ _
  have hc : cnt g (ex g i.val) ≤ Plan.cum g (ex g i.val) := by unfold Plan.cum; rw [pre_succ]; omega
  refine min_w _ _ _ (sub_w _ _ _ (add_w _ _ _ (take_w _ _ i he (exVec_w hT x17 h17 i) (h7 _)) rfl)
    (take_w _ _ i he (exVec_w hT x17 h17 i) (sub_w _ _ _ (h17 _) (add_w _ _ _ (sub_w _ _ _ (h13 _) (h7 _) (first_le_last hT he)) rfl) hc)) ?_) rfl ?_ (by norm_num)
  · show Plan.cum g (ex g i.val) - cnt g (ex g i.val) ≤ _
    omega
  · show _ - (Plan.cum g (ex g i.val) - cnt g (ex g i.val)) < _
    omega

/-- A clipped offset inside the item's tile. -/
theorem clipOff_w (x : IVec S5 32) (e t : IVec S36 32) (z w : IVec S36 32) (i : Fin 36) {n k a : ℕ} (hn : n ≤ 4) (he : e (ValueIdx.ix1 i) = BitVec.ofNat 32 n)
    (ht : t (ValueIdx.ix1 i) = BitVec.ofNat 32 k) (hk : k ≤ 31) (hx : x (ValueIdx.ix1 (⟨n, by omega⟩ : Fin 5)) = BitVec.ofNat 32 a) (ha : a ≤ 16384)
    (hz : z (ValueIdx.ix1 i) = 0#32) (hw : w (ValueIdx.ix1 i) = 512#32) :
    minsi w (maxsi z (offVec x e t)) (ValueIdx.ix1 i) = BitVec.ofNat 32 (min 512 (a - k * 512)) :=
  min_w _ _ _ (a := 512) hw (clip_w _ _ _ _ hz (take_w _ _ i hn he hx) (mul_w _ _ _ ht (b := 512) rfl) (by omega) (by omega)) (by norm_num) (by omega)

/-- The bit of an item past the list's end. -/
theorem deadVec_w (hT : Total g) (x17 : IVec S5 32) (h17 : ∀ e : Fin 5, x17 (ValueIdx.ix1 e) = BitVec.ofNat 32 (Plan.cum g e.val)) (i : Fin 36) :
    deadVec x17 (ValueIdx.ix1 i) = BitVec.ofBool (decide (Plan.cum g 4 ≤ i.val)) := by
  have hc := cum_four_le hT
  have e2 : (broadcastInDim S36 ![] bcast_S_S36 (shapeCast S_ (extractStridedSlice S1 ![4] x17 slices_S5_S1_4) shapeCasts_S1_S_)) (ValueIdx.ix1 i)
      = BitVec.ofNat 32 (Plan.cum g 4) := by
    refine (bc0 bcast_S_S36 _ _).trans ?_
    refine Eq.trans ?_ (h17 4)
    refine (shapeCast_apply _ _ _ (ValueIdx.ix1 (0 : Fin 1)) (by decide)).trans ?_
    exact slice1 (m := 5) (n := 1) 4 x17 slices_S5_S1_4 0 (by norm_num)
  refine (cmpi_at ..).trans ((congrArg₂ (IntOp.cmpi .sge) (rfl : _ = BitVec.ofNat 32 i.val) e2).trans ?_)
  exact cmpi_sge_ofNat (w := 32) (by omega) (by omega)

end Entries

/-! ## The lists the second call is entered with -/

section Tables

variable (m : (ℓ : Loc nD τ sig) → Buf (Elt F) ℓ) (outs : Outs (F := F)) (c : Dev nD) {g : ℕ → ℕ}

/-- The group sizes are the words of the naturals `g`. -/
def Sized (g : ℕ → ℕ) : Prop := ∀ e : Fin 5, (m ((c : Thread nD τ).loc main_arg2) : IVec S5 32) (ValueIdx.ix1 e) = BitVec.ofNat 32 (g e.val)

variable (hg : Sized m c g) (hT : Total g)

include hg in
/-- The sizes, as words. -/
theorem arg2_at (e : Fin 5) : (V2 m outs c main_arg2 : IVec S5 32) (ValueIdx.ix1 e) = BitVec.ofNat 32 (g e.val) := by
  rw [V2_of m outs c main_arg2 (by decide), V1_of m c main_arg2 (by decide)]; exact hg e

include hg in
/-- The ends, as words. -/
theorem v3_at (e : Fin 5) : (V3 m outs c main_v3 : IVec S5 32) (ValueIdx.ix1 e) = BitVec.ofNat 32 (ends g e.val) :=
  (congrFun (s3 (V2 m outs c)) _).trans
    (cumsum1 (N := 5) (Nm1 := 4) rfl _ g (arg2_at m outs c hg) _ rfl reduceWindows_S5_S5_w5s1p4_0 h_S_ e)

include hg in
/-- The begins, as words. -/
theorem v4_at (e : Fin 5) : (V4 m outs c main_v4 : IVec S5 32) (ValueIdx.ix1 e) = BitVec.ofNat 32 (begins g e.val) :=
  (congrFun (s4 (V3 m outs c)) _).trans
    (sub_w _ _ _ (v3_at m outs c hg e) ((congrFun (V3_of m outs c main_arg2 (by decide)) _).trans (arg2_at m outs c hg e))
      (by have := begins_add (g := g) e.val; omega))

include hg hT in
/-- The tiles the begins fall in, as words. -/
theorem v5_at (e : Fin 5) : (V5 m outs c main_v5 : IVec S5 32) (ValueIdx.ix1 e) = BitVec.ofNat 32 (begins g e.val / 512) :=
  (congrFun (s5 (V4 m outs c)) _).trans
    (pyDiv_ap bcast_S_S5 _ _ _ (v4_at m outs c hg e) (congrFun (sc (V3 m outs c)) _)
      (by have := begins_le hT (e := e.val) (by omega); omega) (by norm_num) (by norm_num))

include hg hT in
/-- The first tiles, as words. -/
theorem v7_at (e : Fin 5) : (V6 m outs c main_v7 : IVec S5 32) (ValueIdx.ix1 e) = BitVec.ofNat 32 (first g e.val) :=
  (congrFun (s7 (V5 m outs c)) _).trans
    (min_w _ _ _ (v5_at m outs c hg hT e) rfl (by have := begins_le hT (e := e.val) (by omega); omega) (by norm_num))

/-- The sizes are still there some host operations later. -/
theorem arg2_keep (e : Fin 5) (hg : Sized m c g) : (V5 m outs c main_arg2 : IVec S5 32) (ValueIdx.ix1 e) = BitVec.ofNat 32 (g e.val) := by
  rw [V5_of m outs c main_arg2 (by decide), V4_of m outs c main_arg2 (by decide), V3_of m outs c main_arg2 (by decide)]
  exact arg2_at m outs c hg e

include hg hT in
/-- The bit of an expert with rows. -/
theorem v9_at (e : Fin 5) : (V6 m outs c main_v9 : IVec S5 1) (ValueIdx.ix1 e) = BitVec.ofBool (decide (0 < g e.val)) := by
  refine (congrFun (s9 (V5 m outs c)) _).trans ((cmpi_at ..).trans ((congrArg₂ (IntOp.cmpi .sgt) (arg2_keep m outs c e hg)
    (rfl : _ = BitVec.ofNat 32 0)).trans ?_))
  have := g_le hT (e := e.val) (by omega)
  exact cmpi_sgt_ofNat (w := 32) (by omega) (by norm_num)

include hg hT in
/-- The tile of an expert's last row, as a word. -/
theorem v12_at (e : Fin 5) (h : 0 < g e.val) : (V7 m outs c main_v12 : IVec S5 32) (ValueIdx.ix1 e) = BitVec.ofNat 32 ((ends g e.val - 1) / 512) := by
  have h1 := begins_add (g := g) e.val
  have h2 := ends_le hT (e := e.val) (by omega)
  have h3 : (V5 m outs c main_v3 : IVec S5 32) (ValueIdx.ix1 e) = BitVec.ofNat 32 (ends g e.val) := by
    rw [V5_of m outs c main_v3 (by decide), V4_of m outs c main_v3 (by decide)]; exact v3_at m outs c hg e
  exact (congrFun (s12 (V6 m outs c)) _).trans
    (pyDiv_ap bcast_S_S5 _ _ _ ((congrFun (s11 (V5 m outs c)) _).trans (sub_w _ _ _ (b := 1) h3 rfl (by omega)))
      (congrFun (sc3 (V5 m outs c)) _) (by omega) (by norm_num) (by norm_num))

include hg hT in
/-- The last tiles, as words. -/
theorem v13_at (e : Fin 5) : (V8 m outs c main_v13 : IVec S5 32) (ValueIdx.ix1 e) = BitVec.ofNat 32 (last g e.val) := by
  have h9 : (V7 m outs c main_v9 : IVec S5 1) (ValueIdx.ix1 e) = BitVec.ofBool (decide (0 < g e.val)) := by
    rw [V7_of m outs c main_v9 (by decide)]; exact v9_at m outs c hg hT e
  have h7 : (V7 m outs c main_v7 : IVec S5 32) (ValueIdx.ix1 e) = BitVec.ofNat 32 (first g e.val) := by
    rw [V7_of m outs c main_v7 (by decide)]; exact v7_at m outs c hg hT e
  refine (congrFun (s13 (V7 m outs c)) _).trans ((select_at ..).trans ?_)
  rw [h9, select_decide]
  unfold last
  by_cases h : 0 < g e.val
  · rw [if_pos h, if_pos h]; exact v12_at m outs c hg hT e h
  · rw [if_neg h, if_neg h]; exact h7

include hg hT in
/-- The first tiles are still there some host operations later. -/
theorem v7_at' (e : Fin 5) : (V8 m outs c main_v7 : IVec S5 32) (ValueIdx.ix1 e) = BitVec.ofNat 32 (first g e.val) := by
  rw [V8_of m outs c main_v7 (by decide), V7_of m outs c main_v7 (by decide)]; exact v7_at m outs c hg hT e

include hg hT in
/-- The running sums of the numbers of items, as words. -/
theorem v17_at (e : Fin 5) : (V10 m outs c main_v17 : IVec S5 32) (ValueIdx.ix1 e) = BitVec.ofNat 32 (Plan.cum g e.val) :=
  (congrFun (s17 (V9 m outs c)) _).trans
    (cumsum1 (N := 5) (Nm1 := 4) rfl _ (cnt g) (fun e => (congrFun (s16 (V8 m outs c)) _).trans
      (add_w _ _ _ (sub_w _ _ _ (v13_at m outs c hg hT e) (v7_at' m outs c hg hT e) (first_le_last hT (by omega))) rfl)) _ rfl
      reduceWindows_S5_S5_w5s1p4_0 h_S_ e)

include hg hT in
/-- The items' experts, as words. -/
theorem v27_at (i : Fin 36) : (V11 m outs c main_v27 : IVec S36 32) (ValueIdx.ix1 i) = BitVec.ofNat 32 (ex g i.val) :=
  (congrFun (s27 (V10 m outs c)) _).trans (exVec_w hT _ (v17_at m outs c hg hT) i)

include hg hT in
/-- The tile list computed from the tables of first tiles, last tiles and item counts, as words. -/
theorem til_at (i : Fin 36) : tilVec (V10 m outs c main_v7) (V10 m outs c main_v13) (V10 m outs c main_v17) (ValueIdx.ix1 i)
    = BitVec.ofNat 32 (til g i.val) := by
  refine tilVec_w hT _ _ _ (fun e => ?_) (fun e => ?_) (v17_at m outs c hg hT) i
  · rw [V10_of m outs c main_v7 (by decide), V9_of m outs c main_v7 (by decide)]; exact v7_at' m outs c hg hT e
  · rw [V10_of m outs c main_v13 (by decide), V9_of m outs c main_v13 (by decide)]; exact v13_at m outs c hg hT e

include hg hT in
/-- The items' tiles, as words. -/
theorem v53_at (i : Fin 36) : (V11 m outs c main_v53 : IVec S36 32) (ValueIdx.ix1 i) = BitVec.ofNat 32 (til g i.val) :=
  (congrFun (s53 (V10 m outs c)) _).trans (til_at m outs c hg hT i)

include hg hT in
/-- The lower ends of the items' row ranges, as words. -/
theorem v64_at (i : Fin 36) : (V12 m outs c main_v64 : IVec S36 32) (ValueIdx.ix1 i) = BitVec.ofNat 32 (lo g i.val) := by
  have he := ex_le (g := g) i.val
  refine (congrFun (s64 (V11 m outs c)) _).trans ?_
  rw [show V11 m outs c main_v63 = _ from s63 (V10 m outs c)]
  refine clipOff_w _ _ _ _ _ i he (exVec_w hT _ (v17_at m outs c hg hT) i) (til_at m outs c hg hT i) (til_le _) (a := begins g (ex g i.val)) ?_
    (begins_le hT he) ?_ ?_
  · rw [V10_of m outs c main_v4 (by decide), V9_of m outs c main_v4 (by decide), V8_of m outs c main_v4 (by decide), V7_of m outs c main_v4 (by decide),
      V6_of m outs c main_v4 (by decide), V5_of m outs c main_v4 (by decide)]
    exact v4_at m outs c hg _
  · exact congrFun (sc16 (V10 m outs c)) _
  · exact congrFun (sc17 (V10 m outs c)) _

include hg hT in
/-- The upper ends of the items' row ranges, as words, before the items past the list's end are emptied. -/
theorem v75_at (i : Fin 36) : (V14 m outs c main_v75 : IVec S36 32) (ValueIdx.ix1 i)
    = BitVec.ofNat 32 (min 512 (ends g (ex g i.val) - til g i.val * 512)) := by
  have he := ex_le (g := g) i.val
  refine (congrFun (s75 (V13 m outs c)) _).trans ?_
  rw [show V13 m outs c main_v74 = _ from s74 (V12 m outs c)]
  refine clipOff_w _ _ _ _ _ i he ?_ ?_ (til_le _) (a := ends g (ex g i.val)) ?_ (ends_le hT he) ?_ ?_
  · rw [V12_of m outs c main_v27 (by decide)]; exact v27_at m outs c hg hT i
  · rw [V12_of m outs c main_v53 (by decide)]; exact v53_at m outs c hg hT i
  · rw [V12_of m outs c main_v3 (by decide), V11_of m outs c main_v3 (by decide), V10_of m outs c main_v3 (by decide), V9_of m outs c main_v3 (by decide),
      V8_of m outs c main_v3 (by decide), V7_of m outs c main_v3 (by decide), V6_of m outs c main_v3 (by decide), V5_of m outs c main_v3 (by decide),
      V4_of m outs c main_v3 (by decide)]
    exact v3_at m outs c hg _
  · exact congrFun (sc21 (V12 m outs c)) _
  · exact congrFun (sc22 (V12 m outs c)) _

/-- The tiles the second call is entered with. -/
theorem table0 (hg : Sized m c g) (hT : Total g) (i : Fin 36) : (V16 m outs c main_v53 : IVec S36 32) (ValueIdx.ix1 i) = BitVec.ofNat 32 (til g i.val) := by
  rw [V16_of m outs c main_v53 (by decide), V15_of m outs c main_v53 (by decide), V14_of m outs c main_v53 (by decide), V13_of m outs c main_v53 (by decide),
    V12_of m outs c main_v53 (by decide)]
  exact v53_at m outs c hg hT i

/-- The experts. -/
theorem table1 (hg : Sized m c g) (hT : Total g) (i : Fin 36) : (V16 m outs c main_v27 : IVec S36 32) (ValueIdx.ix1 i) = BitVec.ofNat 32 (ex g i.val) := by
  rw [V16_of m outs c main_v27 (by decide), V15_of m outs c main_v27 (by decide), V14_of m outs c main_v27 (by decide), V13_of m outs c main_v27 (by decide),
    V12_of m outs c main_v27 (by decide)]
  exact v27_at m outs c hg hT i

/-- The first rows. -/
theorem table2 (hg : Sized m c g) (hT : Total g) (i : Fin 36) : (V16 m outs c main_v64 : IVec S36 32) (ValueIdx.ix1 i) = BitVec.ofNat 32 (lo g i.val) := by
  rw [V16_of m outs c main_v64 (by decide), V15_of m outs c main_v64 (by decide), V14_of m outs c main_v64 (by decide), V13_of m outs c main_v64 (by decide)]
  exact v64_at m outs c hg hT i

/-- The rows after the last ones. -/
theorem table3 (hg : Sized m c g) (hT : Total g) (i : Fin 36) : (V16 m outs c main_v76 : IVec S36 32) (ValueIdx.ix1 i) = BitVec.ofNat 32 (hi g i.val) := by
  have h51 : (V15 m outs c main_v51 : IVec S36 1) (ValueIdx.ix1 i) = BitVec.ofBool (decide (Plan.cum g 4 ≤ i.val)) := by
    rw [V15_of m outs c main_v51 (by decide), V14_of m outs c main_v51 (by decide), V13_of m outs c main_v51 (by decide), V12_of m outs c main_v51 (by decide)]
    exact (congrFun (s51 (V10 m outs c)) _).trans (deadVec_w hT _ (v17_at m outs c hg hT) i)
  have h75 : (V15 m outs c main_v75 : IVec S36 32) (ValueIdx.ix1 i) = BitVec.ofNat 32 (min 512 (ends g (ex g i.val) - til g i.val * 512)) := by
    rw [V15_of m outs c main_v75 (by decide)]; exact v75_at m outs c hg hT i
  refine (congrFun (s76 (V15 m outs c)) _).trans ((select_at ..).trans ?_)
  rw [h51, select_decide, h75]
  unfold hi
  by_cases h : Plan.cum g 4 ≤ i.val
  · rw [if_pos h, if_pos h]; exact congrFun (sc23 (V14 m outs c)) _
  · rw [if_neg h, if_neg h]

end Tables

end Cert.Kernel.Work

end
-- ==== Proof.K.Admit.lean ====
/-
  The work lists as the plan's numbers, the second kernel call's index maps at them, and that every block they address is inside its array.
-/
module

public import proofs.«01_k».proof.Proof.K.Lists

@[expose] public section

set_option maxRecDepth 16384

noncomputable section

namespace Cert.Kernel.Work

open Cert.Kernel.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Cert.Plan

/-- The four work lists hold the plan's numbers for group sizes `g`. -/
structure Planned (pf : pre1.Contents (Elt F)) (g : ℕ → ℕ) : Prop where
  tile : ∀ i : Fin 36, tileL pf (ValueIdx.ix1 i) = BitVec.ofNat 32 (til g i.val)
  expert : ∀ i : Fin 36, expertL pf (ValueIdx.ix1 i) = BitVec.ofNat 32 (ex g i.val)
  lo : ∀ i : Fin 36, loL pf (ValueIdx.ix1 i) = BitVec.ofNat 32 (lo g i.val)
  hi : ∀ i : Fin 36, hiL pf (ValueIdx.ix1 i) = BitVec.ofNat 32 (hi g i.val)

/-- The lists the second call is entered with are the plan's. -/
theorem planned (m : (ℓ : Loc nD τ sig) → Buf (Elt F) ℓ) (c : Dev nD) {g : ℕ → ℕ} (hg : Sized m c g) (hT : Total g) : Planned (lists m c) g where
  tile := table0 m (outs0 m) c hg hT
  expert := table1 m (outs0 m) c hg hT
  lo := table2 m (outs0 m) c hg hT
  hi := table3 m (outs0 m) c hg hT

section Maps

variable {pf : pre1.Contents (Elt F)} {g : ℕ → ℕ} (hP : Planned pf g) (i : grid1.Coords)

/-- The place in the lists that an index map reads. -/
theorem list_ix (h : ∀ a, (k1_off1 i) a + S1.size a ≤ S36.size a) (h1 : 0 < (Rect.unit (s := S36) (k1_off1 i) S1.size h).shape.numel) :
    (Rect.unit (s := S36) (k1_off1 i) S1.size h).emb (Shape.Idx.first h1) = ValueIdx.ix1 (⟨(i 1).val, (i 1).isLt⟩ : Fin 36) := by
  funext d
  match d with
  | ⟨0, _⟩ =>
    apply Fin.ext
    have hlt : ((Shape.Idx.first h1 : (Rect.unit (s := S36) (k1_off1 i) S1.size h).shape.Idx) 0).val < 1 := (Shape.Idx.first h1 0).isLt
    have e := congrFun (off1_eq i) 0
    show (k1_off1 i) 0 + 1 * _ = (i 1).val
    rw [e]
    show (i 1).val + 1 * ((Shape.Idx.first h1 : (Rect.unit (s := S36) (k1_off1 i) S1.size h).shape.Idx) 0).val = (i 1).val
    omega

include hP in
/-- The tile word the body and the index maps read at a point. -/
theorem tile_at (h1 : S1.numel = 1) : pf.at 0 (Rect.unit (s := S36) (k1_off1 i) S1.size (k1_off1_inb i)) h1 = BitVec.ofNat 32 (til g (i 1).val) :=
  (congrArg (tileL pf) (list_ix i (k1_off1_inb i) _)).trans (hP.tile ⟨(i 1).val, (i 1).isLt⟩)

include hP in
/-- The expert word read at a point. -/
theorem expert_at (h1 : S1.numel = 1) : pf.at 1 (Rect.unit (s := S36) (k1_off1 i) S1.size (k1_off1_inb i)) h1 = BitVec.ofNat 32 (ex g (i 1).val) :=
  (congrArg (expertL pf) (list_ix i (k1_off1_inb i) _)).trans (hP.expert ⟨(i 1).val, (i 1).isLt⟩)

/-- A natural below 2^32 is what its word reads back as. -/
theorem ofNat_toNat {n : ℕ} (h : n < 2 ^ 32) : (BitVec.ofNat 32 n).toNat = n := by
  rw [BitVec.toNat_ofNat]; exact Nat.mod_eq_of_lt h

/-- A point's first coordinate, the column block, is one of six. -/
theorem coord0_lt : (i 0).val < 6 := (i 0).isLt

include hP in
/-- The block of `x` at a point: the item's tile and the column block. -/
theorem tr0 : cc1_transform_0 k1_off1_inb numel1_S1 pf i = ![til g (i 1).val, (i 0).val] := by
  show ![(pf.at 0 (Rect.unit (s := S36) (k1_off1 i) S1.size (k1_off1_inb i)) numel1_S1 : BitVec 32).toNat, (BitVec.ofNat 32 (i 0).val).toNat] = _
  have := til_le (g := g) (i 1).val
  have := coord0_lt i
  rw [tile_at hP i, ofNat_toNat (by omega), ofNat_toNat (by omega)]

include hP in
/-- The block of the transposed `dy` at a point: the item's tile. -/
theorem tr1 : cc1_transform_1 k1_off1_inb numel1_S1 pf i = ![0, til g (i 1).val] := by
  show ![0, (pf.at 0 (Rect.unit (s := S36) (k1_off1 i) S1.size (k1_off1_inb i)) numel1_S1 : BitVec 32).toNat] = _
  have := til_le (g := g) (i 1).val
  rw [tile_at hP i, ofNat_toNat (by omega)]

include hP in
/-- The block of the gradient at a point: the item's expert and the column block. -/
theorem tr2 : cc1_transform_2 k1_off1_inb numel1_S1 pf i = ![ex g (i 1).val, 0, (i 0).val] := by
  show ![(pf.at 1 (Rect.unit (s := S36) (k1_off1 i) S1.size (k1_off1_inb i)) numel1_S1 : BitVec 32).toNat, 0, (BitVec.ofNat 32 (i 0).val).toNat] = _
  have := ex_le (g := g) (i 1).val
  have := coord0_lt i
  rw [expert_at hP i, ofNat_toNat (by omega), ofNat_toNat (by omega)]

include hP in
/-- The block of the codes at a point: that of `x`. -/
theorem tr3 : cc1_transform_3 k1_off1_inb numel1_S1 pf i = ![til g (i 1).val, (i 0).val] := tr0 hP i

/-- The scale's block: half the tile's number, as the floor division by two prints. -/
theorem half_word {t : ℕ} (ht : t ≤ 31) : ∀ v : BitVec 32, v = BitVec.ofNat 32 t →
    (Scalar.select (Scalar.andi (Scalar.cmpi .ne (Scalar.subi (Scalar.extui (Scalar.cmpi .sgt v 0#32)) (Scalar.extui (Scalar.cmpi .slt v 0#32)))
        (Scalar.subi (Scalar.extui (Scalar.cmpi .sgt 2#32 0#32)) (Scalar.extui (Scalar.cmpi .slt 2#32 0#32))))
      (Scalar.cmpi .ne (Scalar.remsi v 2#32) 0#32)) (Scalar.subi (Scalar.divsi v 2#32) 1#32) (Scalar.divsi v 2#32) : BitVec 32).toNat = t / 2 := by
  rintro v rfl
  interval_cases t <;> rfl

include hP in
/-- The block of the scales at a point: two tiles share one. -/
theorem tr4 : cc1_transform_4 k1_off1_inb numel1_S1 pf i = ![til g (i 1).val / 2, (i 0).val] := by
  have := coord0_lt i
  have h := half_word (til_le (g := g) (i 1).val) _ (tile_at hP i numel1_S1)
  have e : cc1_transform_4 k1_off1_inb numel1_S1 pf i 0 = til g (i 1).val / 2 := h
  have e' : cc1_transform_4 k1_off1_inb numel1_S1 pf i 1 = (i 0).val := ofNat_toNat (n := (i 0).val) (by omega)
  funext a
  match a with
  | ⟨0, _⟩ => exact e
  | ⟨1, _⟩ => exact e'

end Maps

/-- The plan's lists address only blocks inside the arrays. -/
theorem ok_of_planned {pf : pre1.Contents (Elt F)} {g : ℕ → ℕ} (hP : Planned pf g) : ok1 pf := by
  refine ⟨fun i => ⟨?_, ?_⟩, fun i => ⟨?_, ?_⟩, fun i => ⟨?_, ?_⟩, fun i => ⟨?_, ?_⟩, fun i => ⟨?_, ?_⟩⟩
  · rw [tr0 hP i]
    have := til_le (g := g) (i 1).val
    have := coord0_lt i
    intro a
    match a with
    | ⟨0, _⟩ => show (til g (i 1).val + 1) * 512 ≤ 16384; omega
    | ⟨1, _⟩ => show ((i 0).val + 1) * 2048 ≤ 12288; omega
  · exact .inr (Affine.block_words_dvd (by decide) (by decide))
  · rw [tr1 hP i]
    have := til_le (g := g) (i 1).val
    intro a
    match a with
    | ⟨0, _⟩ => show (0 + 1) * 1792 ≤ 1792; omega
    | ⟨1, _⟩ => show (til g (i 1).val + 1) * 512 ≤ 16384; omega
  · exact .inr (Affine.block_words_dvd (by decide) (by decide))
  · rw [tr2 hP i]
    have := ex_le (g := g) (i 1).val
    have := coord0_lt i
    intro a
    match a with
    | ⟨0, _⟩ => show (ex g (i 1).val + 1) * 1 ≤ 5; omega
    | ⟨1, _⟩ => show (0 + 1) * 1792 ≤ 1792; omega
    | ⟨2, _⟩ => show ((i 0).val + 1) * 2048 ≤ 12288; omega
  · exact .inl rfl
  · rw [tr3 hP i]
    have := til_le (g := g) (i 1).val
    have := coord0_lt i
    intro a
    match a with
    | ⟨0, _⟩ => show (til g (i 1).val + 1) * 512 ≤ 16384; omega
    | ⟨1, _⟩ => show ((i 0).val + 1) * 2048 ≤ 12288; omega
  · exact .inr (Affine.block_words_dvd (by decide) (by decide))
  · rw [tr4 hP i]
    have := til_le (g := g) (i 1).val
    have := coord0_lt i
    intro a
    match a with
    | ⟨0, _⟩ => show (til g (i 1).val / 2 + 1) * 8 ≤ 128; omega
    | ⟨1, _⟩ => show ((i 0).val + 1) * 2048 ≤ 12288; omega
  · exact .inl rfl

end Cert.Kernel.Work

end
-- ==== Proof.Pre.lean ====
/-
  What the precondition on the group sizes says: they partition the 16384 rows.
-/
module

public import proofs.«01_k».proof.Pre_sizes
public import proofs.«01_k».proof.Proof.Plan
public import Idealize.ShloMosaic.Lib.ReduceAll
public import Idealize.ShloMosaic.Lib.Routing.Words

@[expose] public section

namespace Cert.Plan

open Idealize.ShloMosaic Idealize.ShloMosaic.ValueIdx Idealize.ShloMosaic.Routing Idealize.ShloMosaic.WordCmp

variable {F : FTy → Type} [FloatOps F]

/-- Both operands of a conjunction of bits are set. -/
theorem and_one {a b : BitVec 1} (h : a &&& b = 1#1) : a = 1#1 ∧ b = 1#1 := by
  revert h; revert a b; decide

/-- An index of no axes is the only one. -/
theorem sub0 (i j : (shape0).Idx) : i = j := funext fun a => a.elim0

instance : Subsingleton (shape0).Idx := ⟨sub0⟩

/-- The sizes as naturals. -/
def sizesOf (x : IVec (shape1 5) 32) (e : ℕ) : ℕ := (x (ix1 (Fin.ofNat 5 e))).toNat

/-- A size is the word of its natural. -/
theorem sizesOf_eq (x : IVec (shape1 5) 32) (e : Fin 5) : x (ix1 e) = BitVec.ofNat 32 (sizesOf x e.val) := by
  unfold sizesOf
  rw [BitVec.ofNat_toNat, BitVec.setWidth_eq]
  congr 2
  exact Fin.ext (Nat.mod_eq_of_lt e.isLt).symm

/-- Sizes that are signed nonnegative, at most 16384, and whose words add up to 16384 partition the rows. -/
theorem total_of (x : IVec (shape1 5) 32) (h0 : ∀ e, IntOp.cmpi .sge (x (ix1 e)) 0#32 = 1#1) (h1 : ∀ e, IntOp.cmpi .sle (x (ix1 e)) 16384#32 = 1#1)
    (hr : (shape1 5).ReducesTo [0] shape0) (hu : 0 < shape0.numel)
    (hs : IntOp.cmpi .eq (Host.reduce IntOp.addi x (constantI shape0 32 0#32) hr hu ix0) 16384#32 = 1#1) : Total (sizesOf x) := by
  have hb : ∀ e : Fin 5, sizesOf x e.val ≤ 16384 := fun e => by
    have a := h0 e
    have b := h1 e
    have he := sizesOf_eq x e
    have hx : (x (ix1 e)).toNat = sizesOf x e.val := by
      have := congrArg BitVec.toNat he
      rw [BitVec.toNat_ofNat, Nat.mod_eq_of_lt (by unfold sizesOf; exact (x _).isLt)] at this
      exact this
    have hn : sizesOf x e.val < 2 ^ 31 := by
      by_contra hc
      have : IntOp.cmpi .sge (x (ix1 e)) 0#32 = 0#1 := by
        show BitVec.ofBool (BitVec.sle 0#32 (x (ix1 e))) = 0#1
        have : BitVec.sle 0#32 (x (ix1 e)) = false := by
          rw [← Bool.not_eq_true, BitVec.sle_iff_toInt_le, BitVec.toInt_eq_toNat_cond, BitVec.toInt_eq_toNat_cond]
          simp only [BitVec.toNat_ofNat]
          have := (x (ix1 e)).isLt
          rw [hx] at *
          split_ifs <;> omega
        rw [this]; rfl
      rw [this] at a
      exact absurd a (by decide)
    rw [he, show (16384#32 : BitVec 32) = BitVec.ofNat 32 16384 from rfl] at b
    exact (cmpi_sle_ofNat_eq_one_iff (w := 32) (by omega) (by norm_num)).1 b
  have h2 : ((List.range 5).map (sizesOf x)).sum = ends (sizesOf x) 4 := rfl
  rw [reduce_sum (N := 5) x (sizesOf x) (sizesOf_eq x) hr hu, h2] at hs
  have hlt : ends (sizesOf x) 4 ≤ 5 * 16384 := by
    have h0 : sizesOf x 0 ≤ 16384 := hb 0
    have h1 : sizesOf x 1 ≤ 16384 := hb 1
    have h2 : sizesOf x 2 ≤ 16384 := hb 2
    have h3 : sizesOf x 3 ≤ 16384 := hb 3
    have h4 : sizesOf x 4 ≤ 16384 := hb 4
    show pre (sizesOf x) 5 ≤ _
    rw [pre_succ, pre_succ, pre_succ, pre_succ, pre_succ, pre_zero]
    omega
  rw [show (16384#32 : BitVec 32) = BitVec.ofNat 32 16384 from rfl] at hs
  exact (cmpi_eq_ofNat_eq_one_iff (w := 32) (by omega) (by norm_num)).1 hs

section Sizes

variable [Cert.Pre_sizes.Facts]

/-- What `sizes` says. -/
theorem total_of_sizes {x : FVec F Pre_sizes.S2x8192x12288 .bf16} {y : FVec F Pre_sizes.S2x8192x1792 .bf16} {z : IVec Pre_sizes.S5 32}
    (h : Pre_sizes.fn (F := F) x y z = fun _ => 1#1) : Total (sizesOf z) := by
  obtain ⟨h', hs⟩ := and_one (congrFun h ix0)
  obtain ⟨ha, hb⟩ := and_one h'
  refine total_of z (fun e => ?_) (fun e => ?_) _ _ hs
  · exact Host.reduce_andi_all _ _ _ _ ix0 ha (ix1 e)
  · exact Host.reduce_andi_all _ _ _ _ ix0 hb (ix1 e)

end Sizes

end Cert.Plan

end
-- ==== Proof.K.FrameOf.lean ====
/-
  The frame: under a partition of the rows the program runs, leaves its arguments as they were and every semaphore at zero.
-/
module

public import proofs.«01_k».proof.Proof.K.Admit
public import proofs.«01_k».proof.Proof.Pre

@[expose] public section

set_option maxRecDepth 16384

noncomputable section

namespace Cert.Kernel.Work

open Cert.Kernel.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Cert.Plan

variable (m : (ℓ : Loc nD τ sig) → Buf (Elt F) ℓ) (ρ : Dev nD → PrngReg)

/-- The group sizes of a memory. -/
abbrev gs (c : Dev nD) : ℕ → ℕ := sizesOf (m ((c : Thread nD τ).loc main_arg2))

/-- The sizes argument holds the words of the naturals `gs`. -/
theorem sized (c : Dev nD) : Sized m c (gs m c) := fun e => sizesOf_eq _ e

/-- The lists are admissible for a partition of the rows. -/
theorem lists_ok (hT : Total (gs m 0)) : ok1 (lists m 0) := ok_of_planned (planned m 0 (sized m 0) hT)

/-- The program's run with its arguments unchanged. -/
theorem frame_of (hT : Total (gs m 0)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (run_main m (lists_ok m hT) ρ).mono fun r h => ⟨fun c => ?_, h.2⟩
  exact (h.1 c).args

end Cert.Kernel.Work

end
-- ==== Proof.KI.Body1.lean ====
/-
  The body of the `wgrad` kernel, run on whole staging memrefs: what its stores leave in each buffer.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Work

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The second body's run at a point: from what its windows hold before to what they hold after. -/
noncomputable def kernelRun1 (c : Dev nD) (i : grid1.Coords)
    (arg2 : Memref sig .tc .smem S36 .i32) (harg2 : arg2.IsWhole) (arg3 : Memref sig .tc .smem S36 .i32) (harg3 : arg3.IsWhole) (arg4 : Memref sig .tc .smem S36 .i32) (harg4 : arg4.IsWhole) (arg5 : Memref sig .tc .smem S36 .i32) (harg5 : arg5.IsWhole) (arg6 : Memref sig .tc .vmem S512x2048 .bf16) (harg6 : arg6.IsWhole) (arg7 : Memref sig .tc .vmem S1792x512 .bf16) (harg7 : arg7.IsWhole) (arg8 : Memref sig .tc .vmem S1x1792x2048 .f32) (harg8 : arg8.IsWhole) (arg9 : Memref sig .tc .vmem S512x2048 .fp8e4m3) (harg9 : arg9.IsWhole) (arg10 : Memref sig .tc .vmem S8x2048 .f32) (harg10 : arg10.IsWhole) (arg11 : Memref sig .tc .vmem S512x2048 .bf16) (harg11 : arg11.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ)))
    (hw : ∀ v, k1_chk1 v) :
    Σ' (g8 : Buf (Elt F) (arg8.view.loc (c : Thread nD τ))), Σ' (g9 : Buf (Elt F) (arg9.view.loc (c : Thread nD τ))), Σ' (g10 : Buf (Elt F) (arg10.view.loc (c : Thread nD τ))), { g11 : Buf (Elt F) (arg11.view.loc (c : Thread nD τ)) //
      ∀ (E : Set ℕ) (K : PUnit → sProp 𝕄),
        iprop((arg2.view.loc (c : Thread nD τ) ↦[arg2.view.set]{fullShare} f2) ∗ (arg3.view.loc (c : Thread nD τ) ↦[arg3.view.set]{fullShare} f3)
            ∗ (arg4.view.loc (c : Thread nD τ) ↦[arg4.view.set]{fullShare} f4) ∗ (arg5.view.loc (c : Thread nD τ) ↦[arg5.view.set]{fullShare} f5)
            ∗ (arg6.view.loc (c : Thread nD τ) ↦[arg6.view.set]{fullShare} f6) ∗ (arg7.view.loc (c : Thread nD τ) ↦[arg7.view.set]{fullShare} f7)
            ∗ (arg8.view.loc (c : Thread nD τ) ↦[arg8.view.set]{fullShare} f8) ∗ (arg9.view.loc (c : Thread nD τ) ↦[arg9.view.set]{fullShare} f9)
            ∗ (arg10.view.loc (c : Thread nD τ) ↦[arg10.view.set]{fullShare} f10) ∗ (arg11.view.loc (c : Thread nD τ) ↦[arg11.view.set]{fullShare} f11)
            ∗ (iprop((arg2.view.loc (c : Thread nD τ) ↦[arg2.view.set]{fullShare} f2) ∗ (arg3.view.loc (c : Thread nD τ) ↦[arg3.view.set]{fullShare} f3)
            ∗ (arg4.view.loc (c : Thread nD τ) ↦[arg4.view.set]{fullShare} f4) ∗ (arg5.view.loc (c : Thread nD τ) ↦[arg5.view.set]{fullShare} f5)
            ∗ (arg6.view.loc (c : Thread nD τ) ↦[arg6.view.set]{fullShare} f6) ∗ (arg7.view.loc (c : Thread nD τ) ↦[arg7.view.set]{fullShare} f7)
            ∗ (arg8.view.loc (c : Thread nD τ) ↦[arg8.view.set]{fullShare} g8) ∗ (arg9.view.loc (c : Thread nD τ) ↦[arg9.view.set]{fullShare} g9)
            ∗ (arg10.view.loc (c : Thread nD τ) ↦[arg10.view.set]{fullShare} g10) ∗ (arg11.view.loc (c : Thread nD τ) ↦[arg11.view.set]{fullShare} g11)) -∗ K ⟨⟩))
          ⊢ wp frame (wpE (defs₀ (F := F)) Variants.none c none) E (cc1_wgrad i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_wgrad_eq_skeleton]; unfold cc1_wgrad_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton]
    iintro ⟨H2, H3, H4, H5, H6, H7, H8, H9, H10, H11, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Work

end
-- ==== Proof.KI.Read1.lean ====
/-
  What the body of `wgrad` leaves in its buffers, as blocks made of the sixteen groups it quantises.
-/
module

public import proofs.«01_k».proof.Proof.KI.Body1
public import proofs.«01_k».proof.Proof.Quant

@[expose] public section

set_option maxRecDepth 16384

noncomputable section

namespace Cert.KernelIdeal.Work

open Cert.KernelIdeal.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The row offset of a stripe's scales -/

/-- The remainder by 2 the kernel computes of a word, whatever the word: its lowest bit. -/
theorem rem2 (v : BitVec 32) :
    Scalar.select (Scalar.andi (Scalar.xori (Scalar.cmpi .slt (Scalar.remsi v 2#32) 0#32) (Scalar.cmpi .slt 2#32 0#32)) (Scalar.cmpi .ne (Scalar.remsi v 2#32) 0#32))
      (Scalar.addi (Scalar.remsi v 2#32) 2#32) (Scalar.remsi v 2#32) = BitVec.ofNat 32 (v.toNat % 2) := by
  have h1 : Scalar.remsi v 2#32 = v.srem 2#32 := by
    show (if IntOp.SDivCorner v 2#32 then _ else _) = _
    rw [if_neg]
    simp [IntOp.SDivCorner]
  have hm : v.srem 2#32 = BitVec.ofInt 32 (v.toInt.tmod 2) := by
    apply BitVec.eq_of_toInt_eq
    rw [BitVec.toInt_srem, BitVec.toInt_ofInt]
    show v.toInt.tmod 2 = _
    have := Int.tmod_lt_of_pos v.toInt (show (0:ℤ) < 2 by omega)
    have := Int.lt_tmod_of_pos v.toInt (show (0:ℤ) < 2 by omega)
    rw [Int.bmod_eq_of_le_mul_two] <;> omega
  have hv : v.toInt = v.toNat ∨ v.toInt = v.toNat - 4294967296 := by
    rw [BitVec.toInt_eq_toNat_cond]; split
    · left; rfl
    · right; rfl
  have e := Int.tmod_add_mul_tdiv v.toInt 2
  have l1 := Int.tmod_lt_of_pos v.toInt (show (0:ℤ) < 2 by omega)
  have l2 := Int.lt_tmod_of_pos v.toInt (show (0:ℤ) < 2 by omega)
  rw [h1, hm]
  have : v.toInt.tmod 2 = 0 ∧ v.toNat % 2 = 0 ∨ v.toInt.tmod 2 = 1 ∧ v.toNat % 2 = 1 ∨ v.toInt.tmod 2 = -1 ∧ v.toNat % 2 = 1 := by omega
  rcases this with ⟨a, b⟩ | ⟨a, b⟩ | ⟨a, b⟩ <;> rw [a, b] <;> decide

/-- Each word's offset check holds: the offsets depend on the word's lowest bit alone. -/
theorem off_eq (v : BitVec 32) (r : ℕ) (hr : r < 4) :
    k1_off3 v (BitVec.ofNat 32 r) = ![4 * (v.toNat % 2) + r, 0] ∧ k1_off4 v (BitVec.ofNat 32 r) = ![4 * (v.toNat % 2) + r, 512] ∧
    k1_off5 v (BitVec.ofNat 32 r) = ![4 * (v.toNat % 2) + r, 1024] ∧ k1_off6 v (BitVec.ofNat 32 r) = ![4 * (v.toNat % 2) + r, 1536] := by
  have key : (Scalar.indexCast (Scalar.addi (Scalar.muli (Scalar.select (Scalar.andi (Scalar.xori (Scalar.cmpi .slt (Scalar.remsi v 2#32) 0#32) (Scalar.cmpi .slt 2#32 0#32)) (Scalar.cmpi .ne (Scalar.remsi v 2#32) 0#32))
      (Scalar.addi (Scalar.remsi v 2#32) 2#32) (Scalar.remsi v 2#32)) 4#32) (BitVec.ofNat 32 r)) : Index).toNat = 4 * (v.toNat % 2) + r := by
    rw [rem2]
    have h2 : v.toNat % 2 < 2 := Nat.mod_lt _ (by omega)
    generalize v.toNat % 2 = p at h2
    interval_cases p <;> interval_cases r <;> rfl
  refine ⟨?_, ?_, ?_, ?_⟩
  · show ![_, 0] = _; exact congrArg (fun n => ![n, 0]) key
  · show ![_, 512] = _; exact congrArg (fun n => ![n, 512]) key
  · show ![_, 1024] = _; exact congrArg (fun n => ![n, 1024]) key
  · show ![_, 1536] = _; exact congrArg (fun n => ![n, 1536]) key

/-- So the body's check holds of every word. -/
theorem chk1 (v : BitVec 32) : k1_chk1 v := by
  have h2 : v.toNat % 2 < 2 := Nat.mod_lt _ (by omega)
  refine ⟨fun r a => ?_, fun r a => ?_, fun r a => ?_, fun r a => ?_⟩
  · rw [(off_eq v r r.isLt).1]; have := r.isLt; match a with
      | ⟨0, _⟩ => show 4 * (v.toNat % 2) + r.val + 1 ≤ 8; omega
      | ⟨1, _⟩ => show 0 + 512 ≤ 2048; omega
  · rw [(off_eq v r r.isLt).2.1]; have := r.isLt; match a with
      | ⟨0, _⟩ => show 4 * (v.toNat % 2) + r.val + 1 ≤ 8; omega
      | ⟨1, _⟩ => show 512 + 512 ≤ 2048; omega
  · rw [(off_eq v r r.isLt).2.2.1]; have := r.isLt; match a with
      | ⟨0, _⟩ => show 4 * (v.toNat % 2) + r.val + 1 ≤ 8; omega
      | ⟨1, _⟩ => show 1024 + 512 ≤ 2048; omega
  · rw [(off_eq v r r.isLt).2.2.2]; have := r.isLt; match a with
      | ⟨0, _⟩ => show 4 * (v.toNat % 2) + r.val + 1 ≤ 8; omega
      | ⟨1, _⟩ => show 1536 + 512 ≤ 2048; omega

/-! ## The blocks -/

/-- The shape facts of a group of 512 columns. -/
theorem shapes1 : Quant.Shapes 512 where
  same := shapeCasts_S128x512_S128x512
  split := shapeCasts_S128x512_S8x16x512
  red8 := reduces_S8x16x512_S16x512
  red16 := reduces_S16x512_S512
  row := shapeCasts_S512_S1x512
  iota := iota_S255x512_d0_w32
  bc255 := broadcasts_S1x512_S255x512
  red255 := reduces_S255x512_S512
  bc128 := broadcasts_S1x512_S128x512

/-- The codes of a tile of x: each group's own. -/
def codesB1 (x : Vec F S512x2048 .bf16) : Vec F S512x2048 .fp8e4m3 :=
  tile 512 2048 (r := 128) (c := 512) fun g n => Quant.codes shapes1 (chunk 128 512 x g n)

/-- The tile's scales: one row per group. -/
def scaleB1 (x : Vec F S512x2048 .bf16) : Vec F ⟨2, ![4, 2048]⟩ .f32 :=
  tile 4 2048 (r := 1) (c := 512) fun g n => Quant.scale shapes1 (chunk 128 512 x g n)

/-- A group dequantised, zero outside the rows from `lo` to `hi` of the tile, the group's first row being row `base`. -/
def maskC (base lo hi : BitVec 32) (v : Vec F S128x512 .bf16) : Vec F S128x512 .bf16 :=
  shapeCast S128x512 (select (andi (cmpi .sge (addi (iota .tc S128x512 32 [0] iota_S128x512_d0_w32) (broadcast S128x512 base)) (broadcast S128x512 lo))
      (cmpi .slt (addi (iota .tc S128x512 32 [0] iota_S128x512_d0_w32) (broadcast S128x512 base)) (broadcast S128x512 hi)))
    (Quant.deq shapes1 v) (broadcast S128x512 (Scalar.ofBits .bf16 0x0000#16))) shapeCasts_S128x512_S128x512

/-- The tile dequantised, zero outside the rows from `lo` to `hi`. -/
def maskB (lo hi : BitVec 32) (x : Vec F S512x2048 .bf16) : Vec F S512x2048 .bf16 :=
  tile 512 2048 (r := 128) (c := 512) fun g n => maskC (BitVec.ofNat 32 (128 * g)) lo hi (chunk 128 512 x g n)

/-- The 512 columns from `512 * n` of a block of the output. -/
def cols3 (y : Vec F S1x1792x2048 .f32) (n : ℕ) : Vec F S1x1792x512 .f32 :=
  fun z => y (ix3 (z 0) (z 1) (Fin.ofNat 2048 (512 * n + (z 2).val)))

/-- One step's block of the output: the product of the two tiles added. -/
def accB (y : Vec F S1x1792x2048 .f32) (d : Vec F S1792x512 .bf16) (w : Vec F S512x2048 .bf16) : Vec F S1x1792x2048 .f32 :=
  fun y' => k1_pay3 (cols3 y ((y' 2).val / 512)) d (chunk 512 512 w 0 ((y' 2).val / 512)) (ix3 (y' 0) (y' 1) (Fin.ofNat 512 (y' 2).val))

variable (c : Dev nD) (i : grid1.Coords)
    (arg2 : Memref sig .tc .smem S36 .i32) (harg2 : arg2.IsWhole) (arg3 : Memref sig .tc .smem S36 .i32) (harg3 : arg3.IsWhole) (arg4 : Memref sig .tc .smem S36 .i32) (harg4 : arg4.IsWhole) (arg5 : Memref sig .tc .smem S36 .i32) (harg5 : arg5.IsWhole)
    (arg6 : Memref sig .tc .vmem S512x2048 .bf16) (harg6 : arg6.IsWhole) (arg7 : Memref sig .tc .vmem S1792x512 .bf16) (harg7 : arg7.IsWhole) (arg8 : Memref sig .tc .vmem S1x1792x2048 .f32) (harg8 : arg8.IsWhole)
    (arg9 : Memref sig .tc .vmem S512x2048 .fp8e4m3) (harg9 : arg9.IsWhole) (arg10 : Memref sig .tc .vmem S8x2048 .f32) (harg10 : arg10.IsWhole) (arg11 : Memref sig .tc .vmem S512x2048 .bf16) (harg11 : arg11.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ)))
    (hw : ∀ v, k1_chk1 v)

set_option maxHeartbeats 4000000 in
/-- The codes' buffer reads the tile's codes. -/
theorem read_codes1 : arg9.view.read (Elt F) (arg9.view.writes (Elt F) f9 (kernelRun1.sl.H9_16 c arg6 f6)) = codesB1 (arg6.view.read (Elt F) f6) := by
  refine read_pieces _ _ _ _ S128x512.size (by sl_kernel_rfl) ?_
  have h : ∀ g n {off : Fin 2 → ℕ} (hoff : off = ![128 * g, 512 * n]) (inb), Quant.codes shapes1 (arg6.view.readAt (Elt F) (Rect.unit (s := S512x2048) off ![128, 512] inb).toLoadRect f6) = Quant.codes shapes1 (chunk 128 512 (arg6.view.read (Elt F) f6) g n) :=
    fun g n off hoff inb => congrArg _ (readAt_chunk _ _ g n hoff inb)
  unfold kernelRun1.sl.H9_16
  simp only [List.forall_mem_cons, List.not_mem_nil, false_implies, implies_true, and_true]
  exact ⟨piece_tile _ 3 3 rfl _ _ (h 3 3 rfl inb_S512x2048_S128x512_384_1536), piece_tile _ 2 3 rfl _ _ (h 2 3 rfl inb_S512x2048_S128x512_256_1536),
    piece_tile _ 1 3 rfl _ _ (h 1 3 rfl inb_S512x2048_S128x512_128_1536), piece_tile _ 0 3 rfl _ _ (h 0 3 rfl inb_S512x2048_S128x512_0_1536),
    piece_tile _ 3 2 rfl _ _ (h 3 2 rfl inb_S512x2048_S128x512_384_1024), piece_tile _ 2 2 rfl _ _ (h 2 2 rfl inb_S512x2048_S128x512_256_1024),
    piece_tile _ 1 2 rfl _ _ (h 1 2 rfl inb_S512x2048_S128x512_128_1024), piece_tile _ 0 2 rfl _ _ (h 0 2 rfl inb_S512x2048_S128x512_0_1024),
    piece_tile _ 3 1 rfl _ _ (h 3 1 rfl inb_S512x2048_S128x512_384_512), piece_tile _ 2 1 rfl _ _ (h 2 1 rfl inb_S512x2048_S128x512_256_512),
    piece_tile _ 1 1 rfl _ _ (h 1 1 rfl inb_S512x2048_S128x512_128_512), piece_tile _ 0 1 rfl _ _ (h 0 1 rfl inb_S512x2048_S128x512_0_512),
    piece_tile _ 3 0 rfl _ _ (h 3 0 rfl inb_S512x2048_S128x512_384_0), piece_tile _ 2 0 rfl _ _ (h 2 0 rfl inb_S512x2048_S128x512_256_0),
    piece_tile _ 1 0 rfl _ _ (h 1 0 rfl inb_S512x2048_S128x512_128_0), piece_tile _ 0 0 rfl _ _ (h 0 0 rfl inb_S512x2048_S128x512_0_0)⟩

set_option maxHeartbeats 4000000 in
/-- Each store of the masked tile is the tile's own piece. -/
theorem pieces_mask1 : ∀ p ∈ kernelRun1.sl.H11_16 c i arg4 arg5 arg6 f4 f5 f6, ∀ x : p.1.shape.Idx, p.2 x = maskB (kernelRun1.sl.r_1 c i arg4 f4) (kernelRun1.sl.r_2 c i arg5 f5) (arg6.view.read (Elt F) f6) (p.1.emb x) := by
  have h : ∀ g n {off : Fin 2 → ℕ} (hoff : off = ![128 * g, 512 * n]) (inb), maskC (BitVec.ofNat 32 (128 * g)) (kernelRun1.sl.r_1 c i arg4 f4) (kernelRun1.sl.r_2 c i arg5 f5) (arg6.view.readAt (Elt F) (Rect.unit (s := S512x2048) off ![128, 512] inb).toLoadRect f6) = maskC (BitVec.ofNat 32 (128 * g)) (kernelRun1.sl.r_1 c i arg4 f4) (kernelRun1.sl.r_2 c i arg5 f5) (chunk 128 512 (arg6.view.read (Elt F) f6) g n) :=
    fun g n off hoff inb => congrArg _ (readAt_chunk _ _ g n hoff inb)
  unfold kernelRun1.sl.H11_16
  simp only [List.forall_mem_cons, List.not_mem_nil, false_implies, implies_true, and_true]
  exact ⟨piece_tile _ 3 3 rfl _ _ (h 3 3 rfl inb_S512x2048_S128x512_384_1536), piece_tile _ 2 3 rfl _ _ (h 2 3 rfl inb_S512x2048_S128x512_256_1536),
    piece_tile _ 1 3 rfl _ _ (h 1 3 rfl inb_S512x2048_S128x512_128_1536), piece_tile _ 0 3 rfl _ _ (h 0 3 rfl inb_S512x2048_S128x512_0_1536),
    piece_tile _ 3 2 rfl _ _ (h 3 2 rfl inb_S512x2048_S128x512_384_1024), piece_tile _ 2 2 rfl _ _ (h 2 2 rfl inb_S512x2048_S128x512_256_1024),
    piece_tile _ 1 2 rfl _ _ (h 1 2 rfl inb_S512x2048_S128x512_128_1024), piece_tile _ 0 2 rfl _ _ (h 0 2 rfl inb_S512x2048_S128x512_0_1024),
    piece_tile _ 3 1 rfl _ _ (h 3 1 rfl inb_S512x2048_S128x512_384_512), piece_tile _ 2 1 rfl _ _ (h 2 1 rfl inb_S512x2048_S128x512_256_512),
    piece_tile _ 1 1 rfl _ _ (h 1 1 rfl inb_S512x2048_S128x512_128_512), piece_tile _ 0 1 rfl _ _ (h 0 1 rfl inb_S512x2048_S128x512_0_512),
    piece_tile _ 3 0 rfl _ _ (h 3 0 rfl inb_S512x2048_S128x512_384_0), piece_tile _ 2 0 rfl _ _ (h 2 0 rfl inb_S512x2048_S128x512_256_0),
    piece_tile _ 1 0 rfl _ _ (h 1 0 rfl inb_S512x2048_S128x512_128_0), piece_tile _ 0 0 rfl _ _ (h 0 0 rfl inb_S512x2048_S128x512_0_0)⟩

/-- The scales' block with the four rows of one tile's stripe replaced. -/
def putScale (p : ℕ) (s : Vec F ⟨2, ![4, 2048]⟩ .f32) (y : Vec F S8x2048 .f32) : Vec F S8x2048 .f32 :=
  fun z => if (z 0).val / 4 = p then s (ix2 (Fin.ofNat 4 (z 0).val) (z 1)) else y z

/-- A stored row of scales is the new block's own row. -/
theorem piece_scale {x : Vec F S512x2048 .bf16} {y : Vec F S8x2048 .f32} (p g n : ℕ) (hg : g < 4) {off : Fin 2 → ℕ} (hoff : off = ![4 * p + g, 512 * n])
    (inb : ∀ a, off a + S1x512.size a ≤ S8x2048.size a) (w : Vec F S1x512 .f32)
    (hwv : w = Quant.scale shapes1 (chunk 128 512 x g n)) (z : (Rect.unit (s := S8x2048) off S1x512.size inb).shape.Idx) :
    w z = putScale p (scaleB1 x) y ((Rect.unit (s := S8x2048) off S1x512.size inb).emb z) := by
  subst hoff; subst hwv
  have z0 : (z 0).val < 1 := (z 0).isLt
  have z1 : (z 1).val < 512 := (z 1).isLt
  have b1 : 512 * n + 512 ≤ 2048 := inb 1
  have e0 : (((Rect.unit (s := S8x2048) ![4 * p + g, 512 * n] S1x512.size inb).emb z) 0).val = 4 * p + g := by
    show 4 * p + g + 1 * (z 0).val = _; omega
  have e1 : (((Rect.unit (s := S8x2048) ![4 * p + g, 512 * n] S1x512.size inb).emb z) 1).val = 512 * n + (z 1).val := by
    show 512 * n + 1 * (z 1).val = _; omega
  unfold putScale
  rw [e0, if_pos (by omega)]
  show _ = Quant.scale shapes1 (chunk 128 512 x ((4 * p + g) % 4 / 1) _) _
  rw [show (ix2 (Fin.ofNat 4 (4 * p + g)) (((Rect.unit (s := S8x2048) ![4 * p + g, 512 * n] S1x512.size inb).emb z) 1) : (⟨2, ![4, 2048]⟩ : Shape).Idx) 1 = ((Rect.unit (s := S8x2048) ![4 * p + g, 512 * n] S1x512.size inb).emb z) 1 from rfl, e1]
  rw [show (4 * p + g) % 4 / 1 = g by omega, show (512 * n + (z 1).val) / 512 = n by omega]
  congr 1
  funext a
  match a with
  | ⟨0, _⟩ => apply Fin.ext; show (z 0).val = _ % 1; omega
  | ⟨1, _⟩ => apply Fin.ext; show (z 1).val = (512 * n + (z 1).val) % 512; omega

set_option maxHeartbeats 4000000 in
/-- The scales' buffer reads what it held, with the rows of the tile's stripe replaced by the tile's scales. -/
theorem read_scale1 : arg10.view.read (Elt F) (arg10.view.writes (Elt F) f10 (kernelRun1.sl.H10_16 c i arg2 arg6 f2 f6 hw))
    = putScale ((kernelRun1.sl.r c i arg2 f2).toNat % 2) (scaleB1 (arg6.view.read (Elt F) f6)) (arg10.view.read (Elt F) f10) := by
  have h : ∀ g n {off : Fin 2 → ℕ} (hoff : off = ![128 * g, 512 * n]) (inb), Quant.scale shapes1 (arg6.view.readAt (Elt F) (Rect.unit (s := S512x2048) off ![128, 512] inb).toLoadRect f6) = Quant.scale shapes1 (chunk 128 512 (arg6.view.read (Elt F) f6) g n) :=
    fun g n off hoff inb => congrArg _ (readAt_chunk _ _ g n hoff inb)
  have ho := off_eq (kernelRun1.sl.r c i arg2 f2)
  have hL : ∀ p ∈ kernelRun1.sl.H10_16 c i arg2 arg6 f2 f6 hw, ∀ x : p.1.shape.Idx, p.2 x = putScale ((kernelRun1.sl.r c i arg2 f2).toNat % 2) (scaleB1 (arg6.view.read (Elt F) f6)) (arg10.view.read (Elt F) f10) (p.1.emb x) := by
    unfold kernelRun1.sl.H10_16
    simp only [List.forall_mem_cons, List.not_mem_nil, false_implies, implies_true, and_true]
    exact ⟨piece_scale _ 3 3 (by decide) (ho 3 (by decide)).2.2.2 _ _ (h 3 3 rfl inb_S512x2048_S128x512_384_1536), piece_scale _ 2 3 (by decide) (ho 2 (by decide)).2.2.2 _ _ (h 2 3 rfl inb_S512x2048_S128x512_256_1536),
      piece_scale _ 1 3 (by decide) (ho 1 (by decide)).2.2.2 _ _ (h 1 3 rfl inb_S512x2048_S128x512_128_1536), piece_scale _ 0 3 (by decide) (ho 0 (by decide)).2.2.2 _ _ (h 0 3 rfl inb_S512x2048_S128x512_0_1536),
      piece_scale _ 3 2 (by decide) (ho 3 (by decide)).2.2.1 _ _ (h 3 2 rfl inb_S512x2048_S128x512_384_1024), piece_scale _ 2 2 (by decide) (ho 2 (by decide)).2.2.1 _ _ (h 2 2 rfl inb_S512x2048_S128x512_256_1024),
      piece_scale _ 1 2 (by decide) (ho 1 (by decide)).2.2.1 _ _ (h 1 2 rfl inb_S512x2048_S128x512_128_1024), piece_scale _ 0 2 (by decide) (ho 0 (by decide)).2.2.1 _ _ (h 0 2 rfl inb_S512x2048_S128x512_0_1024),
      piece_scale _ 3 1 (by decide) (ho 3 (by decide)).2.1 _ _ (h 3 1 rfl inb_S512x2048_S128x512_384_512), piece_scale _ 2 1 (by decide) (ho 2 (by decide)).2.1 _ _ (h 2 1 rfl inb_S512x2048_S128x512_256_512),
      piece_scale _ 1 1 (by decide) (ho 1 (by decide)).2.1 _ _ (h 1 1 rfl inb_S512x2048_S128x512_128_512), piece_scale _ 0 1 (by decide) (ho 0 (by decide)).2.1 _ _ (h 0 1 rfl inb_S512x2048_S128x512_0_512),
      piece_scale _ 3 0 (by decide) (ho 3 (by decide)).1 _ _ (h 3 0 rfl inb_S512x2048_S128x512_384_0), piece_scale _ 2 0 (by decide) (ho 2 (by decide)).1 _ _ (h 2 0 rfl inb_S512x2048_S128x512_256_0),
      piece_scale _ 1 0 (by decide) (ho 1 (by decide)).1 _ _ (h 1 0 rfl inb_S512x2048_S128x512_128_0), piece_scale _ 0 0 (by decide) (ho 0 (by decide)).1 _ _ (h 0 0 rfl inb_S512x2048_S128x512_0_0)⟩
  funext y
  by_cases hy : ∃ p ∈ kernelRun1.sl.H10_16 c i arg2 arg6 f2 f6 hw, y ∈ p.1.set
  · exact View.read_writes_apply_of_pieces (v := arg10.view) (f := f10) _ _ hL y hy
  · rw [View.read_writes_apply_of_forall_not_mem (v := arg10.view) (f := f10) y _ (fun p hp hm => hy ⟨p, hp, hm⟩)]
    unfold putScale
    rw [if_neg]
    intro hp
    have hn : ∀ p ∈ kernelRun1.sl.H10_16 c i arg2 arg6 f2 f6 hw, y ∉ p.1.set := fun p hp hm => hy ⟨p, hp, hm⟩
    have m : ∀ g n {off : Fin 2 → ℕ} (hoff : off = ![4 * ((kernelRun1.sl.r c i arg2 f2).toNat % 2) + g, 512 * n]) (inb), (y 0).val % 4 = g → (y 1).val / 512 = n → y ∈ (Rect.unit (s := S8x2048) off S1x512.size inb).set := by
      intro g n off hoff inb hg hnn
      subst hoff
      rw [Rect.mem_set_unit]
      intro a
      match a with
      | ⟨0, _⟩ => show 4 * ((kernelRun1.sl.r c i arg2 f2).toNat % 2) + g ≤ (y 0).val ∧ (y 0).val < 4 * ((kernelRun1.sl.r c i arg2 f2).toNat % 2) + g + 1; omega
      | ⟨1, _⟩ => show 512 * n ≤ (y 1).val ∧ (y 1).val < 512 * n + 512; omega
    unfold kernelRun1.sl.H10_16 at hn
    simp only [List.forall_mem_cons, List.not_mem_nil, false_implies, implies_true, and_true] at hn
    obtain ⟨n33, n23, n13, n03, n32, n22, n12, n02, n31, n21, n11, n01, n30, n20, n10, n00⟩ := hn
    have hg : (y 0).val % 4 < 4 := Nat.mod_lt _ (by decide)
    have hq : (y 1).val / 512 < 4 := Nat.div_lt_of_lt_mul (y 1).isLt
    generalize hgv : (y 0).val % 4 = gv at hg
    generalize hqv : (y 1).val / 512 = qv at hq
    interval_cases qv <;> interval_cases gv
    · exact n00 (m 0 0 (ho 0 (by decide)).1 _ hgv hqv)
    · exact n10 (m 1 0 (ho 1 (by decide)).1 _ hgv hqv)
    · exact n20 (m 2 0 (ho 2 (by decide)).1 _ hgv hqv)
    · exact n30 (m 3 0 (ho 3 (by decide)).1 _ hgv hqv)
    · exact n01 (m 0 1 (ho 0 (by decide)).2.1 _ hgv hqv)
    · exact n11 (m 1 1 (ho 1 (by decide)).2.1 _ hgv hqv)
    · exact n21 (m 2 1 (ho 2 (by decide)).2.1 _ hgv hqv)
    · exact n31 (m 3 1 (ho 3 (by decide)).2.1 _ hgv hqv)
    · exact n02 (m 0 2 (ho 0 (by decide)).2.2.1 _ hgv hqv)
    · exact n12 (m 1 2 (ho 1 (by decide)).2.2.1 _ hgv hqv)
    · exact n22 (m 2 2 (ho 2 (by decide)).2.2.1 _ hgv hqv)
    · exact n32 (m 3 2 (ho 3 (by decide)).2.2.1 _ hgv hqv)
    · exact n03 (m 0 3 (ho 0 (by decide)).2.2.2 _ hgv hqv)
    · exact n13 (m 1 3 (ho 1 (by decide)).2.2.2 _ hgv hqv)
    · exact n23 (m 2 3 (ho 2 (by decide)).2.2.2 _ hgv hqv)
    · exact n33 (m 3 3 (ho 3 (by decide)).2.2.2 _ hgv hqv)

/-- The output's block before the product is added: zeros where a new expert begins, else what it held. -/
def baseB (b : BitVec 1) (y : Vec F S1x1792x2048 .f32) : Vec F S1x1792x2048 .f32 := if b = 1#1 then k1_pay6 else y

/-- The output's block after the body, from what it held: the product added where the item has rows. -/
def stepB (z b : BitVec 1) (lo hi : BitVec 32) (x : Vec F S512x2048 .bf16) (d : Vec F S1792x512 .bf16) (y : Vec F S1x1792x2048 .f32) : Vec F S1x1792x2048 .f32 :=
  if b = 1#1 then accB (baseB z y) d (maskB lo hi x) else baseB z y

/-- The masked tile read back by columns. -/
theorem readCov_mask1 (n : ℕ) {off : Fin 2 → ℕ} (hoff : off = ![512 * 0, 512 * n]) (inb) :
    arg11.view.readCov (kernelRun1.sl.H11_16 c i arg4 arg5 arg6 f4 f5 f6) (Rect.unit (s := S512x2048) off ![512, 512] inb).toLoadRect
      = chunk 512 512 (maskB (kernelRun1.sl.r_1 c i arg4 f4) (kernelRun1.sl.r_2 c i arg5 f5) (arg6.view.read (Elt F) f6)) 0 n := by
  rw [← read_pieces arg11.view arg11.view.junk _ _ S128x512.size (by sl_kernel_rfl) (pieces_mask1 c i arg4 arg5 arg6 f4 f5 f6)]
  exact readAt_chunk _ _ 0 n hoff inb

/-- The columns of a block read by a load. -/
theorem readAt_cols3 (v : View sig .tc .vmem S1x1792x2048 .f32) (f : v.ty.Contents (Elt F)) (n : ℕ) {off : Fin 3 → ℕ} (hoff : off = ![0, 0, 512 * n])
    (inb : ∀ a, off a + ![1, 1792, 512] a ≤ S1x1792x2048.size a) :
    v.readAt (Elt F) (Rect.unit (s := S1x1792x2048) off ![1, 1792, 512] inb).toLoadRect f = cols3 (v.read (Elt F) f) n := by
  subst hoff
  funext z
  show v.read (Elt F) f _ = v.read (Elt F) f _
  congr 1
  have h2 : 512 * n + 512 ≤ 2048 := inb 2
  have z2 : (z 2).val < 512 := (z 2).isLt
  funext a
  match a with
  | ⟨0, _⟩ => apply Fin.ext; show 0 + 1 * (z 0).val = (z 0).val; omega
  | ⟨1, _⟩ => apply Fin.ext; show 0 + 1 * (z 1).val = (z 1).val; omega
  | ⟨2, _⟩ =>
    apply Fin.ext
    show 512 * n + 1 * (z 2).val = (512 * n + (z 2).val) % 2048
    omega

/-- A stored quarter of the output's block is the new block's own quarter. -/
theorem piece_acc (y : Vec F S1x1792x2048 .f32) (d : Vec F S1792x512 .bf16) (w : Vec F S512x2048 .bf16) (n : ℕ) {off : Fin 3 → ℕ} (hoff : off = ![0, 0, 512 * n])
    (inb : ∀ a, off a + ![1, 1792, 512] a ≤ S1x1792x2048.size a) (p : Vec F S1x1792x512 .f32) (hp : p = k1_pay3 (cols3 y n) d (chunk 512 512 w 0 n))
    (x : (Rect.unit (s := S1x1792x2048) off ![1, 1792, 512] inb).shape.Idx) :
    p x = accB y d w ((Rect.unit (s := S1x1792x2048) off ![1, 1792, 512] inb).emb x) := by
  subst hoff; subst hp
  have x2 : (x 2).val < 512 := (x 2).isLt
  have e2 : (((Rect.unit (s := S1x1792x2048) ![0, 0, 512 * n] ![1, 1792, 512] inb).emb x) 2).val = 512 * n + (x 2).val := by
    show 512 * n + 1 * (x 2).val = _; omega
  unfold accB
  rw [e2, show (512 * n + (x 2).val) / 512 = n by omega]
  congr 1
  funext a
  match a with
  | ⟨0, _⟩ => apply Fin.ext; show (x 0).val = 0 + 1 * (x 0).val; omega
  | ⟨1, _⟩ => apply Fin.ext; show (x 1).val = 0 + 1 * (x 1).val; omega
  | ⟨2, _⟩ => apply Fin.ext; show (x 2).val = (512 * n + (x 2).val) % 512; omega

set_option maxHeartbeats 4000000 in
/-- The output's buffer reads its next block. -/
theorem read_dw1 : arg8.view.read (Elt F) (kernelRun1 c i arg2 harg2 arg3 harg3 arg4 harg4 arg5 harg5 arg6 harg6 arg7 harg7 arg8 harg8 arg9 harg9 arg10 harg10 arg11 harg11 f2 f3 f4 f5 f6 f7 f8 f9 f10 f11 hw).1
    = stepB (k1_cond1 i (kernelRun1.sl.r_3 c i arg3 f3) (kernelRun1.sl.r_4 c i arg3 f3)) (k1_cond2 (kernelRun1.sl.r_1 c i arg4 f4) (kernelRun1.sl.r_2 c i arg5 f5))
        (kernelRun1.sl.r_1 c i arg4 f4) (kernelRun1.sl.r_2 c i arg5 f5) (arg6.view.read (Elt F) f6) (arg7.view.read (Elt F) f7) (arg8.view.read (Elt F) f8) := by
  dsimp only [kernelRun1]
  have hb : arg8.view.read (Elt F) (if hc : k1_cond1 i (kernelRun1.sl.r_3 c i arg3 f3) (kernelRun1.sl.r_4 c i arg3 f3) = 1#1 then
        arg8.view.writes (Elt F) f8 [⟨Rect.unit ![0, 0, 0] S1x1792x2048.size inb_S1x1792x2048_S1x1792x2048_0_0_0, k1_pay6⟩] else f8)
      = baseB (k1_cond1 i (kernelRun1.sl.r_3 c i arg3 f3) (kernelRun1.sl.r_4 c i arg3 f3)) (arg8.view.read (Elt F) f8) := by
    unfold baseB
    split
    · exact View.read_writes_full _ _ _ _ []
    · rfl
  unfold stepB
  split
  · have hd : arg7.view.readAt (Elt F) (Rect.unit ![0, 0] S1792x512.size inb_S1792x512_S1792x512_0_0).toLoadRect f7 = arg7.view.read (Elt F) f7 :=
      View.readAt_full _ _ _
    have h : ∀ n {off : Fin 3 → ℕ} (hoff : off = ![0, 0, 512 * n]) (inb) {off' : Fin 2 → ℕ} (hoff' : off' = ![512 * 0, 512 * n]) (inb'),
        k1_pay3 (arg8.view.readAt (Elt F) (Rect.unit (s := S1x1792x2048) off ![1, 1792, 512] inb).toLoadRect (if hc : k1_cond1 i (kernelRun1.sl.r_3 c i arg3 f3) (kernelRun1.sl.r_4 c i arg3 f3) = 1#1 then
            arg8.view.writes (Elt F) f8 [⟨Rect.unit ![0, 0, 0] S1x1792x2048.size inb_S1x1792x2048_S1x1792x2048_0_0_0, k1_pay6⟩] else f8))
          (arg7.view.readAt (Elt F) (Rect.unit ![0, 0] S1792x512.size inb_S1792x512_S1792x512_0_0).toLoadRect f7)
          (arg11.view.readCov (kernelRun1.sl.H11_16 c i arg4 arg5 arg6 f4 f5 f6) (Rect.unit (s := S512x2048) off' ![512, 512] inb').toLoadRect)
        = k1_pay3 (cols3 (baseB (k1_cond1 i (kernelRun1.sl.r_3 c i arg3 f3) (kernelRun1.sl.r_4 c i arg3 f3)) (arg8.view.read (Elt F) f8)) n) (arg7.view.read (Elt F) f7)
          (chunk 512 512 (maskB (kernelRun1.sl.r_1 c i arg4 f4) (kernelRun1.sl.r_2 c i arg5 f5) (arg6.view.read (Elt F) f6)) 0 n) := by
      intro n off hoff inb off' hoff' inb'
      rw [readAt_cols3 _ _ n hoff inb, hb, hd, readCov_mask1 c i arg4 arg5 arg6 arg11 f4 f5 f6 n hoff' inb']
    refine read_pieces _ _ _ _ S1x1792x512.size (by sl_kernel_rfl) ?_
    simp only [List.forall_mem_cons, List.not_mem_nil, false_implies, implies_true, and_true]
    exact ⟨piece_acc _ _ _ 3 rfl _ _ (h 3 rfl inb_S1x1792x2048_S1x1792x512_0_0_1536 rfl inb_S512x2048_S512x512_0_1536),
      piece_acc _ _ _ 2 rfl _ _ (h 2 rfl inb_S1x1792x2048_S1x1792x512_0_0_1024 rfl inb_S512x2048_S512x512_0_1024),
      piece_acc _ _ _ 1 rfl _ _ (h 1 rfl inb_S1x1792x2048_S1x1792x512_0_0_512 rfl inb_S512x2048_S512x512_0_512),
      piece_acc _ _ _ 0 rfl _ _ (h 0 rfl inb_S1x1792x2048_S1x1792x512_0_0_0 rfl inb_S512x2048_S512x512_0_0)⟩
  · exact hb

end Cert.KernelIdeal.Work

end
-- ==== Proof.KI.Region1.lean ====
/-
  The second kernel call (`wgrad`) as relational proof data: what its body may leave in each output's buffer at each point.
-/
module

public import proofs.«01_k».proof.Proof.KI.Read1
public import proofs.«01_k».proof.Proof.Gen.KernelIdeal.Launch
public import Idealize.ShloMosaic.Lib.Pipeline.Frame
public import Idealize.ShloMosaic.Lib.Pipeline.FrameBody
public import Idealize.ShloMosaic.Lib.Pipeline.Regions

@[expose] public section

set_option maxRecDepth 16384

noncomputable section

namespace Cert.KernelIdeal.Work

open Cert.KernelIdeal.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat RDat Cfg Window cellOf)

variable (W : Dev nD → Valuation τ sig (Elt F)) (a : (pcfg1 (F := F)).Adm)

/-- Item `i`'s entry of a work list. -/
def word (f : Vec F S36 .i32) (i : ℕ) : BitVec 32 := f (ValueIdx.ix1 (Fin.ofNat 36 i))

/-- The place in the work list that a point's scalar loads read. -/
theorem off1_eq (i : grid1.Coords) : k1_off1 i = ![(i 1).val] := by
  have h : (i 1).val < 36 := (i 1).isLt
  generalize hj : (i 1).val = j at h
  unfold k1_off1
  rw [hj]
  interval_cases j <;> rfl

/-- The place of the item before it (the first item's own place at the first item). -/
theorem off2_eq (i : grid1.Coords) : k1_off2 i = ![(i 1).val - 1] := by
  have h : (i 1).val < 36 := (i 1).isLt
  generalize hj : (i 1).val = j at h
  unfold k1_off2
  rw [hj]
  interval_cases j <;> rfl

/-- A scalar load from a whole work list reads its entry. -/
theorem load_word (b : Memref sig .tc .smem S36 .i32) (f : b.view.ty.Contents (Elt F)) (off : Fin 1 → ℕ) (n : ℕ) (hn : n < 36) (hoff : off = ![n])
    (inb : ∀ a, off a + S1.size a ≤ S36.size a) (h1) :
    View.readAt (Elt F) b.view (Rect.unit (s := S36) off S1.size inb).toLoadRect f (Shape.Idx.first h1) = word (b.view.read (Elt F) f) n := by
  subst hoff
  unfold word
  show b.view.read (Elt F) f _ = _
  congr 1
  funext d
  match d with
  | ⟨0, _⟩ => apply Fin.ext; show n + 1 * _ = n % 36; rw [Nat.mod_eq_of_lt hn]; have : ((Shape.Idx.first h1 : (S1).Idx) 0).val < 1 := ((Shape.Idx.first h1 : (S1).Idx) 0).isLt; show n + 1 * ((Shape.Idx.first h1 : (S1).Idx) 0).val = n; omega

/-- The item of point `t`. -/
abbrev item (t : Fin grid1.N) : ℕ := (grid1.coords t 1).val
/-- The column block of point `t`. -/
abbrev colb (t : Fin grid1.N) : ℕ := (grid1.coords t 0).val

/-- The four work lists. -/
abbrev tileL (pf : pre1.Contents (Elt F)) : Vec F S36 .i32 := pf 0
/-- The list of the items' experts. -/
abbrev expertL (pf : pre1.Contents (Elt F)) : Vec F S36 .i32 := pf 1
/-- The list of the lower ends of the items' row ranges. -/
abbrev loL (pf : pre1.Contents (Elt F)) : Vec F S36 .i32 := pf 2
/-- The list of the upper ends of the items' row ranges. -/
abbrev hiL (pf : pre1.Contents (Elt F)) : Vec F S36 .i32 := pf 3

/-- Whether a point starts an expert's sum. -/
def starts (pf : pre1.Contents (Elt F)) (t : Fin grid1.N) : BitVec 1 :=
  k1_cond1 (grid1.coords t) (word (expertL pf) (item t)) (word (expertL pf) (item t - 1))

/-- Whether a point has rows of its tile to add. -/
def adds (pf : pre1.Contents (Elt F)) (t : Fin grid1.N) : BitVec 1 := k1_cond2 (word (loL pf) (item t)) (word (hiL pf) (item t))

/-- Window `w`'s block at point `t` of the second kernel call, read off the array as the call finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

/-- The tile of `x` at point `t`. -/
abbrev xblk (c : Dev nD) (t : Fin (cfg1 a).N) : Vec F S512x2048 .bf16 := iblk1 W a c 0 t
/-- The tile of the transposed dequantised `dy` at point `t`. -/
abbrev yblk (c : Dev nD) (t : Fin (cfg1 a).N) : Vec F S1792x512 .bf16 := iblk1 W a c 1 t

/-- The proof data of the second kernel call: the arrays and tables as the call finds them; the inputs' buffers kept, the sum's
    buffer stepped, the codes' filled, and the tile's rows of the scales' replaced. -/
def rd1 (c : Dev nD) : RDat τ (Elt F) Unit ℕ (UR sig nD τ) ℕ (cfg1 a) c where
  A w := W c (Proc.devRef .tc (Pipeline.arrRef spec1 w))
  after w t := match w with
    | ⟨0, _⟩ => fun Y X => X = Y
    | ⟨1, _⟩ => fun Y X => X = Y
    | ⟨2, _⟩ => fun Y X => X = stepB (F := F) (starts a.1 t) (adds a.1 t) (word (loL a.1) (item t)) (word (hiL a.1) (item t)) (xblk W a c t) (yblk W a c t) Y
    | ⟨3, _⟩ => fun _ X => X = codesB1 (F := F) (xblk W a c t)
    | ⟨4, _⟩ => fun Y X => X = putScale (F := F) ((word (tileL a.1) (item t)).toNat % 2) (scaleB1 (F := F) (xblk W a c t)) Y
  Φ _ := iprop(Pipeline.ΦA spec1 c ∗ Pipeline.prefHeld pre1 c (fun _ => fullShare) a.1)
  q _ := fullShare
  owed _ := 0

/-- The second call's arrays before it. -/
theorem rd1_A (c : Dev nD) (w : Fin (cfg1 a).W) : (rd1 W a c).A w = W c (Proc.devRef .tc (Pipeline.arrRef spec1 w)) := by dsimp only [rd1]
/-- The body leaves the block of `x` as it was. -/
theorem rd1_0 (c : Dev nD) (t) (Y X) : (rd1 W a c).after 0 t Y X = (X = Y) := rfl
/-- The body leaves the block of the transposed `dy` as it was. -/
theorem rd1_1 (c : Dev nD) (t) (Y X) : (rd1 W a c).after 1 t Y X = (X = Y) := rfl
/-- What the body leaves in the gradient's block. -/
theorem rd1_2 (c : Dev nD) (t) (Y X) : (rd1 W a c).after 2 t Y X = (X = stepB (F := F) (starts a.1 t) (adds a.1 t) (word (loL a.1) (item t)) (word (hiL a.1) (item t)) (xblk W a c t) (yblk W a c t) Y) := rfl
/-- What the body leaves in the codes' block. -/
theorem rd1_3 (c : Dev nD) (t) (Y X) : (rd1 W a c).after 3 t Y X = (X = codesB1 (F := F) (xblk W a c t)) := rfl
/-- What the body leaves in the scales' block. -/
theorem rd1_4 (c : Dev nD) (t) (Y X) : (rd1 W a c).after 4 t Y X = (X = putScale (F := F) ((word (tileL a.1) (item t)).toNat % 2) (scaleB1 (F := F) (xblk W a c t)) Y) := rfl

/-- The buffer of `x` holds the tile at every point. -/
theorem finds0 (c : Dev nD) (t) (Y) (h : (rd1 W a c).Finds 0 t Y) : Y = xblk W a c t := by
  obtain ⟨d, rfl⟩ := (rd1 W a c).finds_in_eq_fetched 0 rfl (fun _ _ _ => rfl) (fun t Y X h => by rw [rd1_0] at h; exact h) t Y h
  unfold RDat.fetched RDat.blockOf xblk iblk1; rw [rd1_A]; try rfl
/-- The buffer of the transposed `dy` holds the tile at every point. -/
theorem finds1 (c : Dev nD) (t) (Y) (h : (rd1 W a c).Finds 1 t Y) : Y = yblk W a c t := by
  obtain ⟨d, rfl⟩ := (rd1 W a c).finds_in_eq_fetched 1 rfl (fun _ _ _ => rfl) (fun t Y X h => by rw [rd1_1] at h; exact h) t Y h
  unfold RDat.fetched RDat.blockOf yblk iblk1; rw [rd1_A]; try rfl

/-- The second call's body at point `t`, as the pipeline calls it. -/
abbrev bodyAt1 (t : Fin (cfg1 a).N) : Prog (TpuEff nD τ sig (Elt F) Λ₀ .tc) PUnit :=
  cc1_wgrad (grid1.coords t) (Memref.whole main_v53) (Memref.isWhole_whole _) (Memref.whole main_v27) (Memref.isWhole_whole _) (Memref.whole main_v64) (Memref.isWhole_whole _) (Memref.whole main_v76) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1))
    (spec1_2.stage ((cfg1 a).slots t 2)) (hstage1_2 (((cfg1 a).slots t 2).cast nbuf1_2)) (spec1_3.stage ((cfg1 a).slots t 3)) (hstage1_3 (((cfg1 a).slots t 3).cast nbuf1_3))
    (spec1_4.stage ((cfg1 a).slots t 4)) (hstage1_4 (((cfg1 a).slots t 4).cast nbuf1_4)) (Memref.whole cc1_scratch0) (Memref.isWhole_whole _)

/-- The body table's row for the second call at a point's slots is the body there. -/
theorem row1 (t : Fin (cfg1 a).N) : defs₀ (F := F) .tc (cfg1 a).body ((cfg1 a).bodyArgs t ((cfg1 a).slots t)) = bodyAt1 a t := by
  unfold defs₀; rw [Defs.onTc_tc]

/-- The work lists' four buffers, one by one. -/
theorem pref1_eq (c : Dev nD) (pf : pre1.Contents (Elt F)) :
    (Pipeline.prefHeld pre1 c (fun _ => fullShare) pf : sProp 𝕄)
      = iprop((((c : Thread nD τ).loc main_v53) ↦{fullShare} pf 0) ∗ (((c : Thread nD τ).loc main_v27) ↦{fullShare} pf 1)
        ∗ (((c : Thread nD τ).loc main_v64) ↦{fullShare} pf 2) ∗ (((c : Thread nD τ).loc main_v76) ↦{fullShare} pf 3)) := by
  unfold Pipeline.prefHeld
  exact bigSep_univ_eq_bigSepL [(0 : Fin 4), (1 : Fin 4), (2 : Fin 4), (3 : Fin 4)] (by decide) (by decide) _

/-- A whole buffer held is its whole memref's view held. -/
theorem whole_loc (c : Dev nD) (b : Ref sig .tc) (f : b.ty.Contents (Elt F)) :
    ((((c : Thread nD τ).loc b) ↦{fullShare} f) : sProp 𝕄) = ((Memref.whole b).view.loc (c : Thread nD τ) ↦[(Memref.whole b).view.set]{fullShare} f) := by
  simp only [Memref.view_whole, View.set_whole]

set_option maxHeartbeats 4000000 in
/-- The second call's body at any point. -/
theorem sound1 (c : Dev nD) (t : Fin (cfg1 a).N) (Y : (w : Fin (cfg1 a).W) → ((cfg1 a).win w).block.Idx → Elt F ((cfg1 a).win w).elt)
    (hx : Y 0 = xblk W a c t) (hy : Y 1 = yblk W a c t) :
    iprop((rd1 W a c).Φ t.castSucc ∗ (rd1 W a c).owesAt () t.castSucc
      ∗ owns (c : Thread nD τ) (spec1_0.stage ((cfg1 a).slots t 0)) fullShare (Y 0)
      ∗ owns (c : Thread nD τ) (spec1_1.stage ((cfg1 a).slots t 1)) fullShare (Y 1)
      ∗ owns (c : Thread nD τ) (spec1_2.stage ((cfg1 a).slots t 2)) fullShare (Y 2)
      ∗ owns (c : Thread nD τ) (spec1_3.stage ((cfg1 a).slots t 3)) fullShare (Y 3)
      ∗ owns (c : Thread nD τ) (spec1_4.stage ((cfg1 a).slots t 4)) fullShare (Y 4))
    ⊢ wp frame (wpE (defs₀ (F := F)) Variants.none c none) Set.univ (bodyAt1 a t) (fun _ =>
      iprop((rd1 W a c).Φ t.succ ∗ (rd1 W a c).owesAt () t.succ
        ∗ (∃ X, ⌜(rd1 W a c).after 0 t (Y 0) X⌝ ∗ owns (c : Thread nD τ) (spec1_0.stage ((cfg1 a).slots t 0)) fullShare X)
        ∗ (∃ X, ⌜(rd1 W a c).after 1 t (Y 1) X⌝ ∗ owns (c : Thread nD τ) (spec1_1.stage ((cfg1 a).slots t 1)) fullShare X)
        ∗ (∃ X, ⌜(rd1 W a c).after 2 t (Y 2) X⌝ ∗ owns (c : Thread nD τ) (spec1_2.stage ((cfg1 a).slots t 2)) fullShare X)
        ∗ (∃ X, ⌜(rd1 W a c).after 3 t (Y 3) X⌝ ∗ owns (c : Thread nD τ) (spec1_3.stage ((cfg1 a).slots t 3)) fullShare X)
        ∗ (∃ X, ⌜(rd1 W a c).after 4 t (Y 4) X⌝ ∗ owns (c : Thread nD τ) (spec1_4.stage ((cfg1 a).slots t 4)) fullShare X))) := by
  rw [show (rd1 W a c).Φ t.succ = (rd1 W a c).Φ t.castSucc from rfl,
    show (rd1 W a c).owesAt () t.succ = (rd1 W a c).owesAt () t.castSucc from rfl,
    show (rd1 W a c).Φ t.castSucc = iprop(Pipeline.ΦA spec1 c ∗ Pipeline.prefHeld pre1 c (fun _ => fullShare) a.1) from rfl]
  unfold bodyAt1 owns Pipeline.ΦA
  simp only [rd1_0, rd1_1, rd1_2, rd1_3, rd1_4]
  rw [scopedRest1_eq, pref1_eq]
  simp only [whole_loc]
  iintro ⟨⟨⟨⟨A0, A1, A2, A3, A4, A5, A6, A7, ⟨%fs, HS⟩⟩, Hp⟩, ⟨T0, T1, T2, T3⟩⟩, Ho, ⟨%f0, %h0, H0⟩, ⟨%f1, %h1, H1⟩, ⟨%f2, %h2, H2⟩, ⟨%f3, %h3, H3⟩, ⟨%f4, %h4, H4⟩⟩
  iapply ((kernelRun1 c (grid1.coords t) (Memref.whole main_v53) (Memref.isWhole_whole _) (Memref.whole main_v27) (Memref.isWhole_whole _) (Memref.whole main_v64) (Memref.isWhole_whole _) (Memref.whole main_v76) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1))
    (spec1_2.stage ((cfg1 a).slots t 2)) (hstage1_2 (((cfg1 a).slots t 2).cast nbuf1_2)) (spec1_3.stage ((cfg1 a).slots t 3)) (hstage1_3 (((cfg1 a).slots t 3).cast nbuf1_3))
    (spec1_4.stage ((cfg1 a).slots t 4)) (hstage1_4 (((cfg1 a).slots t 4).cast nbuf1_4)) (Memref.whole cc1_scratch0) (Memref.isWhole_whole _)
    (a.1 0) (a.1 1) (a.1 2) (a.1 3) f0 f1 f2 f3 f4 fs chk1).2.2.2.2 Set.univ _)
  isplitl [T0]; · iexact T0
  isplitl [T1]; · iexact T1
  isplitl [T2]; · iexact T2
  isplitl [T3]; · iexact T3
  isplitl [H0]; · iexact H0
  isplitl [H1]; · iexact H1
  isplitl [H2]; · iexact H2
  isplitl [H3]; · iexact H3
  isplitl [H4]; · iexact H4
  isplitl [HS]; · iexact HS
  iintro ⟨T0, T1, T2, T3, H0, H1, H2, H3, H4, HS⟩
  isplitl [A0 A1 A2 A3 A4 A5 A6 A7 HS Hp T0 T1 T2 T3]
  · isplitl [A0 A1 A2 A3 A4 A5 A6 A7 HS Hp]
    · isplitl [A0 A1 A2 A3 A4 A5 A6 A7 HS]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        iexists _; iexact HS
      iexact Hp
    isplitl [T0]; · iexact T0
    isplitl [T1]; · iexact T1
    isplitl [T2]; · iexact T2
    iexact T3
  isplitl [Ho]; · iexact Ho
  have w1 : kernelRun1.sl.r c (grid1.coords t) (Memref.whole main_v53) (a.1 0) = word (tileL a.1) (item t) :=
    load_word (Memref.whole main_v53) (a.1 0) _ _ (grid1.coords t 1).isLt (off1_eq _) _ _
  have w2 : kernelRun1.sl.r_1 c (grid1.coords t) (Memref.whole main_v64) (a.1 2) = word (loL a.1) (item t) :=
    load_word (Memref.whole main_v64) (a.1 2) _ _ (grid1.coords t 1).isLt (off1_eq _) _ _
  have w3 : kernelRun1.sl.r_2 c (grid1.coords t) (Memref.whole main_v76) (a.1 3) = word (hiL a.1) (item t) :=
    load_word (Memref.whole main_v76) (a.1 3) _ _ (grid1.coords t 1).isLt (off1_eq _) _ _
  have w4 : kernelRun1.sl.r_3 c (grid1.coords t) (Memref.whole main_v27) (a.1 1) = word (expertL a.1) (item t) :=
    load_word (Memref.whole main_v27) (a.1 1) _ _ (grid1.coords t 1).isLt (off1_eq _) _ _
  have w5 : kernelRun1.sl.r_4 c (grid1.coords t) (Memref.whole main_v27) (a.1 1) = word (expertL a.1) (item t - 1) :=
    load_word (Memref.whole main_v27) (a.1 1) _ _ (lt_of_le_of_lt (Nat.sub_le _ _) (grid1.coords t 1).isLt) (off2_eq _) _ _
  isplitl [H0]
  · iexists _; isplitr
    · ipureintro; exact rfl
    iexists _; isplitr
    swap; · iexact H0
    ipureintro; exact h0
  isplitl [H1]
  · iexists _; isplitr
    · ipureintro; exact rfl
    iexists _; isplitr
    swap; · iexact H1
    ipureintro; exact h1
  isplitl [H2]
  · iexists _; isplitr
    · ipureintro; exact rfl
    iexists _; isplitr
    swap; · iexact H2
    ipureintro
    refine (read_dw1 ..).trans ?_
    rw [w2, w3, w4, w5, h0, h1, h2, hx, hy]; rfl
  isplitl [H3]
  · iexists _; isplitr
    · ipureintro; exact rfl
    iexists _; isplitr
    swap; · iexact H3
    ipureintro
    refine (read_codes1 ..).trans ?_
    rw [h0, hx]
  iexists _; isplitr
  · ipureintro; exact rfl
  iexists _; isplitr
  swap; · iexact H4
  ipureintro
  refine (read_scale1 (hw := chk1) ..).trans ?_
  rw [w1, h0, h4, hx]

/-- The second call's body obligation, at every point. -/
theorem body1 (c : Dev nD) : (rd1 (F := F) W a c).BodyObligation (defs₀ (F := F)) Variants.none () Set.univ := fun t Y hY => by
  rw [bigSep_W1, bigSep_W1, row1]
  exact triple_restated (sound1 W a c t Y (finds0 W a c t _ (hY 0)) (finds1 W a c t _ (hY 1))) rfl .rfl fun _ => .rfl

end Cert.KernelIdeal.Work

end
-- ==== Proof.KI.Body0.lean ====
/-
  The body of the `dy_quant` kernel, run on whole staging memrefs: what its stores leave in each buffer.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Work

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body of `dy_quant` at any point, from its four buffers at any contents: it leaves the input alone and the three outputs at the contents named here. -/
noncomputable def kernelRun0 (c : Dev nD) (i : grid0.Coords)
    (arg1 : Memref sig .tc .vmem S1024x1792 .bf16) (harg1 : arg1.IsWhole) (arg2 : Memref sig .tc .vmem S1024x1792 .fp8e4m3) (harg2 : arg2.IsWhole) (arg3 : Memref sig .tc .vmem S8x1792 .f32) (harg3 : arg3.IsWhole) (arg4 : Memref sig .tc .vmem S1792x1024 .bf16) (harg4 : arg4.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) :
    Σ' (g2 : Buf (Elt F) (arg2.view.loc (c : Thread nD τ))), Σ' (g3 : Buf (Elt F) (arg3.view.loc (c : Thread nD τ))), { g4 : Buf (Elt F) (arg4.view.loc (c : Thread nD τ)) //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (iprop((arg1.view.loc (c : Thread nD τ) ↦[arg1.view.set]{fullShare} f1) ∗ (arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4)) -∗ K ⟨⟩))
          ⊢ wp frame (wpE (defs₀ (F := F)) Variants.none c none) E (cc0_dy_quant i arg1 harg1 arg2 harg2 arg3 harg3 arg4 harg4) K } := by
  refine ⟨?_, ?_, ?_, fun E K => ?run⟩
  case run =>
    simp only [cc0_dy_quant_eq_skeleton]; unfold cc0_dy_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨H1, H2, H3, H4, Hk⟩
    sl_exec
    sl_step
    iapply Hk
    isplitl [H1]; · iexact H1
    isplitl [H2]; · iexact H2
    isplitl [H3]; · iexact H3
    iexact H4

end Cert.KernelIdeal.Work

end
-- ==== Proof.KI.Read0.lean ====
/-
  What the body of `dy_quant` leaves in its three output buffers, as blocks made of the eight groups it quantises.
-/
module

public import proofs.«01_k».proof.Proof.KI.Body0
public import proofs.«01_k».proof.Proof.Quant

@[expose] public section

set_option maxRecDepth 16384

noncomputable section

namespace Cert.KernelIdeal.Work

open Cert.KernelIdeal.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The shape facts of a group of 1792 columns. -/
theorem shapes0 : Quant.Shapes 1792 where
  same := shapeCasts_S128x1792_S128x1792
  split := shapeCasts_S128x1792_S8x16x1792
  red8 := reduces_S8x16x1792_S16x1792
  red16 := reduces_S16x1792_S1792
  row := shapeCasts_S1792_S1x1792
  iota := iota_S255x1792_d0_w32
  bc255 := broadcasts_S1x1792_S255x1792
  red255 := reduces_S255x1792_S1792
  bc128 := broadcasts_S1x1792_S128x1792

/-- The codes of a block: each group's own. -/
def codesB0 (x : Vec F S1024x1792 .bf16) : Vec F S1024x1792 .fp8e4m3 :=
  tile 1024 1792 (r := 128) (c := 1792) fun g n => Quant.codes shapes0 (chunk 128 1792 x g n)

/-- The scales of a block: one row per group. -/
def scaleB0 (x : Vec F S1024x1792 .bf16) : Vec F S8x1792 .f32 :=
  tile 8 1792 (r := 1) (c := 1792) fun g n => Quant.scale shapes0 (chunk 128 1792 x g n)

/-- The dequantised block, transposed. -/
def dytB0 (x : Vec F S1024x1792 .bf16) : Vec F S1792x1024 .bf16 :=
  tile 1792 1024 (r := 1792) (c := 128) fun n g => transpose S1792x128 [1, 0] (Quant.deq shapes0 (chunk 128 1792 x g n)) transposes_S128x1792_p1_0_S1792x128

variable (c : Dev nD) (i : grid0.Coords)
    (arg1 : Memref sig .tc .vmem S1024x1792 .bf16) (harg1 : arg1.IsWhole) (arg2 : Memref sig .tc .vmem S1024x1792 .fp8e4m3) (harg2 : arg2.IsWhole) (arg3 : Memref sig .tc .vmem S8x1792 .f32) (harg3 : arg3.IsWhole) (arg4 : Memref sig .tc .vmem S1792x1024 .bf16) (harg4 : arg4.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))

set_option maxHeartbeats 4000000 in
/-- The codes' buffer reads the codes of the input's block. -/
theorem read_codes0 : arg2.view.read (Elt F) (kernelRun0 c i arg1 harg1 arg2 harg2 arg3 harg3 arg4 harg4 f1 f2 f3 f4).1 = codesB0 (arg1.view.read (Elt F) f1) := by
  dsimp only [kernelRun0]
  refine read_pieces _ _ _ _ S128x1792.size (by sl_kernel_rfl) ?_
  have h : ∀ g n {off : Fin 2 → ℕ} (hoff : off = ![128 * g, 1792 * n]) (inb), Quant.codes shapes0 (arg1.view.readAt (Elt F) (Rect.unit (s := S1024x1792) off ![128, 1792] inb).toLoadRect f1) = Quant.codes shapes0 (chunk 128 1792 (arg1.view.read (Elt F) f1) g n) :=
    fun g n off hoff inb => congrArg _ (readAt_chunk _ _ g n hoff inb)
  simp only [List.forall_mem_cons, List.not_mem_nil, false_implies, implies_true, and_true]
  exact ⟨piece_tile _ 7 0 rfl _ _ (h 7 0 rfl inb_S1024x1792_S128x1792_896_0), piece_tile _ 6 0 rfl _ _ (h 6 0 rfl inb_S1024x1792_S128x1792_768_0),
    piece_tile _ 5 0 rfl _ _ (h 5 0 rfl inb_S1024x1792_S128x1792_640_0), piece_tile _ 4 0 rfl _ _ (h 4 0 rfl inb_S1024x1792_S128x1792_512_0),
    piece_tile _ 3 0 rfl _ _ (h 3 0 rfl inb_S1024x1792_S128x1792_384_0), piece_tile _ 2 0 rfl _ _ (h 2 0 rfl inb_S1024x1792_S128x1792_256_0),
    piece_tile _ 1 0 rfl _ _ (h 1 0 rfl inb_S1024x1792_S128x1792_128_0), piece_tile _ 0 0 rfl _ _ (h 0 0 rfl inb_S1024x1792_S128x1792_0_0)⟩

set_option maxHeartbeats 4000000 in
/-- The scales' buffer reads the scales of the input's block. -/
theorem read_scale0 : arg3.view.read (Elt F) (kernelRun0 c i arg1 harg1 arg2 harg2 arg3 harg3 arg4 harg4 f1 f2 f3 f4).2.1 = scaleB0 (arg1.view.read (Elt F) f1) := by
  dsimp only [kernelRun0]
  refine read_pieces _ _ _ _ S1x1792.size (by sl_kernel_rfl) ?_
  have h : ∀ g n {off : Fin 2 → ℕ} (hoff : off = ![128 * g, 1792 * n]) (inb), Quant.scale shapes0 (arg1.view.readAt (Elt F) (Rect.unit (s := S1024x1792) off ![128, 1792] inb).toLoadRect f1) = Quant.scale shapes0 (chunk 128 1792 (arg1.view.read (Elt F) f1) g n) :=
    fun g n off hoff inb => congrArg _ (readAt_chunk _ _ g n hoff inb)
  simp only [List.forall_mem_cons, List.not_mem_nil, false_implies, implies_true, and_true]
  exact ⟨piece_tile _ 7 0 rfl _ _ (h 7 0 rfl inb_S1024x1792_S128x1792_896_0), piece_tile _ 6 0 rfl _ _ (h 6 0 rfl inb_S1024x1792_S128x1792_768_0),
    piece_tile _ 5 0 rfl _ _ (h 5 0 rfl inb_S1024x1792_S128x1792_640_0), piece_tile _ 4 0 rfl _ _ (h 4 0 rfl inb_S1024x1792_S128x1792_512_0),
    piece_tile _ 3 0 rfl _ _ (h 3 0 rfl inb_S1024x1792_S128x1792_384_0), piece_tile _ 2 0 rfl _ _ (h 2 0 rfl inb_S1024x1792_S128x1792_256_0),
    piece_tile _ 1 0 rfl _ _ (h 1 0 rfl inb_S1024x1792_S128x1792_128_0), piece_tile _ 0 0 rfl _ _ (h 0 0 rfl inb_S1024x1792_S128x1792_0_0)⟩

set_option maxHeartbeats 4000000 in
/-- The third output's buffer reads the dequantised block, transposed. -/
theorem read_dyt0 : arg4.view.read (Elt F) (kernelRun0 c i arg1 harg1 arg2 harg2 arg3 harg3 arg4 harg4 f1 f2 f3 f4).2.2.1 = dytB0 (arg1.view.read (Elt F) f1) := by
  dsimp only [kernelRun0]
  refine read_pieces _ _ _ _ S1792x128.size (by sl_kernel_rfl) ?_
  have h : ∀ g n {off : Fin 2 → ℕ} (hoff : off = ![128 * g, 1792 * n]) (inb), transpose S1792x128 [1, 0] (Quant.deq shapes0 (arg1.view.readAt (Elt F) (Rect.unit (s := S1024x1792) off ![128, 1792] inb).toLoadRect f1)) transposes_S128x1792_p1_0_S1792x128 = transpose S1792x128 [1, 0] (Quant.deq shapes0 (chunk 128 1792 (arg1.view.read (Elt F) f1) g n)) transposes_S128x1792_p1_0_S1792x128 :=
    fun g n off hoff inb => congrArg (fun v => transpose S1792x128 [1, 0] (Quant.deq shapes0 v) transposes_S128x1792_p1_0_S1792x128) (readAt_chunk _ _ g n hoff inb)
  simp only [List.forall_mem_cons, List.not_mem_nil, false_implies, implies_true, and_true]
  exact ⟨piece_tile _ 0 7 rfl _ _ (h 7 0 rfl inb_S1024x1792_S128x1792_896_0), piece_tile _ 0 6 rfl _ _ (h 6 0 rfl inb_S1024x1792_S128x1792_768_0),
    piece_tile _ 0 5 rfl _ _ (h 5 0 rfl inb_S1024x1792_S128x1792_640_0), piece_tile _ 0 4 rfl _ _ (h 4 0 rfl inb_S1024x1792_S128x1792_512_0),
    piece_tile _ 0 3 rfl _ _ (h 3 0 rfl inb_S1024x1792_S128x1792_384_0), piece_tile _ 0 2 rfl _ _ (h 2 0 rfl inb_S1024x1792_S128x1792_256_0),
    piece_tile _ 0 1 rfl _ _ (h 1 0 rfl inb_S1024x1792_S128x1792_128_0), piece_tile _ 0 0 rfl _ _ (h 0 0 rfl inb_S1024x1792_S128x1792_0_0)⟩

end Cert.KernelIdeal.Work

end
-- ==== Proof.KI.Region0.lean ====
module

public import proofs.«01_k».proof.Proof.KI.Read0
public import proofs.«01_k».proof.Proof.Gen.KernelIdeal.Launch
public import proofs.«01_k».proof.Proof.Gen.KernelIdeal.Points
public import Idealize.ShloMosaic.Lib.Pipeline.Frame
public import Idealize.ShloMosaic.Lib.Pipeline.Regions

@[expose] public section

set_option maxRecDepth 16384

noncomputable section

namespace Cert.KernelIdeal.Work

open Cert.KernelIdeal.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat RDat Cfg Window BodyObligation cellOf)

variable (W : Dev nD → Valuation τ sig (Elt F))

/-- Window `w`'s block at point `t` of the first kernel call, read off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The proof data of the first kernel call: the arrays as the call finds them; after the body at a point the input's
    buffer at its block, and the three outputs' at the codes, the scales and the transposed dequantised tile of it. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => codesB0 (F := F) (iblk0 W c 0 t)
    | ⟨2, _⟩ => scaleB0 (F := F) (iblk0 W c 0 t)
    | ⟨3, _⟩ => dytB0 (F := F) (iblk0 W c 0 t)
  Φ _ := Pipeline.ΦA spec0 c
  q _ := fullShare
  owed _ := 0

/-- The arrays of the first call's proof data. -/
theorem dat0_A (c : Dev nD) (w : Fin cfg0.W) : (dat0 W c).A w = W c (Proc.devRef .tc (Pipeline.arrRef spec0 w)) := by
  dsimp only [dat0]
/-- What the first call's body leaves in the input's buffer. -/
theorem after0_0 (c : Dev nD) (t : Fin cfg0.N) : (dat0 W c).after 0 t = iblk0 W c 0 t := by dsimp only [dat0]
/-- What the first call's body leaves in the codes' buffer. -/
theorem after0_1 (c : Dev nD) (t : Fin cfg0.N) : (dat0 W c).after 1 t = codesB0 (F := F) (iblk0 W c 0 t) := by dsimp only [dat0]
/-- What the first call's body leaves in the scales' buffer. -/
theorem after0_2 (c : Dev nD) (t : Fin cfg0.N) : (dat0 W c).after 2 t = scaleB0 (F := F) (iblk0 W c 0 t) := by dsimp only [dat0]
/-- What the first call's body leaves in the transposed buffer. -/
theorem after0_3 (c : Dev nD) (t : Fin cfg0.N) : (dat0 W c).after 3 t = dytB0 (F := F) (iblk0 W c 0 t) := by dsimp only [dat0]

/-- The input's buffer holds its block at every point. -/
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)

/-- What the first call's body is handed at a point. -/
def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d)))

/-- What it gives back. -/
def post0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t))

/-- The first call's body at any point: from the input's block it leaves the codes, scales and transposed tile. -/
theorem sound0 (c : Dev nD) (t : Fin cfg0.N) :
    pre0 W c t ⊢ wp frame (wpE (defs₀ (F := F)) Variants.none c none) Set.univ (bodyAt0 t) (fun _ => post0 W c t) := by
  unfold pre0 post0 bodyAt0
  simp only [before0_0]
  rw [show (dat0 W c).Φ t.succ = (dat0 W c).Φ t.castSucc from rfl,
    show (dat0 W c).owesAt () t.succ = (dat0 W c).owesAt () t.castSucc from rfl,
    after0_0, after0_1, after0_2, after0_3]
  unfold owns
  iintro ⟨HΦ, Ho, ⟨%d0, ⟨%f0, %h0, H0⟩⟩, ⟨%d1, ⟨%f1, %h1, H1⟩⟩, ⟨%d2, ⟨%f2, %h2, H2⟩⟩, ⟨%d3, ⟨%f3, %h3, H3⟩⟩⟩
  iapply ((kernelRun0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) f0 f1 f2 f3).2.2.2 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists _; isplitr
    swap; · iexact H0
    ipureintro; exact h0
  isplitl [H1]
  · iexists _; isplitr
    swap; · iexact H1
    ipureintro; exact (read_codes0 ..).trans (congrArg codesB0 h0)
  isplitl [H2]
  · iexists _; isplitr
    swap; · iexact H2
    ipureintro; exact (read_scale0 ..).trans (congrArg scaleB0 h0)
  iexists _; isplitr
  swap; · iexact H3
  ipureintro; exact (read_dyt0 ..).trans (congrArg dytB0 h0)

/-- The body table's row for the first call at a point's slots is the body there. -/
theorem row0 (t : Fin cfg0.N) : defs₀ (F := F) .tc cfg0.body (cfg0.bodyArgs t (cfg0.slots t)) = bodyAt0 t := by
  unfold defs₀; rw [Defs.onTc_tc]

/-- The first call's body obligation, at every point. -/
theorem body0 (c : Dev nD) : BodyObligation (dat0 (F := F) W c) (defs₀ (F := F)) Variants.none () Set.univ := fun t => by
  rw [bigSep_W0, bigSep_W0, row0]; exact triple_restated (sound0 W c t) rfl .rfl fun _ => .rfl

end Cert.KernelIdeal.Work

end
-- ==== Proof.KI.Seg.lean ====
/-
  A kernel region as a segment of the program, for relational proof data: entered with every host buffer held, left with the region's arrays
  at contents its write-backs may have made.
-/
module

public import proofs.«01_k».proof.Proof.KI.Region1
public import proofs.«01_k».proof.Proof.KI.Region0
public import proofs.«01_k».proof.Proof.Gen.KernelIdeal.Regions
public import Idealize.ShloMosaic.Lib.Pipeline.RegionArraysTS
public import Idealize.ShloMosaic.Lib.Pipeline.ArrRel

@[expose] public section

set_option maxRecDepth 16384

noncomputable section

namespace Cert.KernelIdeal.Work

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat RDat Cfg Window cellOf arrRef arrRefs tblRefs pin prefHeld scopedRest PLaunchFacts afterRegion ucRefs)

variable (a : (p : Fin 2) → (pcfgs (F := F) p).Adm)
variable (rdats : (p : Fin 2) → (c : Dev nD) → RDat τ (Elt F) Unit ℕ (UR sig nD τ) ℕ (pin (pcfgs (F := F)) a p) c)

/-- No level is assigned to any semaphore: no core owes another anything. -/
abbrev noLevels : GSem nD τ sig → Finset Unit := fun _ => ∅
/-- The level of every semaphore. -/
abbrev level0 : GSem nD τ sig → Unit → ℕ := fun _ _ => 0

/-- What rides beside the host buffers: the random number register and an empty list of dues. -/
abbrev Rest (c : Dev nD) : sProp 𝕄 := iprop((∃ r, prngReg c r) ∗ ∃ Wd, owes (c : Thread nD τ) (0 : CellTallies nD τ sig Unit) Wd)

/-- What is known of a region's arrays when it ends: they are what `after`, which the body may have left, makes of them. -/
def Ends (p : Fin 2) (c : Dev nD) (after : (w : Fin (pin (pcfgs (F := F)) a p).W) → Fin (pin (pcfgs (F := F)) a p).N →
    ((pin (pcfgs (F := F)) a p).win w).block.Idx → Elt F ((pin (pcfgs (F := F)) a p).win w).elt) : Prop :=
  (∀ w, (rdats p c).ArrAt w (pin (pcfgs (F := F)) a p).N (((rdats p c).withAfter after).arrAt w (pin (pcfgs (F := F)) a p).N))
  ∧ ∀ w u, ((pin (pcfgs (F := F)) a p).win w).flush u = true → (rdats p c).Leaves w u (after w u)

/-- The arrays of a region at contents `G` are its array buffers held at any valuation that has them at `G`. -/
theorem arrays_held (p : Fin 2) (kit : PLaunchFacts (nD := nD) (τ := τ) (pcfgs (F := F)) p) (c : Dev nD)
    (hshare : ∀ w, (rdats p c).share w = fullShare)
    (G : (w : Fin (pin (pcfgs (F := F)) a p).W) → Buf (Elt F) (((pin (pcfgs (F := F)) a p).win w).arr.view.loc (c.tc : Thread nD τ)))
    (Wc : Valuation τ sig (Elt F)) (hG : ∀ w, G w = Wc (Proc.devRef .tc (arrRef (pin (pcfgs (F := F)) a p).spec w))) :
    ((rdats p c).arrays G : sProp 𝕄) = StableHlo.held (c.tc : Thread nD τ) (arrRefs (pcfgs (F := F) p).spec) Wc := by
  rw [Pipeline.RDat.arrays_eq (pcfgs (F := F)) a rdats p c kit.arr_whole hshare G]
  unfold StableHlo.held arrRefs
  rw [bigSep_map, show Finset.univ.image (arrRef (pcfgs (F := F) p).spec) = Finset.univ.map ⟨arrRef (pcfgs (F := F) p).spec, kit.win.arr_inj⟩ from
    (Finset.map_eq_image ⟨arrRef (pcfgs (F := F) p).spec, kit.win.arr_inj⟩ Finset.univ).symm, bigSep_map]
  exact bigSep_congr fun w _ => by rw [hG]; rfl

/-- The arrays after the write-backs, each at contents it may hold, are the arrays at one family of contents, which some `after` makes. -/
theorem arraysAt_ends (p : Fin 2) (c : Dev nD) :
    ((rdats p c).arraysAt (pin (pcfgs (F := F)) a p).N : sProp 𝕄)
      ⊢ iprop(∃ after, ⌜Ends a rdats p c after⌝ ∗ (rdats p c).arrays (fun w => ((rdats p c).withAfter after).arrAt w (pin (pcfgs (F := F)) a p).N)) := by
  unfold RDat.arraysAt RDat.arrays
  refine (BI.bigSep_exists_pi Finset.univ _).trans ?_
  iintro ⟨%A, H⟩
  ihave H' := (BI.bigSep_pure_sep Finset.univ (fun w => (rdats p c).ArrAt w (pin (pcfgs (F := F)) a p).N (A w)) _) $$ H
  icases H' with ⟨%hA, H⟩
  obtain ⟨after, hl, he⟩ := RDat.ArrAt.exists_exact_all (rd := rdats p c) (fun w => hA w (Finset.mem_univ w))
  obtain rfl : A = fun w => ((rdats p c).withAfter after).arrAt w (pin (pcfgs (F := F)) a p).N := funext he
  iexists after
  isplitr
  · ipureintro
    exact ⟨fun w => hA w (Finset.mem_univ w), fun w u hf => hl w u u.isLt hf⟩
  iexact H

/-- Region `p` as a segment, entered with the host buffers at `W c` and left with its arrays at contents that some `after` makes. -/
def heldSeg (p : Fin 2) (kit : PLaunchFacts (nD := nD) (τ := τ) (pcfgs (F := F)) p)
    (hbody : ∀ c, (rdats p c).BodyObligation defs₀ Variants.none () Set.univ)
    (howed : ∀ c t, (rdats p c).owed t = 0) (hrec : ∀ c, (rdats p c).recorded 0 = Set.univ)
    (hshare : ∀ c w, (rdats p c).share w = fullShare)
    (W : Dev nD → Valuation τ sig (Elt F))
    (hA : ∀ c w, (rdats p c).A w = W c (Proc.devRef .tc (arrRef (pin (pcfgs (F := F)) a p).spec w)))
    (hT : ∀ c k, (a p).1 k = W c (Proc.devRef .tc ((pcfgs (F := F) p).pre.ref k)))
    (hin : ∀ c, iprop((∃ r, prngReg c r) ∗ prefHeld (pcfgs (F := F) p).pre c (fun _ => fullShare) (a p).1 ∗ scopedRest (pin (pcfgs (F := F)) a p).spec c)
      ⊢ (rdats p c).Φ 0)
    (hout : ∀ c, (rdats p c).Φ (Fin.last (pin (pcfgs (F := F)) a p).N)
      ⊢ iprop(((∃ r, prngReg c r) ∗ prefHeld (pcfgs (F := F) p).pre c (fun _ => fullShare) (a p).1) ∗ scopedRest (pin (pcfgs (F := F)) a p).spec c))
    (hS : arrRefs (pcfgs (F := F) p).spec ⊆ ucRefs τ sig) (hS' : tblRefs (pcfgs (F := F) p).pre ⊆ ucRefs τ sig \ arrRefs (pcfgs (F := F) p).spec)
    (hinj : Function.Injective (pcfgs (F := F) p).pre.ref) :
    RDat.RegionSeg (pcfgs (F := F)) a rdats () defs₀ Variants.none noLevels level0 p where
  win := kit.to₀.win
  block_pos := kit.to₀.block_pos
  stage_whole := kit.to₀.stage_whole
  K := PEmpty
  osem k := k.elim
  ho := Pipeline.OwnSemFacts.none _
  hbody := hbody
  hwaits := RDat.hwaits_of_owed_zero (pcfgs (F := F)) a rdats () noLevels level0 p howed
  pre c := iprop(StableHlo.held (c : Thread nD τ) (ucRefs τ sig) (W c) ∗ Rest c)
  post c := iprop(∃ after, ⌜Ends a rdats p c after⌝ ∗ StableHlo.held (c : Thread nD τ) (ucRefs τ sig) (afterRegion ((rdats p c).withAfter after) (W c)) ∗ Rest c)
  X c := iprop(∃ r, prngReg c r)
  Y c := iprop((∃ r, prngReg c r) ∗ prefHeld (pcfgs (F := F) p).pre c (fun _ => fullShare) (a p).1)
  Z c := StableHlo.held (c : Thread nD τ) ((ucRefs τ sig \ arrRefs (pcfgs (F := F) p).spec) \ tblRefs (pcfgs (F := F) p).pre) (W c)
  hentry c := by
    rw [Pipeline.ownSems0_none, arrays_held a rdats p kit c (hshare c) (rdats p c).A (W c) (hA c),
      Pipeline.prefHeld_held (pcfgs (F := F) p).pre hinj c (a p).1 (W c) (hT c), StableHlo.held_sub_split (c.tc : Thread nD τ) hS (W c),
      StableHlo.held_sub_split (c.tc : Thread nD τ) hS' (W c)]
    iintro ⟨⟨⟨Ha, Ht, Hz⟩, Hr, HO⟩, -, -⟩
    imodintro
    isplitl [Ha]; · iexact Ha
    isplitl [Ht]; · iexact Ht
    isplitl [HO]
    · unfold RDat.owesAt Pipeline.owesWithin RDat.bound
      rw [howed c 0, hrec c]
      icases HO with ⟨%Wd, HO⟩; iexists Wd; isplitr; · ipureintro; exact fun _ _ => Or.inl trivial
      iexact HO
    isplitl [Hr]; · iexact Hr
    iexact Hz
  hin := hin
  hout c := (hout c).trans (by
    rw [Pipeline.ownSems0_none]
    iintro ⟨HY, Hs⟩
    isplitl [HY]; · iexact HY
    isplitr; · iempintro
    iexact Hs)
  hexit c := by
    iintro ⟨Ha, HO, ⟨Hr, Ht⟩, Hz⟩
    ihave Ha := (arraysAt_ends a rdats p c) $$ Ha
    icases Ha with ⟨%after, %he, Ha⟩
    imodintro
    iexists after
    isplitr; · ipureintro; exact he
    have hoff := Pipeline.afterRegion_off ((rdats p c).withAfter after) (W c) (ucRefs τ sig)
    have hj : iprop((rdats p c).arrays (fun w => ((rdats p c).withAfter after).arrAt w (pin (pcfgs (F := F)) a p).N)
          ∗ prefHeld (pcfgs (F := F) p).pre c (fun _ => fullShare) (a p).1
          ∗ StableHlo.held (c : Thread nD τ) ((ucRefs τ sig \ arrRefs (pcfgs (F := F) p).spec) \ tblRefs (pcfgs (F := F) p).pre) (W c))
        ⊢ (StableHlo.held (c : Thread nD τ) (ucRefs τ sig) (afterRegion ((rdats p c).withAfter after) (W c)) : sProp 𝕄) := by
      rw [arrays_held a rdats p kit c (hshare c) _ (afterRegion ((rdats p c).withAfter after) (W c))
          (fun w => (Pipeline.afterRegion_arr ((rdats p c).withAfter after) (W c) kit.win.arr_inj w).symm),
        Pipeline.prefHeld_held (pcfgs (F := F) p).pre hinj c (a p).1 (W c) (hT c),
        StableHlo.held_sub_split (c.tc : Thread nD τ) hS (afterRegion ((rdats p c).withAfter after) (W c)),
        StableHlo.held_congr (c.tc : Thread nD τ) (S := ucRefs τ sig \ arrRefs (pcfgs (F := F) p).spec) hoff,
        StableHlo.held_sub_split (c.tc : Thread nD τ) hS' (W c)]
    isplitl [Ha Ht Hz]
    · iapply hj
      isplitl [Ha]; · iexact Ha
      isplitl [Ht]; · iexact Ht
      iexact Hz
    isplitl [Hr]; · iexact Hr
    unfold RDat.owesAt Pipeline.owesWithin
    rw [howed c (Fin.last _)]
    icases HO with ⟨%Wd, -, HO⟩; iexists Wd; iexact HO

/-- A region's exit valuation depends on its proof data through the arrays' final contents alone. -/
theorem afterRegion_congr {cfg : Cfg sig Λ₀} {c : Dev nD} (d d' : Dat τ (Elt F) Unit ℕ (UR sig nD τ) ℕ cfg c) (V : Valuation τ sig (Elt F))
    (h : ∀ w, d.arrAt w cfg.N = d'.arrAt w cfg.N) : afterRegion d V = afterRegion d' V := by
  funext b
  unfold afterRegion
  by_cases hb : ∃ w : Fin cfg.W, b = Proc.devRef .tc (arrRef cfg.spec w)
  · rw [dif_pos hb, dif_pos hb, h]
  · rw [dif_neg hb, dif_neg hb]

set_option backward.isDefEq.respectTransparency.types false in
/-- A host stretch entered from buffers held at one of a family of valuations, of which a fact is known, and left with them advanced. -/
def hostSome (ops : List (HloOp τ sig (Elt F))) (hS : ∀ op ∈ ops, op.bufs ⊆ ucRefs τ sig) (hf : ∀ op ∈ ops, op.fresh = ∅)
    {A : Type} (P : Dev nD → A → Prop) (V : Dev nD → A → Valuation τ sig (Elt F)) :
    Pipeline.HostSeg (Ix := Unit) (Name := ℕ) (U := UR sig nD τ) (Lvl := ℕ) (pcfgs (F := F)) defs₀ Variants.none noLevels level0 where
  prog := StableHlo.seq ops
  pre c := iprop(∃ x, ⌜P c x⌝ ∗ StableHlo.held (c : Thread nD τ) (ucRefs τ sig) (V c x) ∗ Rest c)
  post c := iprop((∃ x, ⌜P c x⌝ ∗ StableHlo.held (c : Thread nD τ) (ucRefs τ sig) (StableHlo.after ops (V c x)))
    ∗ ∃ Wd, owes (c : Thread nD τ) (0 : CellTallies nD τ sig Unit) Wd)
  run c {β} k K := by
    have hseq := fun x => StableHlo.wp_seq (defs := Pipeline.defs (pcfgs (F := F)) defs₀) (Variants.lift Variants.none) none Set.univ c (ucRefs τ sig) k (K := K) ops hS hf (V c x)
    iintro ⟨Hk, Hbd, ⟨%x, %hx, Hh, Hr, HO⟩, -⟩
    iapply (hseq x) $$ [Hbd Hh]
    · isplitl [Hbd] <;> iassumption
    iintro ⟨Hbd, Hh⟩
    iapply Hk
    isplitl [Hbd]; · iexact Hbd
    isplitl [Hh]
    · iexists x
      isplitr; · ipureintro; exact hx
      iexact Hh
    iexact HO

end Cert.KernelIdeal.Work

end
-- ==== Proof.KI.Run.lean ====
/-
  The whole program's run: @main as its host stretches and its two kernel regions, and what every final memory then holds.
-/
module

public import proofs.«01_k».proof.Proof.KI.Seg

@[expose] public section

set_option maxRecDepth 16384

noncomputable section

namespace Cert.KernelIdeal.Work

open Cert.KernelIdeal.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat RDat Cfg Window HostSeg cellOf arrRef arrRefs tblRefs pin prefHeld scopedRest PLaunchFacts afterRegion ucRefs)

variable (m : (ℓ : Loc nD τ sig) → Buf (Elt F) ℓ)

/-- What the first kernel call leaves in the buffers it may change. -/
def outs0 : Outs (F := F) := fun _ r c => afterRegion (dat0 (V1 m) c) (V1 m c) (Proc.devRef .tc r)

/-- The host buffers when the second kernel call is entered. -/
def entry1 (c : Dev nD) : Valuation τ sig (Elt F) := V16 m (outs0 m) c

/-- The work lists the second kernel call is entered with. -/
def lists (c : Dev nD) : pre1.Contents (Elt F) := fun k => entry1 m c (Proc.devRef .tc (pre1.ref k))

variable (hok : ok1 (lists m 0))

/-- The admissible contents of the prefetched tables: none for the first call, the work lists for the second. -/
abbrev adm : (p : Fin 2) → (pcfgs (F := F) p).Adm := fun
  | ⟨0, _⟩ => cfg0.toPCfg_adm
  | ⟨1, _⟩ => ⟨lists m 0, hok⟩
  | ⟨_ + 2, h⟩ => absurd h (Nat.not_lt.2 (Nat.le_add_left _ _))

/-- The second call's work lists with the fact that they are admissible. -/
abbrev adm1 : (pcfg1 (F := F)).Adm := ⟨lists m 0, hok⟩

/-- The two calls' proof data. -/
def rdats : (p : Fin 2) → (c : Dev nD) → RDat τ (Elt F) Unit ℕ (UR sig nD τ) ℕ (pin (pcfgs (F := F)) (adm m hok) p) c := fun
  | ⟨0, _⟩ => fun c => (dat0 (V1 m) c).toR
  | ⟨1, _⟩ => fun c => rd1 (entry1 m) (adm1 m hok) c
  | ⟨_ + 2, h⟩ => absurd h (Nat.not_lt.2 (Nat.le_add_left _ _))

/-- The buffers after the first kernel call. -/
theorem V2_eq (c : Dev nD) : V2 m (outs0 m) c = afterRegion (dat0 (V1 m) c) (V1 m c) := by
  have keep : ∀ b : DevRef τ sig, b ≠ Proc.devRef .tc main_v2_0 → b ≠ Proc.devRef .tc main_v2_1 → b ≠ Proc.devRef .tc main_v2_2 →
      afterRegion (dat0 (V1 m) c) (V1 m c) b = V1 m c b := by
    intro b h0 h1 h2
    by_cases h : ∃ w : Fin cfg0.W, b = Proc.devRef .tc (arrRef spec0 w)
    · obtain ⟨w, rfl⟩ := h
      refine (Pipeline.afterRegion_arr (dat0 (V1 m) c) (V1 m c) winFacts0.arr_inj w).trans ?_
      have hw : w = 0 := by
        fin_cases w
        · rfl
        · exact absurd rfl h0
        · exact absurd rfl h1
        · exact absurd rfl h2
      subst hw
      exact ((dat0 (V1 m) c).arrAt_in 0 rfl _).trans (dat0_A (V1 m) c 0)
    · unfold afterRegion; exact dif_neg h
  funext b
  by_cases h2 : b = Proc.devRef .tc main_v2_2
  · subst h2; exact Function.update_self ..
  refine (Function.update_of_ne h2 ..).trans ?_
  by_cases h1 : b = Proc.devRef .tc main_v2_1
  · subst h1; exact Function.update_self ..
  refine (Function.update_of_ne h1 ..).trans ?_
  by_cases h0 : b = Proc.devRef .tc main_v2_0
  · subst h0; exact Function.update_self ..
  exact (Function.update_of_ne h0 ..).trans (keep b h0 h1 h2).symm

set_option backward.isDefEq.respectTransparency.types false in
/-- The first kernel call as a segment. -/
def reg0 : RDat.RegionSeg (pcfgs (F := F)) (adm m hok) (rdats m hok) () defs₀ Variants.none noLevels level0 0 :=
  heldSeg (adm m hok) (rdats m hok) 0 launch0 (fun c => (body0 (V1 m) c).toR) (fun _ _ => rfl) (fun _ => rfl)
    (fun c w => by unfold RDat.share; exact ite_self _) (V1 m) (fun c w => dat0_A (V1 m) c w) (fun _ k => k.elim0)
    (fun c => show _ ⊢ Pipeline.ΦA spec0 c from by
      unfold Pipeline.ΦA
      iintro ⟨Hp, -, Hs⟩
      isplitl [Hs]; · iexact Hs
      iexact Hp)
    (fun c => show Pipeline.ΦA spec0 c ⊢ _ from by
      rw [Pipeline.prefHeld_of_none _ rfl]
      unfold Pipeline.ΦA
      iintro ⟨Hs, Hp⟩
      isplitl [Hp]
      · isplitl [Hp]; · iexact Hp
        iempintro
      iexact Hs)
    (Pipeline.arrRefs_sub_ucRefs _ launch0.win.arr_unscoped) (Pipeline.tblRefs_sub_ucRefs_sdiff _ _ launch0.pre.unscoped launch0.pre.disj) (fun k => k.elim0)

set_option backward.isDefEq.respectTransparency.types false in
/-- The second kernel call as a segment. -/
def reg1 : RDat.RegionSeg (pcfgs (F := F)) (adm m hok) (rdats m hok) () defs₀ Variants.none noLevels level0 1 :=
  heldSeg (adm m hok) (rdats m hok) 1 launch1 (fun c => body1 (entry1 m) (adm1 m hok) c) (fun _ _ => rfl) (fun _ => rfl)
    (fun c w => by unfold RDat.share; exact ite_self _) (entry1 m) (fun c w => rd1_A (entry1 m) (adm1 m hok) c w)
    (fun c k => by obtain rfl : c = 0 := Subsingleton.elim _ _; rfl)
    (fun c => show _ ⊢ iprop(Pipeline.ΦA spec1 c ∗ prefHeld pre1 c (fun _ => fullShare) (lists m 0)) from by
      unfold Pipeline.ΦA
      iintro ⟨Hp, Ht, Hs⟩
      isplitl [Hp Hs]
      · isplitl [Hs]; · iexact Hs
        iexact Hp
      iexact Ht)
    (fun c => show iprop(Pipeline.ΦA spec1 c ∗ prefHeld pre1 c (fun _ => fullShare) (lists m 0)) ⊢ _ from by
      unfold Pipeline.ΦA
      iintro ⟨⟨Hs, Hp⟩, Ht⟩
      isplitl [Hp Ht]
      · isplitl [Hp]; · iexact Hp
        iexact Ht
      iexact Hs)
    (Pipeline.arrRefs_sub_ucRefs _ launch1.win.arr_unscoped) (Pipeline.tblRefs_sub_ucRefs_sdiff _ _ launch1.pre.unscoped launch1.pre.disj) launch1.pre.inj

/-- The last host buffers, the second call's arrays being what `after` makes of them. -/
abbrev final (c : Dev nD) (after : (w : Fin (cfg1 (adm1 m hok)).W) → Fin (cfg1 (adm1 m hok)).N → ((cfg1 (adm1 m hok)).win w).block.Idx → Elt F ((cfg1 (adm1 m hok)).win w).elt) :
    Valuation τ sig (Elt F) :=
  StableHlo.after hostOps2 (afterRegion ((rd1 (entry1 m) (adm1 m hok) c).withAfter after) (entry1 m c))

/-- The last host stretch as a segment. -/
def segLast : HostSeg (Ix := Unit) (Name := ℕ) (U := UR sig nD τ) (Lvl := ℕ) (pcfgs (F := F)) defs₀ Variants.none noLevels level0 :=
  hostSome hostOps2 (fun op h => Pipeline.sub_ucRefs op ((List.forall_iff_forall_mem.mp hostOps2_sub) op h))
    (fun op h => (List.forall_iff_forall_mem.mp hostOps2_fresh) op h) (Ends (adm m hok) (rdats m hok) 1)
    (fun c after => afterRegion ((rdats m hok 1 c).withAfter after) (entry1 m c))

/-- What rides beside the host buffers at every item. -/
abbrev riding : Fin 3 → Dev nD → sProp 𝕄 := fun _ => Rest

/-- @main's items as segments. -/
abbrev segList : List (RDat.Seg (pcfgs (F := F)) (adm m hok) (rdats m hok) () defs₀ Variants.none noLevels level0) :=
  [.host (seg0 m Variants.none noLevels level0 riding), .region (reg0 m hok),
   .host (seg2 m (outs0 m) Variants.none noLevels level0 riding), .host (seg3 m (outs0 m) Variants.none noLevels level0 riding),
   .host (seg4 m (outs0 m) Variants.none noLevels level0 riding), .host (seg5 m (outs0 m) Variants.none noLevels level0 riding),
   .host (seg6 m (outs0 m) Variants.none noLevels level0 riding), .host (seg7 m (outs0 m) Variants.none noLevels level0 riding),
   .host (seg8 m (outs0 m) Variants.none noLevels level0 riding), .host (seg9 m (outs0 m) Variants.none noLevels level0 riding),
   .host (seg10 m (outs0 m) Variants.none noLevels level0 riding), .host (seg11 m (outs0 m) Variants.none noLevels level0 riding),
   .host (seg12 m (outs0 m) Variants.none noLevels level0 riding), .host (seg13 m (outs0 m) Variants.none noLevels level0 riding),
   .host (seg14 m (outs0 m) Variants.none noLevels level0 riding), .host (seg15 m (outs0 m) Variants.none noLevels level0 riding),
   .region (reg1 m hok), .host (segLast m hok)]

/-- What the first call leaves is what the next host stretch is entered with. -/
theorem post0_to (c : Dev nD) : (reg0 m hok).post c ⊢ (seg2 m (outs0 m) Variants.none noLevels level0 riding).pre c := by
  show iprop(∃ after, ⌜Ends (adm m hok) (rdats m hok) 0 c after⌝ ∗ StableHlo.held (c : Thread nD τ) (ucRefs τ sig)
      (afterRegion ((rdats m hok 0 c).withAfter after) (V1 m c)) ∗ Rest c) ⊢ iprop(StableHlo.held (c.tc : Thread nD τ) (ucRefs τ sig) (V2 m (outs0 m) c) ∗ Rest c)
  iintro ⟨%after, %he, Hh, Hr⟩
  have e : afterRegion ((rdats m hok 0 c).withAfter after) (V1 m c) = V2 m (outs0 m) c := by
    rw [V2_eq]
    exact afterRegion_congr (cfg := cfg0) ((rdats m hok 0 c).withAfter after) (dat0 (V1 m) c) (V1 m c)
      fun w => (dat0 (V1 m) c).toR_arrAt w cfg0.N _ (he.1 w)
  rw [e]
  isplitl [Hh]; · iexact Hh
  iexact Hr

/-- The facts of a final memory: every host buffer at the last valuation, for some contents the second call's body may leave. -/
def Finals (c : Dev nD) (s : MemSt nD τ sig (Elt F)) : Prop :=
  ∃ after, Ends (adm m hok) (rdats m hok) 1 c after ∧ ∀ b ∈ ucRefs τ sig, s.mem ((c : Thread nD τ).1, b) = final m hok c after b

set_option backward.isDefEq.respectTransparency.types false in
/-- The run of the whole program, when the work lists are admissible: it ends, nothing faulting, with `Finals` on every core and every
    semaphore at zero. -/
theorem run_main (ρ : Dev nD → PrngReg) : θ_run defs (onTc (τ := τ) (main (F := F))) ⟨m, fun _ => 0, ρ⟩
    (fun r => (∀ c : Dev nD, Finals m hok c r.2) ∧ r.2.sem = fun _ => 0) := by
  refine RDat.θ_run_regions_kit_dev_sems (pcfgs (F := F)) (adm m hok) (rdats m hok) () (cellOf_inj (adm m hok)) emb₁ defs₀ Variants.none noLevels level0 m ρ main
    (fun _ => segList m hok)
    (fun c Q => by
      rewrite [main_chain c, RDat.Seg.run_eq_chain,
        show (segList m hok).map RDat.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          Prog.lift (.customCall (Pipeline.entry 1) ()),
          StableHlo.seq hostOps2 ] from rfl]
      dsimp (config := { failIfUnchanged := false }) only
      exact .rfl)
    (fun c => by simp only [segList, RDat.Seg.pipes_host, RDat.Seg.pipes_region, RDat.Seg.pipes_nil]; decide)
    0 (fun _ _ => rfl) (fun _ => iprop(emp))
    (initOf (Pipeline.cells (pin (pcfgs (F := F)) (adm m hok)) (cellOf_inj (adm m hok))) (Pipeline.launchToks (pin (pcfgs (F := F)) (adm m hok)) (cellOf_inj (adm m hok))))
    (by
      iintro Hu; imodintro
      isplitl [Hu]
      · iapply (show (ownU _ : sProp 𝕄) ⊢ BI.own (emb₁ (initOf (Pipeline.cells (pin (pcfgs (F := F)) (adm m hok)) (cellOf_inj (adm m hok))) (Pipeline.launchToks (pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ Rest c))
    (Tₙ := fun c => iprop(∃ after, ⌜Ends (adm m hok) (rdats m hok) 1 c after⌝ ∗ StableHlo.held (c : Thread nD τ) (ucRefs τ sig) (final m hok c after)))
    (hch := fun c => ⟨.rfl, .rfl, post0_to m hok c, .rfl, .rfl, .rfl, .rfl, .rfl, .rfl, .rfl, .rfl, .rfl, .rfl, .rfl, .rfl, .rfl, .rfl, .rfl, .rfl⟩)
    (hinit := by
      refine Pipeline.initEach noLevels level0 fun c => ?_
      rw [show unscopedBufs c (fun b => m ((c.tc : Thread nD τ).loc b)) = StableHlo.held (c.tc : Thread nD τ) (ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists ∅; iexact HO)
    (QY := fun c s => Finals m hok c s) (hfin := fun c s' => ?_)
    (hQ := fun _ h hz => ⟨h, funext fun g => hz g (.inr (regions_no_unscoped g.2))⟩)
  unfold StableHlo.held
  iintro ⟨⟨%after, %he, Hh⟩, HSI⟩
  ihave Hr := (pointsTo_read_all (ucRefs τ sig) (fun b => ((c : Thread nD τ).1, b)) (final m hok c after) s') $$ [Hh HSI]
  · isplitl [Hh] <;> iassumption
  icases Hr with ⟨%h, HSI⟩
  imodintro
  isplitr
  · ipureintro; exact ⟨after, he, h⟩
  iexact HSI

/-- A host argument is at the end what it was at launch. -/
theorem final_arg (c : Dev nD) (after) (r : Ref sig .tc) (h2 : r ∉ hostOps2_W) (ha : ∀ w, arrRef spec1 w ≠ r)
    (h0 : V16 m (outs0 m) c r = m ((c : Thread nD τ).loc r)) :
    final m hok c after (Proc.devRef .tc r) = m ((c : Thread nD τ).loc r) :=
  (StableHlo.after_of_writes_sub hostOps2 _ hostOps2_writes h2).trans
    ((Pipeline.afterRegion_of_not_arr _ _ fun w e => ha w e.symm).trans h0)

/-- The program's arguments after a run. -/
theorem Finals.args {c : Dev nD} {s : MemSt nD τ sig (Elt F)} (h : Finals m hok c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2) := by
  obtain ⟨after, he, hb⟩ := h
  have e16 : ∀ r : Ref sig .tc, r ∉ hostOps2_W → r ∉ ([main_v77_0, main_v77_1, main_v77_2] : List (Ref sig .tc)) → V16 m (outs0 m) c r = V18 m (outs0 m) c r :=
    fun r h h' => ((V18_of m (outs0 m) c r h).trans (V17_of m (outs0 m) c r h')).symm
  refine ⟨?_, ?_, ?_⟩
  · exact (hb _ (Finset.mem_filter.mpr ⟨StableHlo.devRef_mem_tcRefs main_arg0, by decide⟩)).trans
      (final_arg m hok c after main_arg0 (by decide) (by decide) ((e16 _ (by decide) (by decide)).trans (V18_main_arg0 m (outs0 m) c)))
  · exact (hb _ (Finset.mem_filter.mpr ⟨StableHlo.devRef_mem_tcRefs main_arg1, by decide⟩)).trans
      (final_arg m hok c after main_arg1 (by decide) (by decide) ((e16 _ (by decide) (by decide)).trans (V18_main_arg1 m (outs0 m) c)))
  · exact (hb _ (Finset.mem_filter.mpr ⟨StableHlo.devRef_mem_tcRefs main_arg2, by decide⟩)).trans
      (final_arg m hok c after main_arg2 (by decide) (by decide) ((e16 _ (by decide) (by decide)).trans (V18_main_arg2 m (outs0 m) c)))

end Cert.KernelIdeal.Work

end
-- ==== Proof.KI.Lists.lean ====
/-
  The work lists of the second kernel call: what the host stretches between the two calls leave in the four prefetched tables, and that
  the tables address only blocks inside the arrays.
-/
module

public import proofs.«01_k».proof.Proof.KI.Run
public import proofs.«01_k».proof.Proof.Plan
public import Idealize.ShloMosaic.Lib.Routing.Words
public import Idealize.ShloMosaic.Lib.Routing.OpsSet

@[expose] public section

set_option maxRecDepth 16384

noncomputable section

namespace Cert.KernelIdeal.Work

open Cert.KernelIdeal.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Routing Cert.Plan Idealize.ShloMosaic.WordCmp

/-! ## The stretches as functions of vectors -/

/-- The index column of a gather by expert: a negative index would count from the end. -/
def colOf (x : IVec S36 32) : IVec S36x1 32 :=
  broadcastInDim S36x1 ![0] bcast_S36_S36x1_0
    (select (cmpi .slt x (broadcastInDim S36 ![] bcast_S_S36 (constantI S_ 32 0#32))) (addi x (broadcastInDim S36 ![] bcast_S_S36 (constantI S_ 32 5#32))) x)

/-- The entries of a vector over the experts that a vector of experts names. -/
def take (t : IVec S5 32) (x : IVec S36 32) : IVec S36 32 := Host.gather gather_S5_S36x1_S36_n_0_n_n_0_1_1 t (colOf x)

/-- Each item's expert, from the running counts of items. -/
def exVec (x17 : IVec S5 32) : IVec S36 32 :=
  minsi (Host.reduce IntOp.addi (extui 32 (cmpi .sge
      (broadcastInDim S36x5 ![0, 1] bcast_S36x1_S36x5_0_1 (broadcastInDim S36x1 ![0] bcast_S36_S36x1_0 (iotaInDim S36 32 0)))
      (broadcastInDim S36x5 ![0, 1] bcast_S1x5_S36x5_0_1 (broadcastInDim S1x5 ![1] bcast_S5_S1x5_1 x17))) natLt_1_32)
    (constantI S_ 32 0#32) reducesTo_S36x5_S36_d1 h_S_) (broadcastInDim S36 ![] bcast_S_S36 (constantI S_ 32 4#32))

/-- Each item's row tile. -/
def tilVec (x7 x13 x17 : IVec S5 32) : IVec S36 32 :=
  minsi (subi (addi (take x7 (exVec x17)) (iotaInDim S36 32 0))
    (take (subi x17 (addi (subi x13 x7) (broadcastInDim S5 ![] bcast_S_S5 (constantI S_ 32 1#32)))) (exVec x17)))
    (broadcastInDim S36 ![] bcast_S_S36 (constantI S_ 32 31#32))

/-- A vector over the experts less the tile's first row, item by item. -/
def offVec (x : IVec S5 32) (e t : IVec S36 32) : IVec S36 32 :=
  subi (take x e) (muli t (broadcastInDim S36 ![] bcast_S_S36 (constantI S_ 32 512#32)))

/-- Which items are past the end of the list. -/
def deadVec (x17 : IVec S5 32) : IVec S36 1 :=
  cmpi .sge (iotaInDim S36 32 0) (broadcastInDim S36 ![] bcast_S_S36
    (shapeCast S_ (extractStridedSlice S1 ![4] x17 slices_S5_S1_4) shapeCasts_S1_S_))

section Stretches

variable (V : Valuation τ sig (Elt F))

/-- The ends of the experts' rows, a running sum of the sizes. -/
theorem s3 : StableHlo.after hostOps1 V main_v3
    = Host.reduceWindow IntOp.addi ![5] ![1] ![4] ![0] (V main_arg2 : IVec S5 32) (broadcastInDim S_ ![] bcast_S_S_ (constantI S_ 32 0#32)) reduceWindows_S5_S5_w5s1p4_0 h_S_ := by
  after_results_simp; rfl

/-- The begins, the ends less the sizes. -/
theorem s4 : StableHlo.after hostOps1_1 V main_v4 = subi (V main_v3 : IVec S5 32) (V main_arg2 : IVec S5 32) := by
  after_results_simp

/-- The tile length, 512. -/
theorem sc : StableHlo.after hostOps1_1 V main_c = constantI S_ 32 512#32 := by
  after_results_simp

/-- The begins divided by the tile length. -/
theorem s5 : StableHlo.after hostOps1_2 V main_v5 = pyDiv bcast_S_S5 (V main_v4 : IVec S5 32) (V main_c : IVec S_ 32) := by
  after_results_simp; rfl

/-- The experts' first tiles, at most the last tile. -/
theorem s7 : StableHlo.after hostOps1_3 V main_v7 = minsi (V main_v5 : IVec S5 32) (broadcastInDim S5 ![] bcast_S_S5 (constantI S_ 32 31#32)) := by
  after_results_simp

/-- Which experts have rows. -/
theorem s9 : StableHlo.after hostOps1_3 V main_v9 = cmpi .sgt (V main_arg2 : IVec S5 32) (broadcastInDim S5 ![] bcast_S_S5 (constantI S_ 32 0#32)) := by
  after_results_simp

/-- The experts' last rows. -/
theorem s11 : StableHlo.after hostOps1_3 V main_v11 = subi (V main_v3 : IVec S5 32) (broadcastInDim S5 ![] bcast_S_S5 (constantI S_ 32 1#32)) := by
  after_results_simp

/-- The tile length again. -/
theorem sc3 : StableHlo.after hostOps1_3 V main_c_3 = constantI S_ 32 512#32 := by
  after_results_simp

/-- The last rows divided by the tile length. -/
theorem s12 : StableHlo.after hostOps1_4 V main_v12 = pyDiv bcast_S_S5 (V main_v11 : IVec S5 32) (V main_c_3 : IVec S_ 32) := by
  after_results_simp; rfl

/-- The experts' last tiles, the first tile for an expert without rows. -/
theorem s13 : StableHlo.after hostOps1_5 V main_v13 = select (V main_v9 : IVec S5 1) (V main_v12 : IVec S5 32) (V main_v7 : IVec S5 32) := by
  after_results_simp; rfl

/-- The numbers of items of the experts. -/
theorem s16 : StableHlo.after hostOps1_6 V main_v16
    = addi (subi (V main_v13 : IVec S5 32) (V main_v7 : IVec S5 32)) (broadcastInDim S5 ![] bcast_S_S5 (constantI S_ 32 1#32)) := by
  after_results_simp

/-- Their running sum. -/
theorem s17 : StableHlo.after hostOps1_7 V main_v17
    = Host.reduceWindow IntOp.addi ![5] ![1] ![4] ![0] (V main_v16 : IVec S5 32) (broadcastInDim S_ ![] bcast_S_S_ (constantI S_ 32 0#32)) reduceWindows_S5_S5_w5s1p4_0 h_S_ := by
  after_results_simp; rfl

/-- The items' experts. -/
theorem s27 : StableHlo.after hostOps1_8 V main_v27 = exVec (V main_v17) := by
  after_results_simp; rfl

/-- The items' tiles. -/
theorem s53 : StableHlo.after hostOps1_8 V main_v53 = tilVec (V main_v7) (V main_v13) (V main_v17) := by
  after_results_simp; rfl

/-- The experts' begins, relative to the items' tiles. -/
theorem s63 : StableHlo.after hostOps1_8 V main_v63
    = offVec (V main_v4) (exVec (V main_v17)) (tilVec (V main_v7) (V main_v13) (V main_v17)) := by
  after_results_simp; rfl

/-- Which items are past the list's end. -/
theorem s51 : StableHlo.after hostOps1_8 V main_v51 = deadVec (V main_v17) := by
  after_results_simp; rfl

/-- The lower bound of a range, 0. -/
theorem sc16 : StableHlo.after hostOps1_8 V main_c_16 = constantI S_ 32 0#32 := by
  after_results_simp

/-- The upper bound of a range, 512. -/
theorem sc17 : StableHlo.after hostOps1_8 V main_c_17 = constantI S_ 32 512#32 := by
  after_results_simp

/-- The lower ends of the items' row ranges, clipped to the tile. -/
theorem s64 : StableHlo.after hostOps1_9 V main_v64 = minsi (broadcastInDim S36 ![] bcast_S_S36 (V main_c_17 : IVec S_ 32))
    (maxsi (broadcastInDim S36 ![] bcast_S_S36 (V main_c_16 : IVec S_ 32)) (V main_v63 : IVec S36 32)) := by
  after_results_simp; rfl

/-- The experts' ends, relative to the items' tiles. -/
theorem s74 : StableHlo.after hostOps1_10 V main_v74 = offVec (V main_v3) (V main_v27) (V main_v53) := by
  after_results_simp; rfl

/-- The lower bound, 0, of the upper ends. -/
theorem sc21 : StableHlo.after hostOps1_10 V main_c_21 = constantI S_ 32 0#32 := by
  after_results_simp

/-- The upper bound, 512, of the upper ends. -/
theorem sc22 : StableHlo.after hostOps1_10 V main_c_22 = constantI S_ 32 512#32 := by
  after_results_simp

/-- The upper ends of the items' row ranges, clipped to the tile. -/
theorem s75 : StableHlo.after hostOps1_11 V main_v75 = minsi (broadcastInDim S36 ![] bcast_S_S36 (V main_c_22 : IVec S_ 32))
    (maxsi (broadcastInDim S36 ![] bcast_S_S36 (V main_c_21 : IVec S_ 32)) (V main_v74 : IVec S36 32)) := by
  after_results_simp; rfl

/-- The upper end of an item past the list's end, 0. -/
theorem sc23 : StableHlo.after hostOps1_12 V main_c_23 = constantI S_ 32 0#32 := by
  after_results_simp

/-- The upper ends, zero for an item past the list's end. -/
theorem s76 : StableHlo.after hostOps1_13 V main_v76 = select (V main_v51 : IVec S36 1)
    (broadcastInDim S36 ![] bcast_S_S36 (V main_c_23 : IVec S_ 32)) (V main_v75 : IVec S36 32) := by
  after_results_simp; rfl

end Stretches

/-! ## The vectors at an entry -/

section Entries

variable {g : ℕ → ℕ}

/-- A lookup at a word between 0 and 4 reads that entry of the table. -/
theorem take_w (t : IVec S5 32) (x : IVec S36 32) (i : Fin 36) {e : ℕ} (he : e ≤ 4) (hx : x (ValueIdx.ix1 i) = BitVec.ofNat 32 e) {v : BitVec 32}
    (hv : t (ValueIdx.ix1 (⟨e, by omega⟩ : Fin 5)) = v) : take t x (ValueIdx.ix1 i) = v := by
  refine (gather_take1 (N := 5) (n := 36) gather_S5_S36x1_S36_n_0_n_n_0_1_1 rfl rfl rfl rfl t (colOf x) i ⟨e, by omega⟩ ?_ (by norm_num)).trans hv
  refine (bcCol (n := 36) bcast_S36_S36x1_0 _ i).trans ?_
  show Scalar.select (IntOp.cmpi .slt (x (ValueIdx.ix1 i)) 0#32) (x (ValueIdx.ix1 i) + 5#32) (x (ValueIdx.ix1 i)) = _
  rw [hx, show (0#32 : BitVec 32) = BitVec.ofNat 32 0 from rfl, cmpi_slt_ofNat (w := 32) (by omega) (by norm_num), select_decide, if_neg (by omega)]

/-- The items' experts, as words of the plan's. -/
theorem exVec_w (hT : Total g) (x17 : IVec S5 32) (h17 : ∀ e : Fin 5, x17 (ValueIdx.ix1 e) = BitVec.ofNat 32 (Plan.cum g e.val)) (i : Fin 36) :
    exVec x17 (ValueIdx.ix1 i) = BitVec.ofNat 32 (ex g i.val) := by
  refine min_w _ _ _ (reduce_count (n := 36) (m := 5) (by norm_num) _ natLt_1_32 reducesTo_S36x5_S36_d1 h_S_ i (fun q => Plan.cum g q ≤ i.val) fun q => ?_) rfl
    (lt_of_le_of_lt (Nat.count_le _) (by norm_num)) (by norm_num)
  have e1 := bcRows (n := 36) (m := 5) bcast_S36_S36x1_0 bcast_S36x1_S36x5_0_1 (iotaInDim S36 32 0) i q
  have e2 := bcCols (n := 36) (m := 5) bcast_S5_S1x5_1 bcast_S1x5_S36x5_0_1 x17 i q
  refine Iff.trans (Eq.congr ((cmpi_at ..).trans (congrArg₂ (IntOp.cmpi .sge) (e1.trans rfl) (e2.trans (h17 q)))) rfl) ?_
  have := cum_le hT (e := q.val) (by omega)
  exact cmpi_sge_ofNat_eq_one_iff (w := 32) (a := i.val) (b := Plan.cum g q.val) (by omega) (by omega)

/-- The items' tiles, as words of the plan's. -/
theorem tilVec_w (hT : Total g) (x7 x13 x17 : IVec S5 32) (h7 : ∀ e : Fin 5, x7 (ValueIdx.ix1 e) = BitVec.ofNat 32 (first g e.val))
    (h13 : ∀ e : Fin 5, x13 (ValueIdx.ix1 e) = BitVec.ofNat 32 (last g e.val)) (h17 : ∀ e : Fin 5, x17 (ValueIdx.ix1 e) = BitVec.ofNat 32 (Plan.cum g e.val))
    (i : Fin 36) : tilVec x7 x13 x17 (ValueIdx.ix1 i) = BitVec.ofNat 32 (til g i.val) := by
  have he := ex_le (g := g) i.val
  have hp := pre_ex_le (g := g) i.val
  have hs := cum_sub (g := g) (ex g i.val)
  have hf : first g (ex g i.val) ≤ 31 := Nat.min_le_right _ _
  have hc : cnt g (ex g i.val) ≤ Plan.cum g (ex g i.val) := by unfold Plan.cum; rw [pre_succ]; omega
  refine min_w _ _ _ (sub_w _ _ _ (add_w _ _ _ (take_w _ _ i he (exVec_w hT x17 h17 i) (h7 _)) rfl)
    (take_w _ _ i he (exVec_w hT x17 h17 i) (sub_w _ _ _ (h17 _) (add_w _ _ _ (sub_w _ _ _ (h13 _) (h7 _) (first_le_last hT he)) rfl) hc)) ?_) rfl ?_ (by norm_num)
  · show Plan.cum g (ex g i.val) - cnt g (ex g i.val) ≤ _
    omega
  · show _ - (Plan.cum g (ex g i.val) - cnt g (ex g i.val)) < _
    omega

/-- A clipped offset inside the item's tile. -/
theorem clipOff_w (x : IVec S5 32) (e t : IVec S36 32) (z w : IVec S36 32) (i : Fin 36) {n k a : ℕ} (hn : n ≤ 4) (he : e (ValueIdx.ix1 i) = BitVec.ofNat 32 n)
    (ht : t (ValueIdx.ix1 i) = BitVec.ofNat 32 k) (hk : k ≤ 31) (hx : x (ValueIdx.ix1 (⟨n, by omega⟩ : Fin 5)) = BitVec.ofNat 32 a) (ha : a ≤ 16384)
    (hz : z (ValueIdx.ix1 i) = 0#32) (hw : w (ValueIdx.ix1 i) = 512#32) :
    minsi w (maxsi z (offVec x e t)) (ValueIdx.ix1 i) = BitVec.ofNat 32 (min 512 (a - k * 512)) :=
  min_w _ _ _ (a := 512) hw (clip_w _ _ _ _ hz (take_w _ _ i hn he hx) (mul_w _ _ _ ht (b := 512) rfl) (by omega) (by omega)) (by norm_num) (by omega)

/-- The bit of an item past the list's end. -/
theorem deadVec_w (hT : Total g) (x17 : IVec S5 32) (h17 : ∀ e : Fin 5, x17 (ValueIdx.ix1 e) = BitVec.ofNat 32 (Plan.cum g e.val)) (i : Fin 36) :
    deadVec x17 (ValueIdx.ix1 i) = BitVec.ofBool (decide (Plan.cum g 4 ≤ i.val)) := by
  have hc := cum_four_le hT
  have e2 : (broadcastInDim S36 ![] bcast_S_S36 (shapeCast S_ (extractStridedSlice S1 ![4] x17 slices_S5_S1_4) shapeCasts_S1_S_)) (ValueIdx.ix1 i)
      = BitVec.ofNat 32 (Plan.cum g 4) := by
    refine (bc0 bcast_S_S36 _ _).trans ?_
    refine Eq.trans ?_ (h17 4)
    refine (shapeCast_apply _ _ _ (ValueIdx.ix1 (0 : Fin 1)) (by decide)).trans ?_
    exact slice1 (m := 5) (n := 1) 4 x17 slices_S5_S1_4 0 (by norm_num)
  refine (cmpi_at ..).trans ((congrArg₂ (IntOp.cmpi .sge) (rfl : _ = BitVec.ofNat 32 i.val) e2).trans ?_)
  exact cmpi_sge_ofNat (w := 32) (by omega) (by omega)

end Entries

/-! ## The lists the second call is entered with -/

section Tables

variable (m : (ℓ : Loc nD τ sig) → Buf (Elt F) ℓ) (outs : Outs (F := F)) (c : Dev nD) {g : ℕ → ℕ}

/-- The group sizes are the words of the naturals `g`. -/
def Sized (g : ℕ → ℕ) : Prop := ∀ e : Fin 5, (m ((c : Thread nD τ).loc main_arg2) : IVec S5 32) (ValueIdx.ix1 e) = BitVec.ofNat 32 (g e.val)

variable (hg : Sized m c g) (hT : Total g)

include hg in
/-- The sizes, as words. -/
theorem arg2_at (e : Fin 5) : (V2 m outs c main_arg2 : IVec S5 32) (ValueIdx.ix1 e) = BitVec.ofNat 32 (g e.val) := by
  rw [V2_of m outs c main_arg2 (by decide), V1_of m c main_arg2 (by decide)]; exact hg e

include hg in
/-- The ends, as words. -/
theorem v3_at (e : Fin 5) : (V3 m outs c main_v3 : IVec S5 32) (ValueIdx.ix1 e) = BitVec.ofNat 32 (ends g e.val) :=
  (congrFun (s3 (V2 m outs c)) _).trans
    (cumsum1 (N := 5) (Nm1 := 4) rfl _ g (arg2_at m outs c hg) _ rfl reduceWindows_S5_S5_w5s1p4_0 h_S_ e)

include hg in
/-- The begins, as words. -/
theorem v4_at (e : Fin 5) : (V4 m outs c main_v4 : IVec S5 32) (ValueIdx.ix1 e) = BitVec.ofNat 32 (begins g e.val) :=
  (congrFun (s4 (V3 m outs c)) _).trans
    (sub_w _ _ _ (v3_at m outs c hg e) ((congrFun (V3_of m outs c main_arg2 (by decide)) _).trans (arg2_at m outs c hg e))
      (by have := begins_add (g := g) e.val; omega))

include hg hT in
/-- The tiles the begins fall in, as words. -/
theorem v5_at (e : Fin 5) : (V5 m outs c main_v5 : IVec S5 32) (ValueIdx.ix1 e) = BitVec.ofNat 32 (begins g e.val / 512) :=
  (congrFun (s5 (V4 m outs c)) _).trans
    (pyDiv_ap bcast_S_S5 _ _ _ (v4_at m outs c hg e) (congrFun (sc (V3 m outs c)) _)
      (by have := begins_le hT (e := e.val) (by omega); omega) (by norm_num) (by norm_num))

include hg hT in
/-- The first tiles, as words. -/
theorem v7_at (e : Fin 5) : (V6 m outs c main_v7 : IVec S5 32) (ValueIdx.ix1 e) = BitVec.ofNat 32 (first g e.val) :=
  (congrFun (s7 (V5 m outs c)) _).trans
    (min_w _ _ _ (v5_at m outs c hg hT e) rfl (by have := begins_le hT (e := e.val) (by omega); omega) (by norm_num))

/-- The sizes are still there some host operations later. -/
theorem arg2_keep (e : Fin 5) (hg : Sized m c g) : (V5 m outs c main_arg2 : IVec S5 32) (ValueIdx.ix1 e) = BitVec.ofNat 32 (g e.val) := by
  rw [V5_of m outs c main_arg2 (by decide), V4_of m outs c main_arg2 (by decide), V3_of m outs c main_arg2 (by decide)]
  exact arg2_at m outs c hg e

include hg hT in
/-- The bit of an expert with rows. -/
theorem v9_at (e : Fin 5) : (V6 m outs c main_v9 : IVec S5 1) (ValueIdx.ix1 e) = BitVec.ofBool (decide (0 < g e.val)) := by
  refine (congrFun (s9 (V5 m outs c)) _).trans ((cmpi_at ..).trans ((congrArg₂ (IntOp.cmpi .sgt) (arg2_keep m outs c e hg)
    (rfl : _ = BitVec.ofNat 32 0)).trans ?_))
  have := g_le hT (e := e.val) (by omega)
  exact cmpi_sgt_ofNat (w := 32) (by omega) (by norm_num)

include hg hT in
/-- The tile of an expert's last row, as a word. -/
theorem v12_at (e : Fin 5) (h : 0 < g e.val) : (V7 m outs c main_v12 : IVec S5 32) (ValueIdx.ix1 e) = BitVec.ofNat 32 ((ends g e.val - 1) / 512) := by
  have h1 := begins_add (g := g) e.val
  have h2 := ends_le hT (e := e.val) (by omega)
  have h3 : (V5 m outs c main_v3 : IVec S5 32) (ValueIdx.ix1 e) = BitVec.ofNat 32 (ends g e.val) := by
    rw [V5_of m outs c main_v3 (by decide), V4_of m outs c main_v3 (by decide)]; exact v3_at m outs c hg e
  exact (congrFun (s12 (V6 m outs c)) _).trans
    (pyDiv_ap bcast_S_S5 _ _ _ ((congrFun (s11 (V5 m outs c)) _).trans (sub_w _ _ _ (b := 1) h3 rfl (by omega)))
      (congrFun (sc3 (V5 m outs c)) _) (by omega) (by norm_num) (by norm_num))

include hg hT in
/-- The last tiles, as words. -/
theorem v13_at (e : Fin 5) : (V8 m outs c main_v13 : IVec S5 32) (ValueIdx.ix1 e) = BitVec.ofNat 32 (last g e.val) := by
  have h9 : (V7 m outs c main_v9 : IVec S5 1) (ValueIdx.ix1 e) = BitVec.ofBool (decide (0 < g e.val)) := by
    rw [V7_of m outs c main_v9 (by decide)]; exact v9_at m outs c hg hT e
  have h7 : (V7 m outs c main_v7 : IVec S5 32) (ValueIdx.ix1 e) = BitVec.ofNat 32 (first g e.val) := by
    rw [V7_of m outs c main_v7 (by decide)]; exact v7_at m outs c hg hT e
  refine (congrFun (s13 (V7 m outs c)) _).trans ((select_at ..).trans ?_)
  rw [h9, select_decide]
  unfold last
  by_cases h : 0 < g e.val
  · rw [if_pos h, if_pos h]; exact v12_at m outs c hg hT e h
  · rw [if_neg h, if_neg h]; exact h7

include hg hT in
/-- The first tiles are still there some host operations later. -/
theorem v7_at' (e : Fin 5) : (V8 m outs c main_v7 : IVec S5 32) (ValueIdx.ix1 e) = BitVec.ofNat 32 (first g e.val) := by
  rw [V8_of m outs c main_v7 (by decide), V7_of m outs c main_v7 (by decide)]; exact v7_at m outs c hg hT e

include hg hT in
/-- The running sums of the numbers of items, as words. -/
theorem v17_at (e : Fin 5) : (V10 m outs c main_v17 : IVec S5 32) (ValueIdx.ix1 e) = BitVec.ofNat 32 (Plan.cum g e.val) :=
  (congrFun (s17 (V9 m outs c)) _).trans
    (cumsum1 (N := 5) (Nm1 := 4) rfl _ (cnt g) (fun e => (congrFun (s16 (V8 m outs c)) _).trans
      (add_w _ _ _ (sub_w _ _ _ (v13_at m outs c hg hT e) (v7_at' m outs c hg hT e) (first_le_last hT (by omega))) rfl)) _ rfl
      reduceWindows_S5_S5_w5s1p4_0 h_S_ e)

include hg hT in
/-- The items' experts, as words. -/
theorem v27_at (i : Fin 36) : (V11 m outs c main_v27 : IVec S36 32) (ValueIdx.ix1 i) = BitVec.ofNat 32 (ex g i.val) :=
  (congrFun (s27 (V10 m outs c)) _).trans (exVec_w hT _ (v17_at m outs c hg hT) i)

include hg hT in
/-- The tile list computed from the tables of first tiles, last tiles and item counts, as words. -/
theorem til_at (i : Fin 36) : tilVec (V10 m outs c main_v7) (V10 m outs c main_v13) (V10 m outs c main_v17) (ValueIdx.ix1 i)
    = BitVec.ofNat 32 (til g i.val) := by
  refine tilVec_w hT _ _ _ (fun e => ?_) (fun e => ?_) (v17_at m outs c hg hT) i
  · rw [V10_of m outs c main_v7 (by decide), V9_of m outs c main_v7 (by decide)]; exact v7_at' m outs c hg hT e
  · rw [V10_of m outs c main_v13 (by decide), V9_of m outs c main_v13 (by decide)]; exact v13_at m outs c hg hT e

include hg hT in
/-- The items' tiles, as words. -/
theorem v53_at (i : Fin 36) : (V11 m outs c main_v53 : IVec S36 32) (ValueIdx.ix1 i) = BitVec.ofNat 32 (til g i.val) :=
  (congrFun (s53 (V10 m outs c)) _).trans (til_at m outs c hg hT i)

include hg hT in
/-- The lower ends of the items' row ranges, as words. -/
theorem v64_at (i : Fin 36) : (V12 m outs c main_v64 : IVec S36 32) (ValueIdx.ix1 i) = BitVec.ofNat 32 (lo g i.val) := by
  have he := ex_le (g := g) i.val
  refine (congrFun (s64 (V11 m outs c)) _).trans ?_
  rw [show V11 m outs c main_v63 = _ from s63 (V10 m outs c)]
  refine clipOff_w _ _ _ _ _ i he (exVec_w hT _ (v17_at m outs c hg hT) i) (til_at m outs c hg hT i) (til_le _) (a := begins g (ex g i.val)) ?_
    (begins_le hT he) ?_ ?_
  · rw [V10_of m outs c main_v4 (by decide), V9_of m outs c main_v4 (by decide), V8_of m outs c main_v4 (by decide), V7_of m outs c main_v4 (by decide),
      V6_of m outs c main_v4 (by decide), V5_of m outs c main_v4 (by decide)]
    exact v4_at m outs c hg _
  · exact congrFun (sc16 (V10 m outs c)) _
  · exact congrFun (sc17 (V10 m outs c)) _

include hg hT in
/-- The upper ends of the items' row ranges, as words, before the items past the list's end are emptied. -/
theorem v75_at (i : Fin 36) : (V14 m outs c main_v75 : IVec S36 32) (ValueIdx.ix1 i)
    = BitVec.ofNat 32 (min 512 (ends g (ex g i.val) - til g i.val * 512)) := by
  have he := ex_le (g := g) i.val
  refine (congrFun (s75 (V13 m outs c)) _).trans ?_
  rw [show V13 m outs c main_v74 = _ from s74 (V12 m outs c)]
  refine clipOff_w _ _ _ _ _ i he ?_ ?_ (til_le _) (a := ends g (ex g i.val)) ?_ (ends_le hT he) ?_ ?_
  · rw [V12_of m outs c main_v27 (by decide)]; exact v27_at m outs c hg hT i
  · rw [V12_of m outs c main_v53 (by decide)]; exact v53_at m outs c hg hT i
  · rw [V12_of m outs c main_v3 (by decide), V11_of m outs c main_v3 (by decide), V10_of m outs c main_v3 (by decide), V9_of m outs c main_v3 (by decide),
      V8_of m outs c main_v3 (by decide), V7_of m outs c main_v3 (by decide), V6_of m outs c main_v3 (by decide), V5_of m outs c main_v3 (by decide),
      V4_of m outs c main_v3 (by decide)]
    exact v3_at m outs c hg _
  · exact congrFun (sc21 (V12 m outs c)) _
  · exact congrFun (sc22 (V12 m outs c)) _

/-- The tiles the second call is entered with. -/
theorem table0 (hg : Sized m c g) (hT : Total g) (i : Fin 36) : (V16 m outs c main_v53 : IVec S36 32) (ValueIdx.ix1 i) = BitVec.ofNat 32 (til g i.val) := by
  rw [V16_of m outs c main_v53 (by decide), V15_of m outs c main_v53 (by decide), V14_of m outs c main_v53 (by decide), V13_of m outs c main_v53 (by decide),
    V12_of m outs c main_v53 (by decide)]
  exact v53_at m outs c hg hT i

/-- The experts. -/
theorem table1 (hg : Sized m c g) (hT : Total g) (i : Fin 36) : (V16 m outs c main_v27 : IVec S36 32) (ValueIdx.ix1 i) = BitVec.ofNat 32 (ex g i.val) := by
  rw [V16_of m outs c main_v27 (by decide), V15_of m outs c main_v27 (by decide), V14_of m outs c main_v27 (by decide), V13_of m outs c main_v27 (by decide),
    V12_of m outs c main_v27 (by decide)]
  exact v27_at m outs c hg hT i

/-- The first rows. -/
theorem table2 (hg : Sized m c g) (hT : Total g) (i : Fin 36) : (V16 m outs c main_v64 : IVec S36 32) (ValueIdx.ix1 i) = BitVec.ofNat 32 (lo g i.val) := by
  rw [V16_of m outs c main_v64 (by decide), V15_of m outs c main_v64 (by decide), V14_of m outs c main_v64 (by decide), V13_of m outs c main_v64 (by decide)]
  exact v64_at m outs c hg hT i

/-- The rows after the last ones. -/
theorem table3 (hg : Sized m c g) (hT : Total g) (i : Fin 36) : (V16 m outs c main_v76 : IVec S36 32) (ValueIdx.ix1 i) = BitVec.ofNat 32 (hi g i.val) := by
  have h51 : (V15 m outs c main_v51 : IVec S36 1) (ValueIdx.ix1 i) = BitVec.ofBool (decide (Plan.cum g 4 ≤ i.val)) := by
    rw [V15_of m outs c main_v51 (by decide), V14_of m outs c main_v51 (by decide), V13_of m outs c main_v51 (by decide), V12_of m outs c main_v51 (by decide)]
    exact (congrFun (s51 (V10 m outs c)) _).trans (deadVec_w hT _ (v17_at m outs c hg hT) i)
  have h75 : (V15 m outs c main_v75 : IVec S36 32) (ValueIdx.ix1 i) = BitVec.ofNat 32 (min 512 (ends g (ex g i.val) - til g i.val * 512)) := by
    rw [V15_of m outs c main_v75 (by decide)]; exact v75_at m outs c hg hT i
  refine (congrFun (s76 (V15 m outs c)) _).trans ((select_at ..).trans ?_)
  rw [h51, select_decide, h75]
  unfold hi
  by_cases h : Plan.cum g 4 ≤ i.val
  · rw [if_pos h, if_pos h]; exact congrFun (sc23 (V14 m outs c)) _
  · rw [if_neg h, if_neg h]

end Tables

end Cert.KernelIdeal.Work

end
-- ==== Proof.KI.Admit.lean ====
/-
  The work lists as the plan's numbers, the second kernel call's index maps at them, and that every block they address is inside its array.
-/
module

public import proofs.«01_k».proof.Proof.KI.Lists

@[expose] public section

set_option maxRecDepth 16384

noncomputable section

namespace Cert.KernelIdeal.Work

open Cert.KernelIdeal.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Cert.Plan

/-- The four work lists hold the plan's numbers for group sizes `g`. -/
structure Planned (pf : pre1.Contents (Elt F)) (g : ℕ → ℕ) : Prop where
  tile : ∀ i : Fin 36, tileL pf (ValueIdx.ix1 i) = BitVec.ofNat 32 (til g i.val)
  expert : ∀ i : Fin 36, expertL pf (ValueIdx.ix1 i) = BitVec.ofNat 32 (ex g i.val)
  lo : ∀ i : Fin 36, loL pf (ValueIdx.ix1 i) = BitVec.ofNat 32 (lo g i.val)
  hi : ∀ i : Fin 36, hiL pf (ValueIdx.ix1 i) = BitVec.ofNat 32 (hi g i.val)

/-- The lists the second call is entered with are the plan's. -/
theorem planned (m : (ℓ : Loc nD τ sig) → Buf (Elt F) ℓ) (c : Dev nD) {g : ℕ → ℕ} (hg : Sized m c g) (hT : Total g) : Planned (lists m c) g where
  tile := table0 m (outs0 m) c hg hT
  expert := table1 m (outs0 m) c hg hT
  lo := table2 m (outs0 m) c hg hT
  hi := table3 m (outs0 m) c hg hT

section Maps

variable {pf : pre1.Contents (Elt F)} {g : ℕ → ℕ} (hP : Planned pf g) (i : grid1.Coords)

/-- The place in the lists that an index map reads. -/
theorem list_ix (h : ∀ a, (k1_off1 i) a + S1.size a ≤ S36.size a) (h1 : 0 < (Rect.unit (s := S36) (k1_off1 i) S1.size h).shape.numel) :
    (Rect.unit (s := S36) (k1_off1 i) S1.size h).emb (Shape.Idx.first h1) = ValueIdx.ix1 (⟨(i 1).val, (i 1).isLt⟩ : Fin 36) := by
  funext d
  match d with
  | ⟨0, _⟩ =>
    apply Fin.ext
    have hlt : ((Shape.Idx.first h1 : (Rect.unit (s := S36) (k1_off1 i) S1.size h).shape.Idx) 0).val < 1 := (Shape.Idx.first h1 0).isLt
    have e := congrFun (off1_eq i) 0
    show (k1_off1 i) 0 + 1 * _ = (i 1).val
    rw [e]
    show (i 1).val + 1 * ((Shape.Idx.first h1 : (Rect.unit (s := S36) (k1_off1 i) S1.size h).shape.Idx) 0).val = (i 1).val
    omega

include hP in
/-- The tile word the body and the index maps read at a point. -/
theorem tile_at (h1 : S1.numel = 1) : pf.at 0 (Rect.unit (s := S36) (k1_off1 i) S1.size (k1_off1_inb i)) h1 = BitVec.ofNat 32 (til g (i 1).val) :=
  (congrArg (tileL pf) (list_ix i (k1_off1_inb i) _)).trans (hP.tile ⟨(i 1).val, (i 1).isLt⟩)

include hP in
/-- The expert word read at a point. -/
theorem expert_at (h1 : S1.numel = 1) : pf.at 1 (Rect.unit (s := S36) (k1_off1 i) S1.size (k1_off1_inb i)) h1 = BitVec.ofNat 32 (ex g (i 1).val) :=
  (congrArg (expertL pf) (list_ix i (k1_off1_inb i) _)).trans (hP.expert ⟨(i 1).val, (i 1).isLt⟩)

/-- A natural below 2^32 is what its word reads back as. -/
theorem ofNat_toNat {n : ℕ} (h : n < 2 ^ 32) : (BitVec.ofNat 32 n).toNat = n := by
  rw [BitVec.toNat_ofNat]; exact Nat.mod_eq_of_lt h

/-- A point's first coordinate, the column block, is one of six. -/
theorem coord0_lt : (i 0).val < 6 := (i 0).isLt

include hP in
/-- The block of `x` at a point: the item's tile and the column block. -/
theorem tr0 : cc1_transform_0 k1_off1_inb numel1_S1 pf i = ![til g (i 1).val, (i 0).val] := by
  show ![(pf.at 0 (Rect.unit (s := S36) (k1_off1 i) S1.size (k1_off1_inb i)) numel1_S1 : BitVec 32).toNat, (BitVec.ofNat 32 (i 0).val).toNat] = _
  have := til_le (g := g) (i 1).val
  have := coord0_lt i
  rw [tile_at hP i, ofNat_toNat (by omega), ofNat_toNat (by omega)]

include hP in
/-- The block of the transposed `dy` at a point: the item's tile. -/
theorem tr1 : cc1_transform_1 k1_off1_inb numel1_S1 pf i = ![0, til g (i 1).val] := by
  show ![0, (pf.at 0 (Rect.unit (s := S36) (k1_off1 i) S1.size (k1_off1_inb i)) numel1_S1 : BitVec 32).toNat] = _
  have := til_le (g := g) (i 1).val
  rw [tile_at hP i, ofNat_toNat (by omega)]

include hP in
/-- The block of the gradient at a point: the item's expert and the column block. -/
theorem tr2 : cc1_transform_2 k1_off1_inb numel1_S1 pf i = ![ex g (i 1).val, 0, (i 0).val] := by
  show ![(pf.at 1 (Rect.unit (s := S36) (k1_off1 i) S1.size (k1_off1_inb i)) numel1_S1 : BitVec 32).toNat, 0, (BitVec.ofNat 32 (i 0).val).toNat] = _
  have := ex_le (g := g) (i 1).val
  have := coord0_lt i
  rw [expert_at hP i, ofNat_toNat (by omega), ofNat_toNat (by omega)]

include hP in
/-- The block of the codes at a point: that of `x`. -/
theorem tr3 : cc1_transform_3 k1_off1_inb numel1_S1 pf i = ![til g (i 1).val, (i 0).val] := tr0 hP i

/-- The scale's block: half the tile's number, as the floor division by two prints. -/
theorem half_word {t : ℕ} (ht : t ≤ 31) : ∀ v : BitVec 32, v = BitVec.ofNat 32 t →
    (Scalar.select (Scalar.andi (Scalar.cmpi .ne (Scalar.subi (Scalar.extui (Scalar.cmpi .sgt v 0#32)) (Scalar.extui (Scalar.cmpi .slt v 0#32)))
        (Scalar.subi (Scalar.extui (Scalar.cmpi .sgt 2#32 0#32)) (Scalar.extui (Scalar.cmpi .slt 2#32 0#32))))
      (Scalar.cmpi .ne (Scalar.remsi v 2#32) 0#32)) (Scalar.subi (Scalar.divsi v 2#32) 1#32) (Scalar.divsi v 2#32) : BitVec 32).toNat = t / 2 := by
  rintro v rfl
  interval_cases t <;> rfl

include hP in
/-- The block of the scales at a point: two tiles share one. -/
theorem tr4 : cc1_transform_4 k1_off1_inb numel1_S1 pf i = ![til g (i 1).val / 2, (i 0).val] := by
  have := coord0_lt i
  have h := half_word (til_le (g := g) (i 1).val) _ (tile_at hP i numel1_S1)
  have e : cc1_transform_4 k1_off1_inb numel1_S1 pf i 0 = til g (i 1).val / 2 := h
  have e' : cc1_transform_4 k1_off1_inb numel1_S1 pf i 1 = (i 0).val := ofNat_toNat (n := (i 0).val) (by omega)
  funext a
  match a with
  | ⟨0, _⟩ => exact e
  | ⟨1, _⟩ => exact e'

end Maps

/-- The plan's lists address only blocks inside the arrays. -/
theorem ok_of_planned {pf : pre1.Contents (Elt F)} {g : ℕ → ℕ} (hP : Planned pf g) : ok1 pf := by
  refine ⟨fun i => ⟨?_, ?_⟩, fun i => ⟨?_, ?_⟩, fun i => ⟨?_, ?_⟩, fun i => ⟨?_, ?_⟩, fun i => ⟨?_, ?_⟩⟩
  · rw [tr0 hP i]
    have := til_le (g := g) (i 1).val
    have := coord0_lt i
    intro a
    match a with
    | ⟨0, _⟩ => show (til g (i 1).val + 1) * 512 ≤ 16384; omega
    | ⟨1, _⟩ => show ((i 0).val + 1) * 2048 ≤ 12288; omega
  · exact .inr (Affine.block_words_dvd (by decide) (by decide))
  · rw [tr1 hP i]
    have := til_le (g := g) (i 1).val
    intro a
    match a with
    | ⟨0, _⟩ => show (0 + 1) * 1792 ≤ 1792; omega
    | ⟨1, _⟩ => show (til g (i 1).val + 1) * 512 ≤ 16384; omega
  · exact .inr (Affine.block_words_dvd (by decide) (by decide))
  · rw [tr2 hP i]
    have := ex_le (g := g) (i 1).val
    have := coord0_lt i
    intro a
    match a with
    | ⟨0, _⟩ => show (ex g (i 1).val + 1) * 1 ≤ 5; omega
    | ⟨1, _⟩ => show (0 + 1) * 1792 ≤ 1792; omega
    | ⟨2, _⟩ => show ((i 0).val + 1) * 2048 ≤ 12288; omega
  · exact .inl rfl
  · rw [tr3 hP i]
    have := til_le (g := g) (i 1).val
    have := coord0_lt i
    intro a
    match a with
    | ⟨0, _⟩ => show (til g (i 1).val + 1) * 512 ≤ 16384; omega
    | ⟨1, _⟩ => show ((i 0).val + 1) * 2048 ≤ 12288; omega
  · exact .inr (Affine.block_words_dvd (by decide) (by decide))
  · rw [tr4 hP i]
    have := til_le (g := g) (i 1).val
    have := coord0_lt i
    intro a
    match a with
    | ⟨0, _⟩ => show (til g (i 1).val / 2 + 1) * 8 ≤ 128; omega
    | ⟨1, _⟩ => show ((i 0).val + 1) * 2048 ≤ 12288; omega
  · exact .inl rfl

end Cert.KernelIdeal.Work

end
-- ==== Proof.KI.FrameOf.lean ====
/-
  The frame: under a partition of the rows the program runs, leaves its arguments as they were and every semaphore at zero.
-/
module

public import proofs.«01_k».proof.Proof.KI.Admit
public import proofs.«01_k».proof.Proof.Pre

@[expose] public section

set_option maxRecDepth 16384

noncomputable section

namespace Cert.KernelIdeal.Work

open Cert.KernelIdeal.Gen Cert.Quant
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Cert.Plan

variable (m : (ℓ : Loc nD τ sig) → Buf (Elt F) ℓ) (ρ : Dev nD → PrngReg)

/-- The group sizes of a memory. -/
abbrev gs (c : Dev nD) : ℕ → ℕ := sizesOf (m ((c : Thread nD τ).loc main_arg2))

/-- The sizes argument holds the words of the naturals `gs`. -/
theorem sized (c : Dev nD) : Sized m c (gs m c) := fun e => sizesOf_eq _ e

/-- The lists are admissible for a partition of the rows. -/
theorem lists_ok (hT : Total (gs m 0)) : ok1 (lists m 0) := ok_of_planned (planned m 0 (sized m 0) hT)

/-- The program's run with its arguments unchanged. -/
theorem frame_of (hT : Total (gs m 0)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (run_main m (lists_ok m hT) ρ).mono fun r h => ⟨fun c => ?_, h.2⟩
  exact (h.1 c).args

end Cert.KernelIdeal.Work

end
-- ==== Proof.Spec.lean ====
/-
  The quantiser of one group of 128 numbers as mathematics over the extended reals, and the two ways of finding its
  exponent: counting powers of two below a number, and taking the least power above it.
-/
module

public import Idealize.ShloMosaic.PureOps.Ideal
public import Idealize.ShloMosaic.PureOps.Ideal.Laws

@[expose] public section

noncomputable section

namespace Cert.Spec

open Idealize.ShloMosaic

/-! ## The binary logarithm -/

/-- The integer logarithm to base two of a positive number. -/
def lg (y : ℝ) : ℤ := if h : 0 < y then Classical.choose (exists_mem_Ico_zpow h (one_lt_two (α := ℝ))) else 0

/-- A positive number is below a power of two exactly when its logarithm is below the exponent. -/
theorem lt_zpow_iff {y : ℝ} (h : 0 < y) (z : ℤ) : y < (2:ℝ) ^ z ↔ lg y < z := by
  have hs : (2:ℝ) ^ lg y ≤ y ∧ y < (2:ℝ) ^ (lg y + 1) := by
    unfold lg; rw [dif_pos h]
    exact Classical.choose_spec (exists_mem_Ico_zpow h (one_lt_two (α := ℝ)))
  constructor
  · intro hz
    by_contra hc
    have : (2:ℝ) ^ z ≤ (2:ℝ) ^ lg y := zpow_le_zpow_right₀ (by norm_num) (by omega)
    linarith [hs.1]
  · intro hz
    have : (2:ℝ) ^ (lg y + 1) ≤ (2:ℝ) ^ z := zpow_le_zpow_right₀ (by norm_num) (by omega)
    linarith [hs.2]

/-- A power of two is at most a positive number exactly when its exponent is at most the logarithm. -/
theorem zpow_le_iff {y : ℝ} (h : 0 < y) (z : ℤ) : (2:ℝ) ^ z ≤ y ↔ z ≤ lg y := by
  rw [← not_lt, lt_zpow_iff h, not_lt]

/-! ## The quantiser -/

/-- The largest magnitude of a group. -/
def amx (v : Fin 128 → EReal) : EReal := Finset.univ.sup fun r => max (v r) (-(v r))

/-- The factor 1/448, as the number the programs hold. -/
def cst : EReal := Ideal.ofBits .f32 0x3B124925#32

/-- The exponent of a magnitude: the least `e` with the number below `2 ^ e`, zero for a number below `2 ^ (-126)`. -/
def expo (y : ℝ) : ℤ := if y < (2:ℝ) ^ (-126 : ℤ) then 0 else lg y + 1

/-- The exponent of a group. -/
def ex (v : Fin 128 → EReal) : ℤ := expo (amx v * cst).toReal

/-- The scale of a group. -/
def sc (v : Fin 128 → EReal) : EReal := (((2:ℝ) ^ ex v : ℝ) : EReal)

/-- The inverse of the scale. -/
def nv (v : Fin 128 → EReal) : EReal := (((2:ℝ) ^ (-ex v) : ℝ) : EReal)

/-- The codes of a group: its numbers over the scale, clipped to the format's range. -/
def code (v : Fin 128 → EReal) (r : Fin 128) : EReal :=
  min (Ideal.ofBits .f32 0x43E00000#32) (max (Ideal.ofBits .f32 0xC3E00000#32) (v r * nv v))

/-- The numbers that the codes stand for. -/
def wide (v : Fin 128 → EReal) (r : Fin 128) : EReal := code v r * sc v

/-- Every number of the group is at most the greatest finite bfloat16 in magnitude. -/
def Bounded (v : Fin 128 → EReal) : Prop := ∀ r, max (v r) (-(v r)) ≤ Ideal.ofBits .bf16 0x7F7F#16

/-! ## A matrix quantised by groups of 128 rows -/

/-- Group `G` of column `n`. -/
def grp (X : ℕ → ℕ → EReal) (G n : ℕ) : Fin 128 → EReal := fun r => X (128 * G + r.val) n

/-- The matrix's codes. -/
def codeM (X : ℕ → ℕ → EReal) (r n : ℕ) : EReal := code (grp X (r / 128) n) (Fin.ofNat 128 r)

/-- The matrix's scales: one row per group. -/
def scaleM (X : ℕ → ℕ → EReal) (G n : ℕ) : EReal := sc (grp X G n)

/-- The numbers that the matrix's codes stand for. -/
def wideM (X : ℕ → ℕ → EReal) (r n : ℕ) : EReal := wide (grp X (r / 128) n) (Fin.ofNat 128 r)

/-- Every entry is at most the greatest finite bfloat16 in magnitude. -/
def BoundedM (X : ℕ → ℕ → EReal) : Prop := ∀ r n, max (X r n) (-(X r n)) ≤ Ideal.ofBits .bf16 0x7F7F#16

/-- An expert's gradient: the sum, over the expert's rows, of the products of the two matrices' quantised entries. -/
def gradM (X Y : ℕ → ℕ → EReal) (b e o d : ℕ) : EReal := ∑ r ∈ Finset.range 16384, if b ≤ r ∧ r < e then wideM Y r o * wideM X r d else 0

/-- A group of a bounded matrix is bounded. -/
theorem BoundedM.grp {X : ℕ → ℕ → EReal} (h : BoundedM X) (G n : ℕ) : Bounded (grp X G n) := fun r => h _ _

/-- Groups with the same entries. -/
theorem grp_congr {X X' : ℕ → ℕ → EReal} {G n G' n' : ℕ} (h : ∀ r < 128, X (128 * G + r) n = X' (128 * G' + r) n') : grp X G n = grp X' G' n' :=
  funext fun r => h r.val r.isLt

/-- The row's place in its group does not change with whole groups before it. -/
theorem place (k r : ℕ) : (128 * k + r) / 128 = k + r / 128 ∧ Fin.ofNat 128 (128 * k + r) = Fin.ofNat 128 r :=
  ⟨by omega, Fin.ext (show (128 * k + r) % 128 = r % 128 by omega)⟩

section Part

variable {X X' : ℕ → ℕ → EReal} {k R n n' : ℕ} (h : ∀ r < 128 * R, X r n = X' (128 * k + r) n')
include h

/-- The group of a part of a matrix is the matrix's own. -/
theorem grp_part {G : ℕ} (hG : G < R) : grp X G n = grp X' (k + G) n' :=
  grp_congr fun r hr => by rw [h _ (by omega)]; congr 1; omega

/-- The codes of a part of a matrix are the matrix's own. -/
theorem codeM_part {r : ℕ} (hr : r < 128 * R) : codeM X r n = codeM X' (128 * k + r) n' := by
  unfold codeM; rw [(place k r).1, (place k r).2, grp_part h (G := r / 128) (by omega)]

/-- The scales of a part of a matrix are the matrix's own. -/
theorem scaleM_part {G : ℕ} (hG : G < R) : scaleM X G n = scaleM X' (k + G) n' := by
  unfold scaleM; rw [grp_part h hG]

/-- The numbers for a part of a matrix are the matrix's own. -/
theorem wideM_part {r : ℕ} (hr : r < 128 * R) : wideM X r n = wideM X' (128 * k + r) n' := by
  unfold wideM; rw [(place k r).1, (place k r).2, grp_part h (G := r / 128) (by omega)]

end Part

/-! ## The numbers behind the bit patterns -/

/-- The factor as a real. -/
theorem cst_eq : cst = ((9586981 * (2:ℝ) ^ (-32 : ℤ) : ℝ) : EReal) := by
  unfold cst Ideal.ofBits Ideal.ieee
  simp [-EReal.coe_mul]

/-- The bound as a real. -/
theorem top_eq : Ideal.ofBits .bf16 0x7F7F#16 = ((255 * (2:ℝ) ^ (120 : ℤ) : ℝ) : EReal) := by
  unfold Ideal.ofBits Ideal.ieee
  simp [-EReal.coe_mul]

/-- The three fields of a word built by shifting an exponent into place. -/
theorem pow_fields : ∀ k : Fin 255, (BitVec.ofNat 32 (k.val * 8388608)).extractLsb' 23 8 = BitVec.ofNat 8 k.val
    ∧ (BitVec.ofNat 32 (k.val * 8388608)).extractLsb' 0 23 = 0#23 ∧ (BitVec.ofNat 32 (k.val * 8388608)).extractLsb' 31 1 = 0#1 := by
  decide +kernel

/-- A word whose exponent field is `k` and whose other bits are zero denotes the power of two. -/
theorem pow_eq (k : ℕ) (h1 : 1 ≤ k) (h2 : k ≤ 254) : Ideal.ofBits .f32 (BitVec.ofNat 32 (k * 8388608)) = (((2:ℝ) ^ ((k : ℤ) - 127) : ℝ) : EReal) := by
  obtain ⟨e1, e2, e3⟩ := pow_fields ⟨k, by omega⟩
  unfold Ideal.ofBits Ideal.ieee
  dsimp only at e1 e2 e3 ⊢
  rw [e1, e2, show (8 + 23 : ℕ) = 31 from rfl, e3]
  have hk : (BitVec.ofNat 8 k).toNat = k := by rw [BitVec.toNat_ofNat]; omega
  rw [hk, if_neg (by omega), if_neg (by omega)]
  congr 1
  have hz : (2:ℝ) ^ ((k : ℤ) - (2 ^ (8 - 1) - 1) - (23 : ℕ) : ℤ) = (2:ℝ) ^ ((k:ℤ) - 127) * (2:ℝ) ^ (-23 : ℤ) := by
    rw [← zpow_add₀ (by norm_num)]; congr 1
  have h23 : (2:ℝ) ^ (-23 : ℤ) = 1 / 8388608 := by norm_num
  rw [hz, h23]
  simp
  ring

/-- The word of an infinite exponent field denotes infinity. -/
theorem pow_top : Ideal.ofBits .f32 (BitVec.ofNat 32 (255 * 8388608)) = ⊤ := by
  unfold Ideal.ofBits Ideal.ieee
  simp

/-! ## The magnitude of a bounded group -/

/-- A bounded group's largest magnitude times the factor is a real from zero to below `2 ^ 120`. -/
theorem scaled_real {v : Fin 128 → EReal} (h : Bounded v) : ∃ y : ℝ, amx v * cst = (y : EReal) ∧ 0 ≤ y ∧ y < (2:ℝ) ^ (120 : ℤ) := by
  have hle : amx v ≤ ((255 * (2:ℝ) ^ (120 : ℤ) : ℝ) : EReal) := by
    rw [← top_eq]; exact Finset.sup_le fun r _ => h r
  have h0 : (0 : EReal) ≤ amx v := by
    refine le_trans ?_ (Finset.le_sup (f := fun r => max (v r) (-(v r))) (Finset.mem_univ 0))
    rcases le_total 0 (v 0) with hv | hv
    · exact le_max_of_le_left hv
    · exact le_max_of_le_right (EReal.neg_nonneg.2 hv)
  obtain ⟨a, ha⟩ : ∃ a : ℝ, amx v = (a : EReal) := by
    induction hx : amx v using EReal.rec with
    | bot => rw [hx] at h0; simp at h0
    | coe a => exact ⟨a, rfl⟩
    | top => rw [hx] at hle; exact absurd (top_le_iff.1 hle) (EReal.coe_ne_top _)
  rw [ha] at h0 hle
  have h0' : 0 ≤ a := EReal.coe_nonneg.1 h0
  have hle' : a ≤ 255 * (2:ℝ) ^ (120 : ℤ) := EReal.coe_le_coe_iff.1 hle
  refine ⟨a * (9586981 * (2:ℝ) ^ (-32 : ℤ)), ?_, ?_, ?_⟩
  · rw [ha, cst_eq, ← EReal.coe_mul]
  · positivity
  · calc a * (9586981 * (2:ℝ) ^ (-32 : ℤ)) ≤ 255 * (2:ℝ) ^ (120 : ℤ) * (9586981 * (2:ℝ) ^ (-32 : ℤ)) := by gcongr
      _ < (2:ℝ) ^ (120 : ℤ) := by norm_num

/-- The exponent of a number from zero to below `2 ^ 120` lies from -125 to 120. -/
theorem expo_bounds {y : ℝ} (h0 : 0 ≤ y) (h1 : y < (2:ℝ) ^ (120 : ℤ)) : -125 ≤ expo y ∧ expo y ≤ 120 := by
  unfold expo
  split_ifs with h
  · omega
  · rw [not_lt] at h
    have hy : 0 < y := lt_of_lt_of_le (by positivity) h
    have a := (zpow_le_iff hy _).1 h
    have b : lg y < 120 := (lt_zpow_iff hy _).1 h1
    omega

/-! ## The exponent by counting -/

/-- How many of the 255 powers, taken as words, are at most the number: 127 more than its logarithm, or none. -/
theorem count_eq {y : ℝ} (h0 : 0 ≤ y) (h1 : y < (2:ℝ) ^ (120 : ℤ)) :
    ((Finset.univ.filter fun k : Fin 255 => Ideal.ofBits .f32 (BitVec.ofNat 32 ((k.val + 1) * 8388608)) ≤ (y : EReal)).card : ℤ)
      = if y < (2:ℝ) ^ (-126 : ℤ) then 0 else expo y + 126 := by
  have key : ∀ k : Fin 255, Ideal.ofBits .f32 (BitVec.ofNat 32 ((k.val + 1) * 8388608)) ≤ (y : EReal) ↔ (2:ℝ) ^ ((k.val : ℤ) - 126) ≤ y := by
    intro k
    have hk := k.isLt
    by_cases h : k.val + 1 ≤ 254
    · rw [pow_eq _ (by omega) h, EReal.coe_le_coe_iff, show (((k.val + 1 : ℕ) : ℤ) - 127) = (k.val : ℤ) - 126 by push_cast; ring]
    · rw [show k.val + 1 = 255 by omega, pow_top]
      constructor
      · intro h; simp at h
      · intro h'
        exfalso
        have : (2:ℝ) ^ (120 : ℤ) ≤ (2:ℝ) ^ ((k.val : ℤ) - 126) := zpow_le_zpow_right₀ (by norm_num) (by omega)
        linarith
  simp only [key]
  by_cases h : y < (2:ℝ) ^ (-126 : ℤ)
  · rw [if_pos h, Finset.filter_false_of_mem]
    · rfl
    · intro k _ hk
      have : (2:ℝ) ^ (-126 : ℤ) ≤ (2:ℝ) ^ ((k.val : ℤ) - 126) := zpow_le_zpow_right₀ (by norm_num) (by omega)
      linarith
  · rw [if_neg h]
    have hy : 0 < y := lt_of_lt_of_le (by positivity) (not_lt.1 h)
    have hb := expo_bounds h0 h1
    have he : expo y = lg y + 1 := if_neg h
    have : (Finset.univ.filter fun k : Fin 255 => (2:ℝ) ^ ((k.val : ℤ) - 126) ≤ y) = Finset.univ.filter fun k : Fin 255 => k.val < (expo y + 126).toNat := by
      ext k
      simp only [Finset.mem_filter, Finset.mem_univ, true_and]
      rw [zpow_le_iff hy]; omega
    rw [this, Fin.card_filter_val_lt]
    omega

/-! ## The exponent by search -/

/-- The least of the 254 candidates `k - 125` with the number below `2 ^ (k - 125)`, or 128: the exponent of a number from `2 ^ (-126)`. -/
theorem least_eq {y : ℝ} (h : (2:ℝ) ^ (-126 : ℤ) ≤ y) (h1 : y < (2:ℝ) ^ (120 : ℤ)) (g : Fin 254 → EReal)
    (hg : ∀ k : Fin 254, g k = if y < (2:ℝ) ^ ((k.val : ℤ) - 125) then ((((k.val : ℤ) - 125 : ℤ) : ℝ) : EReal) else ((128 : ℝ) : EReal)) :
    (Finset.univ : Finset (Fin 254)).inf g = (((expo y : ℤ) : ℝ) : EReal) := by
  have hy : 0 < y := lt_of_lt_of_le (by positivity) h
  have hb := expo_bounds hy.le h1
  have he : expo y = lg y + 1 := if_neg (not_lt.2 h)
  have key : ∀ z : ℤ, y < (2:ℝ) ^ z ↔ expo y ≤ z := by
    intro z
    rw [lt_zpow_iff hy]; omega
  apply le_antisymm
  · have hlt : (expo y + 125).toNat < 254 := by omega
    refine (Finset.inf_le (Finset.mem_univ (⟨(expo y + 125).toNat, hlt⟩ : Fin 254))).trans ?_
    rw [hg, if_pos ((key _).2 (by push_cast; omega))]
    rw [EReal.coe_le_coe_iff, Int.cast_le]; push_cast; omega
  · refine Finset.le_inf fun k _ => ?_
    rw [hg]
    split_ifs with hk
    · rw [EReal.coe_le_coe_iff, Int.cast_le]; exact (key _).1 hk
    · rw [EReal.coe_le_coe_iff]
      have : ((expo y : ℤ) : ℝ) ≤ ((128 : ℤ) : ℝ) := Int.cast_le.2 (by omega)
      exact_mod_cast this

end Cert.Spec

end
-- ==== Proof.QuantIdeal.lean ====
/-
  The kernels' group quantiser read over the extended reals, one entry at a time.
-/
module

public import proofs.«01_k».proof.Proof.Quant
public import proofs.«01_k».proof.Proof.Spec
public import Idealize.ShloMosaic.Lib.Pointwise
public import Idealize.ShloMosaic.Lib.Pointwise.IndexVar

@[expose] public section

noncomputable section

namespace Cert.Quant

open Idealize.ShloMosaic

variable {c : ℕ}

/-! ## Generalities -/

/-- The row of one of the 8 by 16 pieces that a group's 128 rows are split into. -/
def row (a : Fin 8) (b : Fin 16) : Fin 128 := ⟨a.val * 16 + b.val, by omega⟩

/-- A row of `c` entries read as a block of one row. -/
theorem reshape_row (h : (⟨2, ![1, c]⟩ : Shape).numel = (⟨1, ![c]⟩ : Shape).numel) (j : Fin c) : Shape.reshapeEquiv h (ix2 0 j) = ix1 j := by
  apply Shape.reshapeEquiv_eq_of_rowMajor
  rw [Shape.rowMajor_val_two, Shape.rowMajor_val_one]
  show j.val = 0 * c + j.val
  omega

/-- A block of 128 rows read as 8 blocks of 16. -/
theorem reshape_split (h : (⟨3, ![8, 16, c]⟩ : Shape).numel = (⟨2, ![128, c]⟩ : Shape).numel) (a : Fin 8) (b : Fin 16) (j : Fin c) :
    Shape.reshapeEquiv h (ix3 a b j) = ix2 (row a b) j := by
  apply Shape.reshapeEquiv_eq_of_rowMajor
  rw [Shape.rowMajor_val_three, Shape.rowMajor_val_two]
  rfl

/-- The word of minus infinity in single precision. -/
theorem bot32 : Ideal.ofBits .f32 0xFF800000#32 = ⊥ := by unfold Ideal.ofBits Ideal.ieee; simp

/-- The word of minus infinity in bfloat16. -/
theorem bot16 : Ideal.ofBits .bf16 0xFF80#16 = ⊥ := by unfold Ideal.ofBits Ideal.ieee; simp

/-- Adding up truth values counts. -/
theorem fold_count {ι : Type} (s : Finset ι) (p : ι → Prop) [DecidablePred p] :
    s.fold IntOp.addi (0#32) (fun x => BitVec.setWidth 32 (BitVec.ofBool (decide (p x)))) = BitVec.ofNat 32 (s.filter p).card := by
  classical
  induction s using Finset.induction_on with
  | empty => rfl
  | insert a s ha ih =>
    rw [Finset.fold_insert ha, ih, Finset.filter_insert]
    by_cases hp : p a
    · rw [if_pos hp, Finset.card_insert_of_notMem (by simp [ha]), decide_eq_true hp, Nat.add_comm, BitVec.ofNat_add]; rfl
    · rw [if_neg hp, decide_eq_false hp]
      exact BitVec.zero_add _

/-- The column a broadcast reads: the only one, if there is one. -/
theorem the_column (p : c = 1 → 0 < c) (j : Fin c) : (if h : c = 1 then ⟨0, p h⟩ else j : Fin c) = j := by
  split_ifs with hc
  · apply Fin.ext; show 0 = j.val; omega
  · rfl

/-! ## The exponent field -/

/-- A column's largest magnitude. -/
theorem amax_at (h : Shapes c) (v : FVec Ideal ⟨2, ![128, c]⟩ .bf16) (j : Fin c) :
    amax (F := Ideal) h v (ix2 0 j) = Spec.amx (fun r => v (ix2 r j)) := by
  unfold amax
  pointwise [reshape_row, reshape_split]
  rw [bot32, bot16]
  show (Finset.univ.sup fun x : Fin 16 => Finset.univ.sup fun y : Fin 8 => max (v (ix2 (row y x) j)) (-(v (ix2 (row y x) j)))) = _
  unfold Spec.amx
  apply le_antisymm
  · exact Finset.sup_le fun x _ => Finset.sup_le fun y _ => Finset.le_sup (f := fun r => max (v (ix2 r j)) (-(v (ix2 r j)))) (Finset.mem_univ (row y x))
  · refine Finset.sup_le fun r _ => ?_
    have hr : r = row ⟨r.val / 16, by omega⟩ ⟨r.val % 16, by omega⟩ := by
      apply Fin.ext; show r.val = r.val / 16 * 16 + r.val % 16; omega
    refine le_trans ?_ (Finset.le_sup (f := fun x : Fin 16 => Finset.univ.sup fun y : Fin 8 => max (v (ix2 (row y x) j)) (-(v (ix2 (row y x) j))))
      (Finset.mem_univ ⟨r.val % 16, by omega⟩))
    refine le_trans ?_ (Finset.le_sup (f := fun y : Fin 8 => max (v (ix2 (row y ⟨r.val % 16, by omega⟩) j)) (-(v (ix2 (row y ⟨r.val % 16, by omega⟩) j))))
      (Finset.mem_univ ⟨r.val / 16, by omega⟩))
    rw [← hr]

/-- The word of the `x`-th power compared with. -/
theorem shl_word : ∀ x : Fin 255, IntOp.shli .vector (IntOp.addi (BitVec.ofNat 32 x.val) 1#32) 23#32 = BitVec.ofNat 32 ((x.val + 1) * 8388608) := by
  decide +kernel

/-- How many powers lie at or below a number. -/
def below (y : EReal) : ℕ := (Finset.univ.filter fun k : Fin 255 => Ideal.ofBits .f32 (BitVec.ofNat 32 ((k.val + 1) * 8388608)) ≤ y).card

/-- A column's exponent field. -/
theorem field_at (h : Shapes c) (v : FVec Ideal ⟨2, ![128, c]⟩ .bf16) (j : Fin c) :
    field (F := Ideal) h v (ix2 0 j) = BitVec.ofNat 32 (below (Spec.amx (fun r => v (ix2 r j)) * Spec.cst)) := by
  unfold field
  pointwise [reshape_row]
  simp only [shl_word]
  rw [fold_count]
  refine (congrArg (fun z : Fin c => BitVec.ofNat 32 (below (amax h v (ix2 0 z) * Spec.cst))) (the_column _ j)).trans ?_
  rw [amax_at]

/-- The exponent's word, the scale's and its inverse's, from the field. -/
theorem words : ∀ n : Fin 247,
    let f := BitVec.ofNat 32 n.val
    let e := Scalar.select (IntOp.ori (IntOp.cmpi .eq f 0#32) (IntOp.cmpi .eq f 255#32)) 0#32 (IntOp.subi f 126#32)
    IntOp.shli .vector (IntOp.addi e 127#32) 23#32 = BitVec.ofNat 32 ((if n.val = 0 then 127 else n.val + 1) * 8388608)
    ∧ IntOp.shli .vector (IntOp.subi 127#32 e) 23#32 = BitVec.ofNat 32 ((if n.val = 0 then 127 else 253 - n.val) * 8388608) := by
  decide +kernel

/-- The exponent's word. -/
theorem expo_at (h : Shapes c) (v : FVec Ideal ⟨2, ![128, c]⟩ .bf16) (j : Fin c) {n : ℕ}
    (hn : below (Spec.amx (fun r => v (ix2 r j)) * Spec.cst) = n) :
    expo (F := Ideal) h v (ix2 0 j) = Scalar.select (IntOp.ori (IntOp.cmpi .eq (BitVec.ofNat 32 n) 0#32) (IntOp.cmpi .eq (BitVec.ofNat 32 n) 255#32)) 0#32
      (IntOp.subi (BitVec.ofNat 32 n) 126#32) := by
  subst hn
  unfold expo
  pointwise [field_at]

/-- A bounded column's field: nought for a magnitude below the normal numbers, else 126 more than the exponent. -/
theorem below_eq {v : Fin 128 → EReal} (hb : Spec.Bounded v) :
    below (Spec.amx v * Spec.cst) ≤ 246
      ∧ Spec.ex v = (if below (Spec.amx v * Spec.cst) = 0 then 127 else below (Spec.amx v * Spec.cst) + 1 : ℕ) - 127
      ∧ -Spec.ex v = (if below (Spec.amx v * Spec.cst) = 0 then 127 else 253 - below (Spec.amx v * Spec.cst) : ℕ) - 127 := by
  obtain ⟨y, hy, h0, h1⟩ := Spec.scaled_real hb
  have hc := Spec.count_eq h0 h1
  have he := Spec.expo_bounds h0 h1
  unfold Spec.ex below
  rw [hy, EReal.toReal_coe]
  split_ifs at hc with hs
  · have hx : Spec.expo y = 0 := if_pos hs
    split_ifs <;> omega
  · split_ifs <;> omega

variable (h : Shapes c) (v : FVec Ideal ⟨2, ![128, c]⟩ .bf16) (j : Fin c)

/-! ## The quantiser's results -/

/-- A column's scale. -/
theorem scale_at (hb : Spec.Bounded (fun r => v (ix2 r j))) :
    scale (F := Ideal) h v (ix2 0 j) = Spec.sc (fun r => v (ix2 r j)) := by
  obtain ⟨hn, he, -⟩ := below_eq hb
  unfold scale
  pointwise
  rw [expo_at h v j rfl, (words ⟨_, Nat.lt_succ_of_le hn⟩).1, Spec.pow_eq _ (by dsimp only; split_ifs <;> omega) (by dsimp only; split_ifs <;> omega)]
  unfold Spec.sc
  rw [he]

/-- The inverse of a column's scale. -/
theorem inv_at (hb : Spec.Bounded (fun r => v (ix2 r j))) :
    inv (F := Ideal) h v (ix2 0 j) = Spec.nv (fun r => v (ix2 r j)) := by
  obtain ⟨hn, -, he⟩ := below_eq hb
  unfold inv
  pointwise
  rw [expo_at h v j rfl, (words ⟨_, Nat.lt_succ_of_le hn⟩).2, Spec.pow_eq _ (by dsimp only; split_ifs <;> omega) (by dsimp only; split_ifs <;> omega)]
  unfold Spec.nv
  rw [he]

/-- A column's codes. -/
theorem codes_at (hb : Spec.Bounded (fun r => v (ix2 r j))) (r : Fin 128) :
    codes (F := Ideal) h v (ix2 r j) = Spec.code (fun r => v (ix2 r j)) r := by
  unfold codes
  pointwise
  refine (congrArg (fun z : Fin c => min (Ideal.ofBits .f32 0x43E00000#32) (max (Ideal.ofBits .f32 0xC3E00000#32) (v (ix2 r j) * inv (F := Ideal) h v (ix2 0 z)))) (the_column _ j)).trans ?_
  rw [inv_at h v j hb]
  rfl

/-- The numbers a column's codes stand for. -/
theorem deq_at (hb : Spec.Bounded (fun r => v (ix2 r j))) (r : Fin 128) :
    deq (F := Ideal) h v (ix2 r j) = Spec.wide (fun r => v (ix2 r j)) r := by
  unfold deq
  pointwise [codes_at h v j hb r]
  refine (congrArg (fun z : Fin c => Spec.code (fun r => v (ix2 r j)) r * scale (F := Ideal) h v (ix2 0 z)) (the_column _ j)).trans ?_
  rw [scale_at h v j hb]
  rfl

end Cert.Quant

end
-- ==== Proof.Blocks.lean ====
/-
  A block's quantised pieces put together: the block's codes, scales and dequantised numbers, entry by entry.
-/
module

public import proofs.«01_k».proof.Proof.QuantIdeal

@[expose] public section

noncomputable section

namespace Cert.Quant

open Idealize.ShloMosaic

/-- The two spellings of a pair of coordinates. -/
theorem ix2_same {R C : ℕ} (a : Fin R) (b : Fin C) : ValueIdx.ix2 a b = ix2 a b := by
  funext k; match k with | ⟨0, _⟩ => rfl | ⟨1, _⟩ => rfl

/-- A block read at natural numbers. -/
def mat {R C : ℕ} [NeZero R] [NeZero C] (x : (⟨2, ![R, C]⟩ : Shape).Idx → EReal) : ℕ → ℕ → EReal := fun r n => x (ix2 (Fin.ofNat R r) (Fin.ofNat C n))

/-- An entry of a block read at natural numbers. -/
theorem mat_apply {R C : ℕ} [NeZero R] [NeZero C] (x : (⟨2, ![R, C]⟩ : Shape).Idx → EReal) (z : (⟨2, ![R, C]⟩ : Shape).Idx) :
    x z = mat x (z 0).val (z 1).val := by
  unfold mat
  congr 1
  funext k
  match k with
  | ⟨0, _⟩ => exact (Fin.ext (Nat.mod_eq_of_lt (z 0).isLt)).symm
  | ⟨1, _⟩ => exact (Fin.ext (Nat.mod_eq_of_lt (z 1).isLt)).symm

section Tiles

variable {R C c : ℕ} [NeZero R] [NeZero C] [NeZero c] (h : Shapes c) (x : (⟨2, ![R, C]⟩ : Shape).Idx → EReal)

/-- A piece's column is the block's group. -/
theorem chunk_col (g n : ℕ) (j : Fin c) : (fun r : Fin 128 => chunk 128 c x g n (ix2 r j)) = Spec.grp (mat x) g (c * n + j.val) := by
  funext r
  show x (ValueIdx.ix2 _ _) = _
  rw [ix2_same]
  rfl

/-- A column of a piece, the column counted in the block. -/
theorem chunk_col' (g y : ℕ) : (fun r : Fin 128 => chunk 128 c x g (y / c) (ix2 r (Fin.ofNat c y))) = Spec.grp (mat x) g y := by
  rw [chunk_col]
  congr 1
  exact Nat.div_add_mod y c

variable (hb : Spec.BoundedM (mat x))
include hb

/-- The codes put together. -/
theorem tile_codes (y : (⟨2, ![R, C]⟩ : Shape).Idx) :
    tile R C (r := 128) (c := c) (fun g n => Quant.codes (F := Ideal) h (chunk 128 c x g n)) y = Spec.codeM (mat x) (y 0).val (y 1).val := by
  unfold tile
  beta_reduce
  rw [ix2_same, codes_at h _ _ (by rw [chunk_col']; exact hb.grp _ _), chunk_col']
  rfl

/-- The scales put together. -/
theorem tile_scale {R' : ℕ} (y : (⟨2, ![R', C]⟩ : Shape).Idx) :
    tile R' C (r := 1) (c := c) (fun g n => Quant.scale (F := Ideal) h (chunk 128 c x g n)) y = Spec.scaleM (mat x) (y 0).val (y 1).val := by
  unfold tile
  beta_reduce
  rw [ix2_same, show Fin.ofNat 1 (y 0).val = 0 from Subsingleton.elim _ _, scale_at h _ _ (by rw [chunk_col']; exact hb.grp _ _), chunk_col', Nat.div_one]
  rfl

/-- The dequantised numbers of a piece. -/
theorem deq_chunk (g y : ℕ) (r : Fin 128) :
    Quant.deq (F := Ideal) h (chunk 128 c x g (y / c)) (ix2 r (Fin.ofNat c y)) = Spec.wide (Spec.grp (mat x) g y) r := by
  rw [deq_at h _ _ (by rw [chunk_col']; exact hb.grp _ _), chunk_col']

end Tiles

end Cert.Quant

end
-- ==== Proof.KI.Value0.lean ====
/-
  The first kernel call's results over the extended reals: the codes and scales of `dy`, and its dequantised transpose.
-/
module

public import proofs.«01_k».proof.Proof.KI.FrameOf
public import proofs.«01_k».proof.Proof.Blocks
public import Idealize.ShloMosaic.Lib.Pipeline.ValueKit
public import Idealize.ShloMosaic.Lib.Pipeline.Covers

@[expose] public section

set_option maxRecDepth 16384

noncomputable section

namespace Cert.KernelIdeal.Work

open Cert.KernelIdeal.Gen Cert.Quant
open Idealize.ShloMosaic Idealize.ShloMosaic.TcCoe Idealize.ShloMosaic.Tactic
open Idealize.ShloMosaic.Pipeline (Dat RDat Cfg Window arrRef)

/-! ## The arguments as matrices -/

/-- A batch of two matrices read as one, at natural numbers. -/
def mat3 {C : ℕ} [NeZero C] (f : (⟨3, ![2, 8192, C]⟩ : Shape).Idx → EReal) : ℕ → ℕ → EReal :=
  fun r n => f (ix3 (Fin.ofNat 2 (r / 8192)) (Fin.ofNat 8192 r) (Fin.ofNat C n))

/-- The batch's reshape to one matrix. -/
theorem mat_reshape {C : ℕ} [NeZero C] (f : (⟨3, ![2, 8192, C]⟩ : Shape).Idx → EReal) (h : (⟨3, ![2, 8192, C]⟩ : Shape).ShapeCasts ⟨2, ![16384, C]⟩) :
    mat (shapeCast ⟨2, ![16384, C]⟩ f h) = mat3 f := by
  funext r n
  unfold mat mat3 shapeCast
  congr 1
  apply Shape.reshapeEquiv_eq_of_rowMajor
  rw [Shape.rowMajor_val_three, Shape.rowMajor_val_two]
  show (r / 8192 % 2 * 8192 + r % 8192) * C + n % C = r % 16384 * C + n % C
  congr 2
  omega

variable (m : (ℓ : Loc nD τ sig) → Buf (Elt Ideal) ℓ) (c : Dev nD)

/-- The first argument as a matrix. -/
abbrev xM : ℕ → ℕ → EReal := mat3 (C := 12288) (m ((c : Thread nD τ).loc main_arg0))
/-- The second argument as a matrix. -/
abbrev yM : ℕ → ℕ → EReal := mat3 (C := 1792) (m ((c : Thread nD τ).loc main_arg1))

/-- The first call's operand. -/
theorem v1_mat : mat (R := 16384) (C := 1792) (V1 m c main_v1) = yM m c := by
  refine Eq.trans (congrArg mat ?_) (mat_reshape _ shapeCasts_S2x8192x1792_S16384x1792)
  show StableHlo.after hostOps0 (V0 m c) main_v1 = _
  after_results_simp; rfl

/-- The second call's operand `x`. -/
theorem v0_mat : mat (R := 16384) (C := 12288) (V1 m c main_v0) = xM m c := by
  refine Eq.trans (congrArg mat ?_) (mat_reshape _ shapeCasts_S2x8192x12288_S16384x12288)
  show StableHlo.after hostOps0 (V0 m c) main_v0 = _
  after_results_simp; rfl

/-! ## The first call's blocks -/

/-- Where each window of the first call stands at a point. -/
theorem idx0 : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = t.val := by
  decide +kernel

variable {m c}

/-- The input's block. -/
theorem blk0_mat (t : Fin cfg0.N) (r n : ℕ) (hr : r < 1024) :
    mat (R := 1024) (C := 1792) (iblk0 (V1 m) c 0 t) r n = yM m c (1024 * t.val + r) n := by
  have ht := t.isLt
  have hN : cfg0.N = 16 := N_0
  obtain ⟨h0, h1, -⟩ := idx0 t
  rw [← v1_mat]
  unfold mat iblk0
  show (V1 m c main_v1 : S16384x1792.Idx → EReal) _ = _
  congr 1
  funext a
  match a with
  | ⟨0, _⟩ => apply Fin.ext; blk_simp; rw [h0]; show t.val * 1024 + r % 1024 = (1024 * t.val + r) % 16384; omega
  | ⟨1, _⟩ => apply Fin.ext; blk_simp; rw [h1]; omega

variable (hb : Spec.BoundedM (yM m c))
include hb

/-- A block of a bounded matrix is bounded. -/
theorem blk0_bounded (t : Fin cfg0.N) : Spec.BoundedM (mat (R := 1024) (C := 1792) (iblk0 (V1 m) c 0 t)) := by
  intro r n
  have e : mat (R := 1024) (C := 1792) (iblk0 (V1 m) c 0 t) r n = mat (R := 1024) (C := 1792) (iblk0 (V1 m) c 0 t) (r % 1024) n := by
    unfold mat; congr 2; exact Fin.ext (show r % 1024 = r % 1024 % 1024 by omega)
  rw [e, blk0_mat t _ _ (Nat.mod_lt _ (by norm_num))]
  exact hb _ _

/-- The block's groups are the matrix's. -/
theorem blk0_part (t : Fin cfg0.N) (n : ℕ) : ∀ r < 128 * 8, mat (R := 1024) (C := 1792) (iblk0 (V1 m) c 0 t) r n = yM m c (128 * (8 * t.val) + r) n := by
  intro r hr
  rw [blk0_mat t r n (by omega)]
  congr 1; omega

/-! ## The first call's results -/

/-- The codes of `dy`. -/
theorem out0_1 : (dat0 (V1 m) c).arrAt 1 cfg0.N = fun z : S16384x1792.Idx => Spec.codeM (yM m c) (z 0).val (z 1).val := by
  refine (dat0 (V1 m) c).arrAt_eq_of_covers 1 _ (by decide +kernel) fun t hf y => ?_
  obtain ⟨-, -, h0, h1, -⟩ := idx0 t
  have y0 : (y 0).val < 1024 := (y 0).isLt
  rw [after0_1]
  blk_simp
  rw [h0, h1]
  refine (tile_codes shapes0 _ (blk0_bounded hb t) y).trans ((Spec.codeM_part (blk0_part hb t _) (by omega)).trans ?_)
  congr 1 <;> omega

/-- The scales of `dy`. -/
theorem out0_2 : (dat0 (V1 m) c).arrAt 2 cfg0.N = fun z : S128x1792.Idx => Spec.scaleM (yM m c) (z 0).val (z 1).val := by
  refine (dat0 (V1 m) c).arrAt_eq_of_covers 2 _ (by decide +kernel) fun t hf y => ?_
  obtain ⟨-, -, -, -, h0, h1, -⟩ := idx0 t
  have y0 : (y 0).val < 8 := (y 0).isLt
  rw [after0_2]
  blk_simp
  rw [h0, h1]
  refine (tile_scale shapes0 _ (blk0_bounded hb t) y).trans ((Spec.scaleM_part (blk0_part hb t _) (by omega)).trans ?_)
  congr 1 <;> omega

/-- The dequantised `dy`, transposed. -/
theorem out0_3 : (dat0 (V1 m) c).arrAt 3 cfg0.N = fun z : S1792x16384.Idx => Spec.wideM (yM m c) (z 1).val (z 0).val := by
  refine (dat0 (V1 m) c).arrAt_eq_of_covers 3 _ (by decide +kernel) fun t hf y => ?_
  obtain ⟨-, -, -, -, -, -, h0, h1⟩ := idx0 t
  have y0 : (y 0).val < 1792 := (y 0).isLt
  have y1 : (y 1).val < 1024 := (y 1).isLt
  rw [after0_3]
  blk_simp
  rw [h0, h1]
  have e : dytB0 (F := Ideal) (iblk0 (V1 m) c 0 t) y = Quant.deq (F := Ideal) shapes0 (chunk 128 1792 (iblk0 (V1 m) c 0 t) ((y 1).val / 128) ((y 0).val / 1792))
      (ix2 (Fin.ofNat 128 (y 1).val) (Fin.ofNat 1792 (y 0).val)) := by
    unfold dytB0 tile
    rw [ix2_same]
    pointwise
  rw [e, deq_chunk shapes0 _ (blk0_bounded hb t)]
  refine (Spec.wideM_part (blk0_part hb t _) (by omega)).trans ?_
  congr 1 <;> omega

end Cert.KernelIdeal.Work

end
-- ==== Proof.PlanSum.lean ====
/-
  The items' tiles and experts, step by step, and the rows that the items of one expert take.
-/
module

public import proofs.«01_k».proof.Proof.Plan
public import proofs.«01_k».proof.Proof.Spec

@[expose] public section

noncomputable section

namespace Cert.Plan

variable {g : ℕ → ℕ} (hT : Total g)

/-! ## From an item to the next -/

/-- The running counts, one by one. -/
theorem counts : cum g 0 = cnt g 0 ∧ cum g 1 = cum g 0 + cnt g 1 ∧ cum g 2 = cum g 1 + cnt g 2 ∧ cum g 3 = cum g 2 + cnt g 3
    ∧ cum g 4 = cum g 3 + cnt g 4 ∧ 0 < cnt g 0 ∧ 0 < cnt g 1 ∧ 0 < cnt g 2 ∧ 0 < cnt g 3 ∧ 0 < cnt g 4 :=
  ⟨cum_zero, cum_succ 0, cum_succ 1, cum_succ 2, cum_succ 3, cnt_pos 0, cnt_pos 1, cnt_pos 2, cnt_pos 3, cnt_pos 4⟩

/-- The first item is of the first expert. -/
theorem ex_zero : ex g 0 = 0 := by
  have hc := counts (g := g)
  rcases ex_cases (g := g) 0 with ⟨_, h⟩ | ⟨h', _, h⟩ | ⟨h', _, h⟩ | ⟨h', _, h⟩ | ⟨h', h⟩ <;> omega

/-- An item's tile, by its place among its expert's items. -/
theorem til_eq (i : ℕ) : til g i = min (first g (ex g i) + (i - pre (cnt g) (ex g i))) 31 := by
  have h := pre_ex_le (g := g) i
  unfold til
  rw [cum_sub]
  omega

/-- An expert's items end before the next expert's begin. -/
theorem lt_cum (i : ℕ) (h : ex g i ≠ 4) : i < cum g (ex g i) := by
  rcases ex_cases (g := g) i with ⟨h', e⟩ | ⟨_, h', e⟩ | ⟨_, h', e⟩ | ⟨_, h', e⟩ | ⟨_, e⟩
  · rwa [e]
  · rwa [e]
  · rwa [e]
  · rwa [e]
  · exact absurd e h

include hT in
/-- The last expert's last item is in the last tile. -/
theorem last_four : last g 4 = 31 := by
  have h := begins_add (g := g) 4
  unfold Total at hT
  unfold last first
  split <;> omega

include hT in
/-- The first item is in the first tile. -/
theorem til_zero : til g 0 = 0 := by
  rw [til_eq, ex_zero, pre_zero]
  have := begins_eq (g := g) 0
  rw [pre_zero] at this
  unfold first
  omega

include hT in
/-- Within an expert's items, the tiles do not pass its last one. -/
theorem til_le_last (i : ℕ) : til g i ≤ last g (ex g i) := by
  by_cases h4 : ex g i = 4
  · rw [h4, last_four hT]; exact til_le i
  · have h1 := lt_cum i h4
    have h2 := pre_succ (cnt g) (ex g i)
    have h3 := first_le_last hT (ex_le (g := g) i)
    have h5 := pre_ex_le (g := g) i
    unfold cum at h1
    rw [til_eq]
    have h6 : cnt g (ex g i) = last g (ex g i) - first g (ex g i) + 1 := rfl
    omega

include hT in
/-- An item's tile does not come before its expert's first. -/
theorem first_le_til (i : ℕ) : first g (ex g i) ≤ til g i := by
  have h3 := first_le_last hT (ex_le (g := g) i)
  have h4 := last_le hT (ex_le (g := g) i)
  rw [til_eq]; omega

include hT in
/-- The next item: of the same expert, in the next tile or past the end of the list; or of the next expert, in its first
    tile, the item before being in its own expert's last. -/
theorem step (i : ℕ) :
    (ex g (i + 1) = ex g i ∧ til g (i + 1) = til g i + 1 ∧ i + 1 < cum g 4)
    ∨ (ex g (i + 1) = ex g i ∧ ex g i = 4 ∧ til g (i + 1) = til g i ∧ til g i = 31 ∧ cum g 4 ≤ i + 1)
    ∨ (ex g (i + 1) = ex g i + 1 ∧ ex g i < 4 ∧ til g i = last g (ex g i) ∧ til g (i + 1) = first g (ex g i + 1) ∧ i + 1 < cum g 4) := by
  have l4 := last_four hT
  have cs := counts (g := g)
  have key : ∀ e ≤ 4, first g e ≤ last g e ∧ last g e ≤ 31 ∧ cnt g e = last g e - first g e + 1 :=
    fun e he => ⟨first_le_last hT he, last_le hT he, rfl⟩
  by_cases h4 : ex g i = 4
  · have h4' : ex g (i + 1) = 4 := by
      have := ex_cases (g := g) i
      have := ex_cases (g := g) (i + 1)
      omega
    have t0 := til_eq (g := g) i
    have t1 := til_eq (g := g) (i + 1)
    rw [h4] at t0; rw [h4'] at t1
    have hp := pre_ex_le (g := g) i
    rw [h4] at hp
    have k4 := key 4 le_rfl
    have : cum g 4 = pre (cnt g) 4 + cnt g 4 := pre_succ ..
    omega
  · have he := ex_le (g := g) i
    have hlt := lt_cum i h4
    have hp := pre_ex_le (g := g) i
    have hm : cum g (ex g i) < cum g 4 := by
      have h1 : cum g (ex g i + 1) ≤ cum g 4 := pre_mono _ (by omega)
      have h2 := cum_succ (g := g) (ex g i)
      have h3 := cnt_pos (g := g) (ex g i + 1)
      omega
    have t0 := til_eq (g := g) i
    have t1 := til_eq (g := g) (i + 1)
    have ks := key (ex g i) he
    have ks' := key (ex g i + 1) (by omega)
    have hc : cum g (ex g i) = pre (cnt g) (ex g i) + cnt g (ex g i) := pre_succ ..
    by_cases hn : i + 1 < cum g (ex g i)
    · have e : ex g (i + 1) = ex g i := by
        have a1 := ex_cases (g := g) i
        have a2 := ex_cases (g := g) (i + 1)
        rcases a1 with ⟨_, h⟩ | ⟨_, _, h⟩ | ⟨_, _, h⟩ | ⟨_, _, h⟩ | ⟨_, h⟩ <;> rw [h] at hn hlt ⊢ <;> omega
      rw [e] at t1
      omega
    · have e : ex g (i + 1) = ex g i + 1 := by
        have a1 := ex_cases (g := g) i
        have a2 := ex_cases (g := g) (i + 1)
        rcases a1 with ⟨_, h⟩ | ⟨_, _, h⟩ | ⟨_, _, h⟩ | ⟨_, _, h⟩ | ⟨_, h⟩ <;> rw [h] at hn hlt ⊢ <;> omega
      rw [e] at t1
      have hc' : pre (cnt g) (ex g i + 1) = cum g (ex g i) := rfl
      rw [hc'] at t1
      omega

include hT in
/-- The last item is in the last tile and of the last expert. -/
theorem last_item : til g 35 = 31 ∧ ex g 35 = 4 := by
  have hc := cum_four_le hT
  have cs := counts (g := g)
  have he : ex g 35 = 4 := by
    have := ex_cases (g := g) 35
    omega
  refine ⟨?_, he⟩
  have t0 := til_eq (g := g) 35
  rw [he] at t0
  have : cum g 3 = pre (cnt g) 4 := rfl
  have k1 := first_le_last hT (e := 4) le_rfl
  have k2 := last_four hT
  have k3 : cnt g 4 = last g 4 - first g 4 + 1 := rfl
  omega

include hT in
/-- The next expert begins in an expert's last tile or the one after. -/
theorem first_le_last_succ {e : ℕ} (he : e < 4) : first g (e + 1) ≤ last g e + 1 := by
  have h1 := begins_succ (g := g) e
  have h2 := begins_add (g := g) e
  have h3 := ends_le hT (e := e) (by omega)
  unfold last first
  split <;> omega

include hT in
/-- The next item's tile is the same or the next one. -/
theorem til_step (i : ℕ) : til g (i + 1) = til g i ∨ til g (i + 1) = til g i + 1 := by
  rcases step hT i with ⟨_, h, _⟩ | ⟨_, _, h, _⟩ | ⟨_, he, h, h', _⟩
  · exact .inr h
  · exact .inl h
  · have h1 := last_le_first hT he
    have h2 := first_le_last_succ hT he
    omega

include hT in
/-- Every tile up to an item's is an earlier item's. -/
theorem tiles_before (i t : ℕ) (h : t ≤ til g i) : ∃ j ≤ i, til g j = t := by
  induction i with
  | zero => rw [til_zero hT] at h; exact ⟨0, le_rfl, by rw [til_zero hT]; omega⟩
  | succ i ih =>
    by_cases h' : t ≤ til g i
    · obtain ⟨j, hj, e⟩ := ih h'; exact ⟨j, by omega, e⟩
    · refine ⟨i + 1, le_rfl, ?_⟩
      have h1 := til_step hT i
      omega

include hT in
/-- Every tile is some item's. -/
theorem every_tile (t : ℕ) (h : t < 32) : ∃ j < 36, til g j = t := by
  obtain ⟨j, hj, e⟩ := tiles_before hT 35 t (by rw [(last_item hT).1]; omega)
  exact ⟨j, by omega, e⟩

include hT in
/-- Every expert up to an item's is an earlier item's. -/
theorem experts_before (i e : ℕ) (h : e ≤ ex g i) : ∃ j ≤ i, ex g j = e := by
  induction i with
  | zero => rw [ex_zero] at h; exact ⟨0, le_rfl, by rw [ex_zero]; omega⟩
  | succ i ih =>
    by_cases h' : e ≤ ex g i
    · obtain ⟨j, hj, e⟩ := ih h'; exact ⟨j, by omega, e⟩
    · refine ⟨i + 1, le_rfl, ?_⟩
      have h1 := step hT i
      omega

include hT in
/-- Every expert is some item's. -/
theorem every_expert (e : ℕ) (h : e < 5) : ∃ j < 36, ex g j = e := by
  obtain ⟨j, hj, e⟩ := experts_before hT 35 e (by rw [(last_item hT).2]; omega)
  exact ⟨j, by omega, e⟩

/-! ## The rows that an expert's items take -/

variable {M : Type} [AddCommMonoid M] (f : ℕ → M)

/-- The sum of `f` over the rows from `b` to `e`. -/
def rows (b e : ℕ) : M := ∑ r ∈ Finset.range 16384, if b ≤ r ∧ r < e then f r else 0

/-- The sum of `f` over the rows of its tile that item `i` takes. -/
def part (g : ℕ → ℕ) (i : ℕ) : M := ∑ k ∈ Finset.range 512, if lo g i ≤ k ∧ k < hi g i then f (512 * til g i + k) else 0

/-- The rows up to the end of a tile are those before it and the tile's own. -/
theorem rows_tile (b e t : ℕ) (ht : t < 32) :
    rows f b (min e (512 * (t + 1))) = rows f b (min e (512 * t))
      + ∑ k ∈ Finset.range 512, if min 512 (b - t * 512) ≤ k ∧ k < min 512 (e - t * 512) then f (512 * t + k) else 0 := by
  have e1 : (∑ k ∈ Finset.range 512, if min 512 (b - t * 512) ≤ k ∧ k < min 512 (e - t * 512) then f (512 * t + k) else 0)
      = ∑ r ∈ Finset.range 16384, if 512 * t ≤ r ∧ r < 512 * (t + 1) then (if b ≤ r ∧ r < e then f r else 0) else 0 := by
    refine Eq.symm ((Finset.sum_filter _ _).symm.trans ?_)
    have e2 : (Finset.range 16384).filter (fun r => 512 * t ≤ r ∧ r < 512 * (t + 1)) = Finset.Ico (512 * t) (512 * (t + 1)) := by
      ext r; simp only [Finset.mem_filter, Finset.mem_range, Finset.mem_Ico]; omega
    rw [e2, Finset.sum_Ico_eq_sum_range, show 512 * (t + 1) - 512 * t = 512 by omega]
    refine Finset.sum_congr rfl fun k hk => ?_
    rw [Finset.mem_range] at hk
    exact if_congr (by omega) rfl rfl
  unfold rows
  rw [e1, ← Finset.sum_add_distrib]
  refine Finset.sum_congr rfl fun r _ => ?_
  by_cases h1 : b ≤ r ∧ r < min e (512 * t)
  · rw [if_pos h1, if_pos (by omega), if_neg (by omega), add_zero]
  · rw [if_neg h1, zero_add]
    by_cases h2 : 512 * t ≤ r ∧ r < 512 * (t + 1)
    · rw [if_pos h2]; exact if_congr (by omega) rfl rfl
    · rw [if_neg h2, if_neg (by omega)]

/-- No rows, no sum. -/
theorem rows_empty (b e : ℕ) (h : e ≤ b) : rows f b e = 0 :=
  Finset.sum_eq_zero fun r _ => if_neg (by omega)

/-- The sum over the rows of item `i`'s expert up to the end of the item's tile. -/
def upto (g : ℕ → ℕ) (i : ℕ) : M := rows f (begins g (ex g i)) (min (ends g (ex g i)) (512 * (til g i + 1)))

/-- An item that is not past the end of the list adds the rows of its expert in its tile. -/
theorem upto_eq (i : ℕ) (h : i < cum g 4) :
    upto f g i = rows f (begins g (ex g i)) (min (ends g (ex g i)) (512 * til g i)) + part f g i := by
  have e : hi g i = min 512 (ends g (ex g i) - til g i * 512) := if_neg (by omega)
  unfold upto part
  rw [rows_tile f _ _ _ (Nat.lt_succ_of_le (til_le i)), e]
  rfl

/-- An expert's first item takes the first of its rows. -/
theorem upto_first (i : ℕ) (h : i < cum g 4) (h' : til g i = first g (ex g i)) : upto f g i = part f g i := by
  rw [upto_eq f i h, rows_empty, zero_add]
  rw [h']
  unfold first
  omega

/-- The first item takes the first rows. -/
theorem upto_zero (hT : Total g) : upto f g 0 = part f g 0 := by
  have cs := counts (g := g)
  refine upto_first f 0 (by omega) ?_
  have h1 := first_le_til hT 0
  have h2 := til_zero hT
  omega

/-- An item of a new expert takes the first of its rows. -/
theorem upto_new (hT : Total g) (i : ℕ) (h : ex g (i + 1) ≠ ex g i) : upto f g (i + 1) = part f g (i + 1) := by
  rcases step hT i with ⟨h', _⟩ | ⟨h', _⟩ | ⟨h1, _, _, h2, h3⟩
  · exact absurd h' h
  · exact absurd h' h
  · exact upto_first f _ h3 (by rw [h1]; exact h2)

/-- An item of the same expert takes the next rows, or none. -/
theorem upto_same (hT : Total g) (i : ℕ) (h : ex g (i + 1) = ex g i) : upto f g (i + 1) = upto f g i + part f g (i + 1) := by
  rcases step hT i with ⟨_, h2, h3⟩ | ⟨_, _, h2, _, h3⟩ | ⟨h1, _⟩
  · rw [upto_eq f _ h3, h, h2]; rfl
  · have e : part f g (i + 1) = 0 := Finset.sum_eq_zero fun k _ => if_neg (by
      have : hi g (i + 1) = 0 := if_pos h3
      omega)
    rw [e, add_zero]
    unfold upto
    rw [h, h2]
  · omega

/-- After an expert's last item all its rows are taken. -/
theorem upto_last (hT : Total g) (i : ℕ) (h : i = 35 ∨ ex g (i + 1) ≠ ex g i) :
    upto f g i = rows f (begins g (ex g i)) (ends g (ex g i)) := by
  have ht : til g i = last g (ex g i) := by
    rcases h with rfl | h
    · rw [(last_item hT).1, (last_item hT).2, last_four hT]
    · rcases step hT i with ⟨h', _⟩ | ⟨h', _⟩ | ⟨_, _, h1, _⟩
      · exact absurd h' h
      · exact absurd h' h
      · exact h1
  have he := ex_le (g := g) i
  have h2 := begins_add (g := g) (ex g i)
  have h3 := ends_le hT he
  unfold upto
  by_cases hg : 0 < g (ex g i)
  · have : last g (ex g i) = (ends g (ex g i) - 1) / 512 := if_pos hg
    rw [ht, Nat.min_eq_left (by omega)]
  · rw [rows_empty f _ _ (by omega), rows_empty f _ _ (by omega)]

end Cert.Plan

end
-- ==== Proof.KI.Points.lean ====
/-
  The second kernel call over the extended reals: where its windows stand, and what its buffers hold from point to point.
-/
module

public import proofs.«01_k».proof.Proof.KI.FrameOf
public import proofs.«01_k».proof.Proof.Blocks
public import proofs.«01_k».proof.Proof.PlanSum
public import Idealize.ShloMosaic.Lib.Pipeline.ValueKit
public import Idealize.ShloMosaic.Lib.Pipeline.Covers

@[expose] public section

set_option maxRecDepth 16384

noncomputable section

namespace Cert.KernelIdeal.Work

open Cert.KernelIdeal.Gen Cert.Quant
open Idealize.ShloMosaic Idealize.ShloMosaic.TcCoe Idealize.ShloMosaic.Tactic
open Idealize.ShloMosaic.Pipeline (Dat RDat Cfg Window arrRef)

open Cert.Plan

variable {W : Dev nD → Valuation τ sig (Elt Ideal)} {a : (pcfg1 (F := Ideal)).Adm} {c : Dev nD} {g : ℕ → ℕ}

/-! ## The points -/

/-- A point's item. -/
theorem item_val (t : Fin grid1.N) : item t = t.val % 36 := by
  show (grid1.coords t 1).val = _
  rw [Pipeline.Grid.coords_val t 1 (S := 1) (B := 36) (by decide) rfl, Nat.div_one]

/-- A point's column block. -/
theorem colb_val (t : Fin grid1.N) : colb t = t.val / 36 := by
  show (grid1.coords t 0).val = _
  have h := t.isLt
  have hN := N_1
  rw [Pipeline.Grid.coords_val t 0 (S := 36) (B := 6) (by decide) rfl, Nat.mod_eq_of_lt (by omega)]

/-- The point before. -/
abbrev prev (t : Fin grid1.N) : Fin grid1.N := ⟨t.val - 1, Nat.lt_of_le_of_lt (Nat.sub_le _ _) t.isLt⟩

section Index

variable (hP : Planned a.1 g) (t : Fin grid1.N)
include hP

/-- Where `x`'s window stands. -/
theorem index0 : ((cfg1 a).win 0).index t = ![til g (item t), colb t] := tr0 hP _
/-- Where the window of the transposed `dy` stands. -/
theorem index1 : ((cfg1 a).win 1).index t = ![0, til g (item t)] := tr1 hP _
/-- Where the sum's window stands. -/
theorem index2 : ((cfg1 a).win 2).index t = ![ex g (item t), 0, colb t] := tr2 hP _
/-- Where the codes' window stands. -/
theorem index3 : ((cfg1 a).win 3).index t = ![til g (item t), colb t] := tr3 hP _
/-- Where the scales' window stands. -/
theorem index4 : ((cfg1 a).win 4).index t = ![til g (item t) / 2, colb t] := tr4 hP _

end Index

/-! ## From point to point -/

/-- What holds of an output's buffer after every point: what holds when the window has just moved to a new block, whatever the
    buffer held, and what follows from the same at the point before when it has not moved. -/
theorem leaves_inv (w : Fin (cfg1 a).W) (ho : ((cfg1 a).win w).isOut = true)
    (I : Fin grid1.N → (((cfg1 a).win w).block.Idx → Elt Ideal ((cfg1 a).win w).elt) → Prop)
    (h0 : ∀ t Y X, (t.val ≠ 0 → ((cfg1 a).win w).index t ≠ ((cfg1 a).win w).index (prev t)) → (rd1 W a c).after w t Y X → I t X)
    (h1 : ∀ t Y X, t.val ≠ 0 → ((cfg1 a).win w).index t = ((cfg1 a).win w).index (prev t) → I (prev t) Y → (rd1 W a c).after w t Y X → I t X) :
    ∀ t X, (rd1 W a c).Leaves w t X → I t X := by
  rintro ⟨n, hn⟩
  induction n with
  | zero => rintro X ⟨Y, _, hX⟩; exact h0 _ Y X (fun h => absurd rfl h) hX
  | succ n ih =>
    rintro X ⟨Y, hY, hX⟩
    have hf : ((cfg1 a).win w).fetch ⟨n + 1, hn⟩ = false := Pipeline.Window.fetch_out _ ho _
    by_cases hi : ((cfg1 a).win w).index ⟨n + 1, hn⟩ = ((cfg1 a).win w).index (prev ⟨n + 1, hn⟩)
    · rcases ((rd1 W a c).finds_of_pos hf (Nat.succ_ne_zero n) Y).mp hY with h | h
      · rcases (Pipeline.Window.flush_out _ ho _).mp h with h' | ⟨_, h'⟩
        · exact absurd h' (Nat.ne_of_lt hn)
        · exact absurd hi h'
      · exact h1 _ Y X (Nat.succ_ne_zero n) hi (ih _ Y h) hX
    · exact h0 _ Y X (fun _ => hi) hX

/-- At a point that writes an output back, the window stands elsewhere at the next point, if there is one. -/
theorem flush_moves (w : Fin (cfg1 a).W) (ho : ((cfg1 a).win w).isOut = true) (t : Fin grid1.N) (h : ((cfg1 a).win w).flush t = true) :
    t.val = 215 ∨ ∃ t' : Fin grid1.N, t'.val = t.val + 1 ∧ ((cfg1 a).win w).index t' ≠ ((cfg1 a).win w).index t := by
  have hN := N_1
  rcases (Pipeline.Window.flush_out _ ho _).mp h with h' | ⟨hlt, h'⟩
  · left
    have h'' : t.val + 1 = grid1.N := h'
    omega
  · exact .inr ⟨⟨t.val + 1, hlt⟩, rfl, h'⟩

/-! ## The inputs' blocks -/

section Blocks

variable (hP : Planned a.1 g) {X Y : ℕ → ℕ → EReal}

include hP in
/-- The tile of `x` at a point. -/
theorem xblk_mat (hX : mat (R := 16384) (C := 12288) (W c main_v0) = X) (t : Fin grid1.N) (r n : ℕ) (hr : r < 512) (hn : n < 2048) :
    mat (R := 512) (C := 2048) (xblk W a c t) r n = X (512 * til g (item t) + r) (2048 * colb t + n) := by
  have hi := index0 hP t
  have h0 : ((cfg1 a).win 0).index t (0 : Fin 2) = til g (item t) := congrFun hi (0 : Fin 2)
  have h1 : ((cfg1 a).win 0).index t (1 : Fin 2) = colb t := congrFun hi (1 : Fin 2)
  have ht := til_le (g := g) (item t)
  have hc := colb_val t
  have hlt := t.isLt
  have hN := N_1
  rw [← hX]
  unfold mat xblk iblk1
  show (W c main_v0 : S16384x12288.Idx → EReal) _ = _
  congr 1
  funext b
  match b with
  | ⟨0, _⟩ => apply Fin.ext; blk_simp; rw [h0]; show til g (item t) * 512 + r % 512 = (512 * til g (item t) + r) % 16384; omega
  | ⟨1, _⟩ => apply Fin.ext; blk_simp; rw [h1]; show colb t * 2048 + n % 2048 = (2048 * colb t + n) % 12288; omega

include hP in
/-- The tile of the transposed `dy` at a point. -/
theorem yblk_at (hY : (W c main_v2_2 : S1792x16384.Idx → EReal) = fun z => Y (z 1).val (z 0).val) (t : Fin grid1.N) (z : S1792x512.Idx) :
    yblk W a c t z = Y (512 * til g (item t) + (z 1).val) (z 0).val := by
  have hi := index1 hP t
  have h0 : ((cfg1 a).win 1).index t (0 : Fin 2) = 0 := congrFun hi (0 : Fin 2)
  have h1 : ((cfg1 a).win 1).index t (1 : Fin 2) = til g (item t) := congrFun hi (1 : Fin 2)
  unfold yblk iblk1
  show (W c main_v2_2 : S1792x16384.Idx → EReal) _ = _
  rw [hY]
  show Y _ _ = Y _ _
  blk_simp
  rw [h0, h1]
  congr 1 <;> omega

end Blocks

end Cert.KernelIdeal.Work

end
-- ==== Proof.KI.Value1.lean ====
/-
  The second kernel call over the extended reals: the codes and scales of `x`.
-/
module

public import proofs.«01_k».proof.Proof.KI.Points
public import Idealize.ShloMosaic.Lib.Pipeline.ValueKit
public import Idealize.ShloMosaic.Lib.Pipeline.Covers

@[expose] public section

set_option maxRecDepth 16384

noncomputable section

namespace Cert.KernelIdeal.Work

open Cert.KernelIdeal.Gen Cert.Quant
open Idealize.ShloMosaic Idealize.ShloMosaic.TcCoe Idealize.ShloMosaic.Tactic
open Idealize.ShloMosaic.Pipeline (Dat RDat Cfg Window arrRef)

open Cert.Plan

variable {W : Dev nD → Valuation τ sig (Elt Ideal)} {a : (pcfg1 (F := Ideal)).Adm} {c : Dev nD} {g : ℕ → ℕ}
variable (hP : Planned a.1 g) (hT : Total g) {X : ℕ → ℕ → EReal} (hX : mat (R := 16384) (C := 12288) (W c main_v0) = X) (hb : Spec.BoundedM X)

/-! ## The tile's groups -/

include hP hX in
/-- The tile's groups are the matrix's. -/
theorem xblk_part (t : Fin grid1.N) (n : ℕ) (hn : n < 2048) :
    ∀ r < 128 * 4, mat (R := 512) (C := 2048) (xblk W a c t) r n = X (128 * (4 * til g (item t)) + r) (2048 * colb t + n) := by
  intro r hr
  rw [xblk_mat hP hX t r n (by omega) hn]
  congr 1; omega

include hP hX hb in
/-- A tile of a bounded matrix is bounded. -/
theorem xblk_bounded (t : Fin grid1.N) : Spec.BoundedM (mat (R := 512) (C := 2048) (xblk W a c t)) := by
  intro r n
  have e : mat (R := 512) (C := 2048) (xblk W a c t) r n = mat (R := 512) (C := 2048) (xblk W a c t) (r % 512) (n % 2048) := by
    unfold mat; congr 2
    · exact Fin.ext (show r % 512 = r % 512 % 512 by omega)
    · exact Fin.ext (show n % 2048 = n % 2048 % 2048 by omega)
  rw [e, xblk_mat hP hX t _ _ (Nat.mod_lt _ (by norm_num)) (Nat.mod_lt _ (by norm_num))]
  exact hb _ _

/-- The grid's place of a column block and an item. -/
def place (n : Fin 6) (i : Fin 36) : grid1.Coords := fun k => match k with | ⟨0, _⟩ => n | ⟨1, _⟩ => i

include hP hT in
/-- The codes' blocks fill their array. -/
theorem covers3 : ((cfg1 a).win 3).Covers := by
  refine Pipeline.Window.covers_of_indexMap_surj _ rfl (fun b => by match b with | ⟨0, _⟩ => exact Nat.succ_pos _ | ⟨1, _⟩ => exact Nat.succ_pos _) fun β => ?_
  have b0 : (β (0 : Fin 2)).val < 32 := Nat.lt_of_lt_of_eq (β (0 : Fin 2)).isLt (show (16384 + 512 - 1) / 512 = 32 by norm_num)
  have b1 : (β (1 : Fin 2)).val < 6 := Nat.lt_of_lt_of_eq (β (1 : Fin 2)).isLt (show (12288 + 2048 - 1) / 2048 = 6 by norm_num)
  obtain ⟨j, hj, e⟩ := every_tile hT _ b0
  refine ⟨place ⟨_, b1⟩ ⟨j, hj⟩, fun b => ?_⟩
  have h : ((cfg1 a).win 3).indexMap (place ⟨_, b1⟩ ⟨j, hj⟩) = ![til g j, (β (1 : Fin 2)).val] := tr3 hP _
  match b with
  | ⟨0, _⟩ => exact (congrFun h (0 : Fin 2)).trans e
  | ⟨1, _⟩ => exact congrFun h (1 : Fin 2)

include hP hT in
/-- The scales' blocks fill their array. -/
theorem covers4 : ((cfg1 a).win 4).Covers := by
  refine Pipeline.Window.covers_of_indexMap_surj _ rfl (fun b => by match b with | ⟨0, _⟩ => exact Nat.succ_pos _ | ⟨1, _⟩ => exact Nat.succ_pos _) fun β => ?_
  have b0 : (β (0 : Fin 2)).val < 16 := Nat.lt_of_lt_of_eq (β (0 : Fin 2)).isLt (show (128 + 8 - 1) / 8 = 16 by norm_num)
  have b1 : (β (1 : Fin 2)).val < 6 := Nat.lt_of_lt_of_eq (β (1 : Fin 2)).isLt (show (12288 + 2048 - 1) / 2048 = 6 by norm_num)
  obtain ⟨j, hj, e⟩ := every_tile hT (2 * (β (0 : Fin 2)).val) (by omega)
  refine ⟨place ⟨_, b1⟩ ⟨j, hj⟩, fun b => ?_⟩
  have h : ((cfg1 a).win 4).indexMap (place ⟨_, b1⟩ ⟨j, hj⟩) = ![til g j / 2, (β (1 : Fin 2)).val] := tr4 hP _
  match b with
  | ⟨0, _⟩ => exact (congrFun h (0 : Fin 2)).trans (show til g j / 2 = (β (0 : Fin 2)).val by omega)
  | ⟨1, _⟩ => exact congrFun h (1 : Fin 2)

include hP hT in
/-- The sum's blocks fill their array. -/
theorem covers2 : ((cfg1 a).win 2).Covers := by
  refine Pipeline.Window.covers_of_indexMap_surj _ rfl (fun b => by match b with | ⟨0, _⟩ => exact Nat.succ_pos _ | ⟨1, _⟩ => exact Nat.succ_pos _ | ⟨2, _⟩ => exact Nat.succ_pos _) fun β => ?_
  have b0 : (β (0 : Fin 3)).val < 5 := Nat.lt_of_lt_of_eq (β (0 : Fin 3)).isLt (show (5 + 1 - 1) / 1 = 5 by norm_num)
  have b1 : (β (1 : Fin 3)).val < 1 := Nat.lt_of_lt_of_eq (β (1 : Fin 3)).isLt (show (1792 + 1792 - 1) / 1792 = 1 by norm_num)
  have b2 : (β (2 : Fin 3)).val < 6 := Nat.lt_of_lt_of_eq (β (2 : Fin 3)).isLt (show (12288 + 2048 - 1) / 2048 = 6 by norm_num)
  obtain ⟨j, hj, e⟩ := every_expert hT _ b0
  refine ⟨place ⟨_, b2⟩ ⟨j, hj⟩, fun b => ?_⟩
  have h : ((cfg1 a).win 2).indexMap (place ⟨_, b2⟩ ⟨j, hj⟩) = ![ex g j, 0, (β (2 : Fin 3)).val] := tr2 hP _
  match b with
  | ⟨0, _⟩ => exact (congrFun h (0 : Fin 3)).trans e
  | ⟨1, _⟩ => exact (congrFun h (1 : Fin 3)).trans (show 0 = (β (1 : Fin 3)).val by omega)
  | ⟨2, _⟩ => exact congrFun h (2 : Fin 3)

/-! ## The codes and the scales -/

variable {after : (w : Fin (cfg1 a).W) → Fin (cfg1 a).N → ((cfg1 a).win w).block.Idx → Elt Ideal ((cfg1 a).win w).elt}
  (hL : ∀ w u, ((cfg1 a).win w).flush u = true → (rd1 W a c).Leaves w u (after w u))

include hP hT hX hb hL in
/-- The codes of `x`. -/
theorem out1_3 : ((rd1 W a c).withAfter after).arrAt 3 (cfg1 a).N = fun z : S16384x12288.Idx => Spec.codeM X (z 0).val (z 1).val := by
  refine ((rd1 W a c).withAfter after).arrAt_eq_of_covers 3 _ (covers3 hP hT) fun t hf y => ?_
  have hi := index3 hP t
  have h0 : ((cfg1 a).win 3).index t (0 : Fin 2) = til g (item t) := congrFun hi (0 : Fin 2)
  have h1 : ((cfg1 a).win 3).index t (1 : Fin 2) = colb t := congrFun hi (1 : Fin 2)
  have y0 : (y (0 : Fin 2)).val < 512 := (y (0 : Fin 2)).isLt
  have y1 : (y (1 : Fin 2)).val < 2048 := (y (1 : Fin 2)).isLt
  obtain ⟨Y, _, e⟩ := hL 3 t hf
  rw [rd1_3] at e
  rw [RDat.withAfter_after, e]
  blk_simp
  rw [h0, h1]
  refine (tile_codes shapes1 _ (xblk_bounded hP hX hb t) y).trans ((Spec.codeM_part (xblk_part hP hX t _ y1) (by omega)).trans ?_)
  congr 1 <;> omega

/-- A point after the first: the next item in the same column block, or the first item of the next one. -/
theorem prev_cases (t : Fin grid1.N) (h : t.val ≠ 0) :
    (colb t = colb (prev t) ∧ item t = item (prev t) + 1) ∨ (colb t ≠ colb (prev t) ∧ item t = 0 ∧ item (prev t) = 35) := by
  have hp : (prev t).val = t.val - 1 := rfl
  have h1 := colb_val t
  have h2 := colb_val (prev t)
  have h3 := item_val t
  have h4 := item_val (prev t)
  omega

include hP in
/-- A point's tile, as the lists hold it. -/
theorem tile_word (t : Fin grid1.N) : (word (tileL a.1) (item t)).toNat = til g (item t) := by
  have ht := til_le (g := g) (item t)
  have hi : item t < 36 := by have := item_val t; omega
  unfold word
  rw [hP.tile, show (Fin.ofNat 36 (item t)).val = item t from Nat.mod_eq_of_lt hi, ofNat_toNat (by omega)]

/-- What the scales' buffer holds after a point: the scales of its two tiles' groups, as far as the tiles have come. -/
def Scaled (X : ℕ → ℕ → EReal) (g : ℕ → ℕ) (t : Fin grid1.N) (x : S8x2048.Idx → EReal) : Prop :=
  ∀ z : S8x2048.Idx, 2 * (til g (item t) / 2) + (z 0).val / 4 ≤ til g (item t)
    → x z = Spec.scaleM X (8 * (til g (item t) / 2) + (z 0).val) (2048 * colb t + (z 1).val)

include hP hX hb in
/-- The rows of scales that a point writes. -/
theorem putScale_at (t : Fin grid1.N) (y : S8x2048.Idx → EReal) (z : S8x2048.Idx) :
    putScale (F := Ideal) ((word (tileL a.1) (item t)).toNat % 2) (scaleB1 (F := Ideal) (xblk W a c t)) y z
      = if (z 0).val / 4 = til g (item t) % 2 then Spec.scaleM X (8 * (til g (item t) / 2) + (z 0).val) (2048 * colb t + (z 1).val) else y z := by
  have z0 : (z 0).val < 8 := (z 0).isLt
  have z1 : (z 1).val < 2048 := (z 1).isLt
  unfold putScale
  rw [tile_word hP t]
  by_cases h : (z 0).val / 4 = til g (item t) % 2
  · rw [if_pos h, if_pos h]
    refine (tile_scale shapes1 _ (xblk_bounded hP hX hb t) _).trans ((Spec.scaleM_part (xblk_part hP hX t _ z1) ?_).trans ?_)
    · show (z 0).val % 4 < 4; omega
    · congr 1
      show 4 * til g (item t) + (z 0).val % 4 = 8 * (til g (item t) / 2) + (z 0).val
      omega
  · rw [if_neg h, if_neg h]

include hP hT hX hb in
/-- The scales' buffer after every point. -/
theorem scaled (t : Fin grid1.N) (x) (h : (rd1 W a c).Leaves 4 t x) : Scaled X g t x := by
  refine leaves_inv (W := W) (c := c) 4 rfl (Scaled X g) ?_ ?_ t x h
  · rintro t Y x hm hx z hz
    have z0 : (z 0).val < 8 := (z 0).isLt
    rw [rd1_4] at hx
    rw [hx]
    refine (putScale_at hP hX hb t Y z).trans (if_pos ?_)
    have he : til g (item t) % 2 = 0 := by
      by_cases h0 : t.val = 0
      · have h1 := item_val t
        rw [h1, h0, til_zero hT]
      · have hn := hm h0
        rw [index4 hP, index4 hP] at hn
        rcases prev_cases t h0 with ⟨h1, h2⟩ | ⟨_, h2, _⟩
        · have h3 := til_step hT (item (prev t))
          rw [← h2] at h3
          have h4 : til g (item t) / 2 ≠ til g (item (prev t)) / 2 := fun e => hn (by rw [e, h1])
          omega
        · rw [h2, til_zero hT]
    omega
  · rintro t Y x h0 hm hY hx z hz
    have z0 : (z 0).val < 8 := (z 0).isLt
    rw [rd1_4] at hx
    rw [hx]
    refine (putScale_at hP hX hb t Y z).trans ?_
    by_cases hz' : (z 0).val / 4 = til g (item t) % 2
    · exact if_pos hz'
    · refine (if_neg hz').trans ?_
      rw [index4 hP, index4 hP] at hm
      have m0 : til g (item t) / 2 = til g (item (prev t)) / 2 := congrFun hm (0 : Fin 2)
      have m1 : colb t = colb (prev t) := congrFun hm (1 : Fin 2)
      rw [m0, m1]
      exact hY z (by omega)

include hP hT hX hb hL in
/-- The scales of `x`. -/
theorem out1_4 : ((rd1 W a c).withAfter after).arrAt 4 (cfg1 a).N = fun z : S128x12288.Idx => Spec.scaleM X (z 0).val (z 1).val := by
  refine ((rd1 W a c).withAfter after).arrAt_eq_of_covers 4 _ (covers4 hP hT) fun t hf y => ?_
  have hi := index4 hP t
  have h0 : ((cfg1 a).win 4).index t (0 : Fin 2) = til g (item t) / 2 := congrFun hi (0 : Fin 2)
  have h1 : ((cfg1 a).win 4).index t (1 : Fin 2) = colb t := congrFun hi (1 : Fin 2)
  have y0 : (y (0 : Fin 2)).val < 8 := (y (0 : Fin 2)).isLt
  have y1 : (y (1 : Fin 2)).val < 2048 := (y (1 : Fin 2)).isLt
  have ho : til g (item t) % 2 = 1 := by
    have hi := item_val t
    rcases flush_moves 4 rfl t hf with h | ⟨t', h, hn⟩
    · have h35 : item t = 35 := by omega
      rw [h35, (last_item hT).1]
    · have hp : prev t' = t := Fin.ext (by show t'.val - 1 = t.val; omega)
      rw [index4 hP, index4 hP] at hn
      rcases prev_cases t' (by omega) with ⟨h2, h3⟩ | ⟨_, _, h3⟩
      · rw [hp] at h2 h3
        have h4 := til_step hT (item t)
        rw [← h3] at h4
        have h5 : til g (item t') / 2 ≠ til g (item t) / 2 := fun e => hn (by rw [e, h2])
        omega
      · rw [hp] at h3
        rw [h3, (last_item hT).1]
  rw [RDat.withAfter_after]
  blk_simp
  rw [h0, h1]
  refine (scaled hP hT hX hb t _ (hL 4 t hf) y ?_).trans ?_
  · show 2 * (til g (item t) / 2) + (y (0 : Fin 2)).val / 4 ≤ _
    omega
  · show Spec.scaleM X (8 * (til g (item t) / 2) + (y (0 : Fin 2)).val) (2048 * colb t + (y (1 : Fin 2)).val) = _
    congr 1 <;> omega

end Cert.KernelIdeal.Work

end
-- ==== Proof.KI.Value2.lean ====
/-
  The second kernel call over the extended reals: the grouped product.
-/
module

public import proofs.«01_k».proof.Proof.KI.Value1
public import Idealize.ShloMosaic.Lib.Pipeline.ValueKit
public import Idealize.ShloMosaic.Lib.Pipeline.Covers

@[expose] public section

set_option maxRecDepth 16384

noncomputable section

namespace Cert.KernelIdeal.Work

open Cert.KernelIdeal.Gen Cert.Quant
open Idealize.ShloMosaic Idealize.ShloMosaic.TcCoe Idealize.ShloMosaic.Tactic
open Idealize.ShloMosaic.Pipeline (Dat RDat Cfg Window arrRef)

open Cert.Plan

open Cert.Plan

/-! ## One step at an entry -/

/-- The product added, at an entry. -/
theorem pay3_at (y : Vec Ideal S1x1792x512 .f32) (d : Vec Ideal S1792x512 .bf16) (w : Vec Ideal S512x512 .bf16) (i : Fin 1792) (j : Fin 512) :
    k1_pay3 (F := Ideal) y d w (ix3 0 i j) = y (ix3 0 i j) + ∑ k : Fin 512, d (ix2 i k) * w (ix2 k j) := by
  pointwise [k1_pay3]

/-- A masked group at an entry. -/
theorem maskC_at (s l h : ℕ) (hs : s < 512) (hl : l ≤ 512) (hh : h ≤ 512) (v : Vec Ideal S128x512 .bf16) (i : Fin 128) (j : Fin 512) :
    maskC (F := Ideal) (BitVec.ofNat 32 s) (BitVec.ofNat 32 l) (BitVec.ofNat 32 h) v (ix2 i j)
      = if l ≤ s + i.val ∧ s + i.val < h then Quant.deq (F := Ideal) shapes1 v (ix2 i j) else 0 := by
  have e : maskC (F := Ideal) (BitVec.ofNat 32 s) (BitVec.ofNat 32 l) (BitVec.ofNat 32 h) v (ix2 i j)
      = Scalar.select (IntOp.andi (IntOp.cmpi .sge (IntOp.addi (BitVec.ofNat 32 i.val) (BitVec.ofNat 32 s)) (BitVec.ofNat 32 l))
          (IntOp.cmpi .slt (IntOp.addi (BitVec.ofNat 32 i.val) (BitVec.ofNat 32 s)) (BitVec.ofNat 32 h)))
        (Quant.deq (F := Ideal) shapes1 v (ix2 i j)) 0 := by pointwise [maskC]
  have hi := i.isLt
  have ea : IntOp.addi (BitVec.ofNat 32 i.val) (BitVec.ofNat 32 s) = BitVec.ofNat 32 (s + i.val) := by
    rw [Nat.add_comm]; exact (BitVec.ofNat_add _ _).symm
  rw [e, ea, WordCmp.cmpi_sge_ofNat (by omega) (by omega), WordCmp.cmpi_slt_ofNat (by omega) (by omega)]
  refine if_congr ?_ rfl rfl
  by_cases h1 : l ≤ s + i.val <;> by_cases h2 : s + i.val < h <;> simp [h1, h2, IntOp.andi]

/-- The masked tile at an entry. -/
theorem maskB_at (l h : ℕ) (hl : l ≤ 512) (hh : h ≤ 512) (x : Vec Ideal S512x2048 .bf16) (hb : Spec.BoundedM (mat (R := 512) (C := 2048) x)) (k : Fin 512) (n : Fin 2048) :
    maskB (F := Ideal) (BitVec.ofNat 32 l) (BitVec.ofNat 32 h) x (ix2 k n)
      = if l ≤ k.val ∧ k.val < h then Spec.wideM (mat (R := 512) (C := 2048) x) k.val n.val else 0 := by
  have hk := k.isLt
  have e : maskB (F := Ideal) (BitVec.ofNat 32 l) (BitVec.ofNat 32 h) x (ix2 k n)
      = maskC (F := Ideal) (BitVec.ofNat 32 (128 * (k.val / 128))) (BitVec.ofNat 32 l) (BitVec.ofNat 32 h) (chunk 128 512 x (k.val / 128) (n.val / 512))
        (ix2 (Fin.ofNat 128 k.val) (Fin.ofNat 512 n.val)) := by
    unfold maskB tile
    beta_reduce
    rw [ix2_same]
    rfl
  rw [e, maskC_at _ _ _ (by omega) hl hh, deq_chunk shapes1 x hb]
  have ek : 128 * (k.val / 128) + (Fin.ofNat 128 k.val).val = k.val := Nat.div_add_mod _ _
  rw [ek]
  rfl

/-- The step at an entry: the products of the rows taken are added. -/
theorem accB_at (y : Vec Ideal S1x1792x2048 .f32) (d : Vec Ideal S1792x512 .bf16) (w : Vec Ideal S512x2048 .bf16) (v : S1x1792x2048.Idx) :
    accB (F := Ideal) y d w v = y v + ∑ k : Fin 512, d (ix2 (v 1) k) * w (ix2 k (v 2)) := by
  have v2 : (v 2).val < 2048 := (v 2).isLt
  have v0 : v 0 = (0 : Fin 1) := Subsingleton.elim (α := Fin 1) _ _
  have e2 : Fin.ofNat 2048 (512 * ((v 2).val / 512) + (Fin.ofNat 512 (v 2).val).val) = v 2 :=
    Fin.ext (show (512 * ((v 2).val / 512) + (v 2).val % 512) % 2048 = (v 2).val by omega)
  have ev : (v : S1x1792x2048.Idx) = ix3 (0 : Fin 1) (v 1) (v 2) := by
    funext b
    match b with
    | ⟨0, _⟩ => exact v0
    | ⟨1, _⟩ => rfl
    | ⟨2, _⟩ => rfl
  unfold accB
  rw [v0]
  refine (pay3_at _ _ _ (v 1) _).trans ?_
  congr 1
  · refine Eq.trans ?_ (congrArg y ev.symm)
    show y (ValueIdx.ix3 _ _ _) = _
    congr 1
    funext b
    match b with
    | ⟨0, _⟩ => rfl
    | ⟨1, _⟩ => rfl
    | ⟨2, _⟩ => exact e2
  · refine Finset.sum_congr rfl fun k _ => ?_
    congr 1
    show w (ValueIdx.ix2 _ _) = _
    congr 1
    funext b
    match b with
    | ⟨0, _⟩ => exact Fin.ext (show (512 * 0 + k.val) % 512 = k.val by omega)
    | ⟨1, _⟩ => exact e2

/-- A block of zeros. -/
theorem pay6_at (v : S1x1792x2048.Idx) : k1_pay6 (F := Ideal) v = 0 := by
  show Ideal.ofBits .f32 0x00000000#32 = 0
  exact Ideal.ofBits_zero_f32

/-- A sum that starts begins at zero. -/
theorem baseB_start {z : BitVec 1} (h : z = 1#1) (y : Vec Ideal S1x1792x2048 .f32) (v : S1x1792x2048.Idx) : baseB (F := Ideal) z y v = 0 := by
  unfold baseB; rw [if_pos h]; exact pay6_at v

/-- A sum that goes on keeps what it has. -/
theorem baseB_keep {z : BitVec 1} (h : ¬ z = 1#1) (y : Vec Ideal S1x1792x2048 .f32) (v : S1x1792x2048.Idx) : baseB (F := Ideal) z y v = y v := by
  unfold baseB; rw [if_neg h]

/-- Whether an item has rows. -/
theorem adds_iff (l h : ℕ) (hl : l ≤ 512) (hh : h ≤ 512) : k1_cond2 (BitVec.ofNat 32 l) (BitVec.ofNat 32 h) = 1#1 ↔ l < h := by
  have e : k1_cond2 (BitVec.ofNat 32 l) (BitVec.ofNat 32 h)
      = IntOp.cmpi .ne (BitVec.zeroExtend 32 (IntOp.cmpi .sgt (BitVec.ofNat 32 h) (BitVec.ofNat 32 l))) 0#32 := rfl
  rw [e, WordCmp.cmpi_sgt_ofNat (by omega) (by omega)]
  by_cases h1 : l < h
  · rw [decide_eq_true h1]; exact ⟨fun _ => h1, fun _ => by decide⟩
  · rw [decide_eq_false h1]; exact ⟨fun h => absurd h (by decide), fun h => absurd h h1⟩

/-- The step at an entry, whether or not the item has rows. -/
theorem stepB_at (z : BitVec 1) (l h : ℕ) (hl : l ≤ 512) (hh : h ≤ 512) (x : Vec Ideal S512x2048 .bf16) (hb : Spec.BoundedM (mat (R := 512) (C := 2048) x))
    (d : Vec Ideal S1792x512 .bf16) (y : Vec Ideal S1x1792x2048 .f32) (v : S1x1792x2048.Idx) :
    stepB (F := Ideal) z (k1_cond2 (BitVec.ofNat 32 l) (BitVec.ofNat 32 h)) (BitVec.ofNat 32 l) (BitVec.ofNat 32 h) x d y v
      = baseB (F := Ideal) z y v + ∑ k : Fin 512, if l ≤ k.val ∧ k.val < h
          then d (ix2 (v 1) k) * Spec.wideM (mat (R := 512) (C := 2048) x) k.val (v 2).val else 0 := by
  unfold stepB
  by_cases hlh : l < h
  · rw [if_pos ((adds_iff l h hl hh).mpr hlh), accB_at]
    congr 1
    refine Finset.sum_congr rfl fun k _ => ?_
    rw [maskB_at l h hl hh x hb k (v 2)]
    by_cases hk : l ≤ k.val ∧ k.val < h
    · rw [if_pos hk, if_pos hk]
    · rw [if_neg hk, if_neg hk, mul_zero]
  · rw [if_neg (fun h' => hlh ((adds_iff l h hl hh).mp h')), Finset.sum_eq_zero (fun k _ => if_neg (by omega)), add_zero]

/-! ## The sum from point to point -/

variable {W : Dev nD → Valuation τ sig (Elt Ideal)} {a : (pcfg1 (F := Ideal)).Adm} {c : Dev nD} {g : ℕ → ℕ}
variable (hP : Planned a.1 g) (hT : Total g) {X Y : ℕ → ℕ → EReal} (hX : mat (R := 16384) (C := 12288) (W c main_v0) = X) (hb : Spec.BoundedM X)
  (hY : (W c main_v2_2 : S1792x16384.Idx → EReal) = fun z => Spec.wideM Y (z 1).val (z 0).val)

/-- The product that row `r` adds at an entry. -/
abbrev prod (X Y : ℕ → ℕ → EReal) (o d r : ℕ) : EReal := Spec.wideM Y r o * Spec.wideM X r d

include hP hX hb hY in
/-- A point adds its item's rows. -/
theorem step_at (t : Fin grid1.N) (y : S1x1792x2048.Idx → EReal) (v : S1x1792x2048.Idx) :
    stepB (F := Ideal) (starts a.1 t) (adds a.1 t) (word (loL a.1) (item t)) (word (hiL a.1) (item t)) (xblk W a c t) (yblk W a c t) y v
      = baseB (F := Ideal) (starts a.1 t) y v + part (prod X Y (v 1).val (2048 * colb t + (v 2).val)) g (item t) := by
  have v2 : (v 2).val < 2048 := (v 2).isLt
  have hi36 : item t < 36 := by have := item_val t; omega
  have hl : lo g (item t) ≤ 512 := Nat.min_le_left _ _
  have hh : hi g (item t) ≤ 512 := by unfold hi; split <;> omega
  have el : word (loL a.1) (item t) = BitVec.ofNat 32 (lo g (item t)) := by
    unfold word; rw [hP.lo, show (Fin.ofNat 36 (item t)).val = item t from Nat.mod_eq_of_lt hi36]
  have eh : word (hiL a.1) (item t) = BitVec.ofNat 32 (hi g (item t)) := by
    unfold word; rw [hP.hi, show (Fin.ofNat 36 (item t)).val = item t from Nat.mod_eq_of_lt hi36]
  unfold adds
  rw [el, eh, stepB_at _ _ _ hl hh _ (xblk_bounded hP hX hb t)]
  congr 1
  unfold part
  rw [Finset.sum_range]
  refine Finset.sum_congr rfl fun k _ => ?_
  refine if_congr Iff.rfl ?_ rfl
  have hk := k.isLt
  rw [yblk_at (Y := Spec.wideM Y) hP hY, Spec.wideM_part (xblk_part hP hX t _ v2) (by omega)]
  unfold prod
  congr 2
  omega

/-- What the sum's buffer holds after a point: the sum over its expert's rows as far as the tiles have come. -/
def Summed (X Y : ℕ → ℕ → EReal) (g : ℕ → ℕ) (t : Fin grid1.N) (x : S1x1792x2048.Idx → EReal) : Prop :=
  ∀ v : S1x1792x2048.Idx, x v = upto (prod X Y (v 1).val (2048 * colb t + (v 2).val)) g (item t)

include hP in
/-- An item's expert, as the lists hold it. -/
theorem expert_word (i : ℕ) (hi : i < 36) : word (expertL a.1) i = BitVec.ofNat 32 (ex g i) := by
  unfold word; rw [hP.expert, show (Fin.ofNat 36 i).val = i from Nat.mod_eq_of_lt hi]

include hP in
/-- A point starts a sum at the first item and where the expert changes. -/
theorem starts_iff (t : Fin grid1.N) : starts a.1 t = 1#1 ↔ item t = 0 ∨ ex g (item t) ≠ ex g (item t - 1) := by
  have hi36 : item t < 36 := by have := item_val t; omega
  have l1 := ex_le (g := g) (item t)
  have l2 := ex_le (g := g) (item t - 1)
  unfold starts
  rw [expert_word hP _ hi36, expert_word hP _ (by omega)]
  have e : ∀ p q : BitVec 32, k1_cond1 (grid1.coords t) p q
      = IntOp.cmpi .ne (BitVec.zeroExtend 32 (IntOp.ori (IntOp.cmpi .eq (BitVec.ofNat 32 (item t)) 0#32) (IntOp.cmpi .ne p q))) 0#32 := fun _ _ => rfl
  have e1 : IntOp.cmpi .eq (BitVec.ofNat 32 (item t)) 0#32 = BitVec.ofBool (decide (item t = 0)) := by
    rw [WordCmp.cmpi_eq_eq_toNat, ofNat_toNat (by omega)]; rfl
  have e2 : IntOp.cmpi .ne (BitVec.ofNat 32 (ex g (item t))) (BitVec.ofNat 32 (ex g (item t - 1))) = BitVec.ofBool (decide (ex g (item t) ≠ ex g (item t - 1))) := by
    rw [WordCmp.cmpi_ne_eq_toNat, ofNat_toNat (by omega), ofNat_toNat (by omega)]
  rw [e, e1, e2]
  by_cases h1 : item t = 0 <;> by_cases h2 : ex g (item t) ≠ ex g (item t - 1)
  all_goals first | rw [decide_eq_true h1] | rw [decide_eq_false h1]
  all_goals first | rw [decide_eq_true h2] | rw [decide_eq_false h2]
  · exact ⟨fun _ => .inl h1, fun _ => by decide⟩
  · exact ⟨fun _ => .inl h1, fun _ => by decide⟩
  · exact ⟨fun _ => .inr h2, fun _ => by decide⟩
  · exact ⟨fun h => absurd h (by decide), fun h => by rcases h with h | h; exact absurd h h1; exact absurd h h2⟩

include hP hT hX hb hY in
/-- The sum's buffer after every point. -/
theorem summed (t : Fin grid1.N) (x) (h : (rd1 W a c).Leaves 2 t x) : Summed X Y g t x := by
  refine leaves_inv (W := W) (c := c) 2 rfl (Summed X Y g) ?_ ?_ t x h
  · rintro t y x hm hx v
    rw [rd1_2] at hx
    rw [hx]
    refine (step_at hP hX hb hY t y v).trans ?_
    have key : item t = 0 ∨ (item t = item (prev t) + 1 ∧ ex g (item t) ≠ ex g (item (prev t))) := by
      by_cases h0 : t.val = 0
      · left; have := item_val t; omega
      · have hn := hm h0
        rw [index2 hP, index2 hP] at hn
        rcases prev_cases t h0 with ⟨h1, h2⟩ | ⟨_, h2, _⟩
        · exact .inr ⟨h2, fun e => hn (by rw [e, h1])⟩
        · exact .inl h2
    have hs : starts a.1 t = 1#1 := (starts_iff hP t).mpr (by
      rcases key with h | ⟨h, h'⟩
      · exact .inl h
      · right; rw [show item t - 1 = item (prev t) by omega]; exact h')
    have e0 : baseB (F := Ideal) (starts a.1 t) y v = 0 := baseB_start hs y v
    rw [e0, zero_add]
    rcases key with h | ⟨h, h'⟩
    · rw [h]; exact (upto_zero _ hT).symm
    · rw [h]; rw [h] at h'; exact (upto_new _ hT _ h').symm
  · rintro t y x h0 hm hy hx v
    rw [rd1_2] at hx
    rw [hx]
    refine (step_at hP hX hb hY t y v).trans ?_
    rw [index2 hP, index2 hP] at hm
    have m0 : ex g (item t) = ex g (item (prev t)) := congrFun hm (0 : Fin 3)
    have m1 : colb t = colb (prev t) := congrFun hm (2 : Fin 3)
    rcases prev_cases t h0 with ⟨_, h2⟩ | ⟨h1, _⟩
    · have hs : ¬ starts a.1 t = 1#1 := fun h => by
        rcases (starts_iff hP t).mp h with h | h
        · omega
        · rw [show item t - 1 = item (prev t) by omega] at h; exact h m0
      have e0 : baseB (F := Ideal) (starts a.1 t) y v = y v := baseB_keep hs y v
      rw [e0, hy v, ← m1, h2]
      rw [h2] at m0
      exact (upto_same _ hT _ m0).symm
    · exact absurd m1 h1

variable {after : (w : Fin (cfg1 a).W) → Fin (cfg1 a).N → ((cfg1 a).win w).block.Idx → Elt Ideal ((cfg1 a).win w).elt}
  (hL : ∀ w u, ((cfg1 a).win w).flush u = true → (rd1 W a c).Leaves w u (after w u))

include hP hT hX hb hY hL in
/-- The grouped product. -/
theorem out1_2 : ((rd1 W a c).withAfter after).arrAt 2 (cfg1 a).N
    = fun z : S5x1792x12288.Idx => Spec.gradM X Y (begins g (z 0).val) (ends g (z 0).val) (z 1).val (z 2).val := by
  refine ((rd1 W a c).withAfter after).arrAt_eq_of_covers 2 _ (covers2 hP hT) fun t hf y => ?_
  have hi := index2 hP t
  have h0 : ((cfg1 a).win 2).index t (0 : Fin 3) = ex g (item t) := congrFun hi (0 : Fin 3)
  have h1 : ((cfg1 a).win 2).index t (1 : Fin 3) = 0 := congrFun hi (1 : Fin 3)
  have h2 : ((cfg1 a).win 2).index t (2 : Fin 3) = colb t := congrFun hi (2 : Fin 3)
  have y0 : (y (0 : Fin 3)).val < 1 := (y (0 : Fin 3)).isLt
  have y1 : (y (1 : Fin 3)).val < 1792 := (y (1 : Fin 3)).isLt
  have y2 : (y (2 : Fin 3)).val < 2048 := (y (2 : Fin 3)).isLt
  have ho : item t = 35 ∨ ex g (item t + 1) ≠ ex g (item t) := by
    have hi := item_val t
    rcases flush_moves 2 rfl t hf with h | ⟨t', h, hn⟩
    · left; omega
    · have hp : prev t' = t := Fin.ext (by show t'.val - 1 = t.val; omega)
      rw [index2 hP, index2 hP] at hn
      rcases prev_cases t' (by omega) with ⟨h2, h3⟩ | ⟨_, _, h3⟩
      · rw [hp] at h2 h3
        rw [← h3]
        exact .inr fun e => hn (by rw [e, h2])
      · rw [hp] at h3; exact .inl h3
  rw [RDat.withAfter_after]
  blk_simp
  rw [h0, h1, h2]
  refine (summed hP hT hX hb hY t _ (hL 2 t hf) y).trans ((upto_last _ hT _ ho).trans ?_)
  have e1 : 0 * 1792 + (y (1 : Fin 3)).val = (y (1 : Fin 3)).val := by rw [Nat.zero_mul, Nat.zero_add]
  have e2 : colb t * 2048 + (y (2 : Fin 3)).val = 2048 * colb t + (y (2 : Fin 3)).val := by rw [Nat.mul_comm]
  exact congrArg₂ (fun o d => rows (prod X Y o d) (begins g (ex g (item t))) (ends g (ex g (item t)))) e1.symm e2.symm

end Cert.KernelIdeal.Work

end
-- ==== Proof.KI.Results.lean ====
/-
  The program's five results over the extended reals, as every final memory holds them.
-/
module

public import proofs.«01_k».proof.Proof.KI.Value0
public import proofs.«01_k».proof.Proof.KI.Value2
public import proofs.«01_k».proof.Proof.KI.FrameOf

@[expose] public section

set_option maxRecDepth 16384

noncomputable section

namespace Cert.KernelIdeal.Work

open Cert.KernelIdeal.Gen Cert.Quant Cert.Plan
open Idealize.ShloMosaic Idealize.ShloMosaic.TcCoe Idealize.SL.Sem
open Idealize.ShloMosaic.Pipeline (afterRegion arrRef ucRefs)

/-- A matrix read as a batch of two: the second follows the first. -/
theorem unstack {R n C : ℕ} (hR : R = 2 * n) (φ : ℕ → ℕ → EReal) (h : (⟨2, ![R, C]⟩ : Shape).ShapeCasts ⟨3, ![2, n, C]⟩) :
    shapeCast ⟨3, ![2, n, C]⟩ (fun z : (⟨2, ![R, C]⟩ : Shape).Idx => φ (z 0).val (z 1).val) h
      = fun z : (⟨3, ![2, n, C]⟩ : Shape).Idx => φ (n * (z 0).val + (z 1).val) (z 2).val := by
  funext z
  have z0 : (z 0).val < 2 := (z 0).isLt
  have z1 : (z 1).val < n := (z 1).isLt
  have hz : n * (z 0).val + (z 1).val < R := by
    have : (z 0).val = 0 ∨ (z 0).val = 1 := by omega
    rcases this with e | e <;> rw [e] <;> omega
  have e : ∀ p : (⟨3, ![2, n, C]⟩ : Shape).numel = (⟨2, ![R, C]⟩ : Shape).numel,
      Shape.reshapeEquiv p z = ix2 (⟨n * (z 0).val + (z 1).val, hz⟩ : Fin R) (show Fin C from z 2) := by
    intro p
    apply Shape.reshapeEquiv_eq_of_rowMajor
    rw [Shape.rowMajor_val_three, Shape.rowMajor_val_two]
    show (n * (z 0).val + (z 1).val) * C + (z 2).val = ((z 0).val * n + (z 1).val) * C + (z 2).val
    rw [Nat.mul_comm n]
  exact congrArg (fun y : (⟨2, ![R, C]⟩ : Shape).Idx => φ (y 0).val (y 1).val) (e _)

variable (m : (ℓ : Loc nD τ sig) → Buf (Elt Ideal) ℓ) (c : Dev nD)

/-- A buffer that the host's code between the calls does not write keeps what the first call left. -/
theorem keep1 (r : Ref sig .tc) (h : r ∉ hostOps1_W ++ hostOps1_1_W ++ hostOps1_2_W ++ hostOps1_3_W ++ hostOps1_4_W ++ hostOps1_5_W ++ hostOps1_6_W
    ++ hostOps1_7_W ++ hostOps1_8_W ++ hostOps1_9_W ++ hostOps1_10_W ++ hostOps1_11_W ++ hostOps1_12_W ++ hostOps1_13_W) :
    entry1 m c r = V2 m (outs0 m) c r := by
  simp only [List.mem_append, not_or] at h
  obtain ⟨⟨⟨⟨⟨⟨⟨⟨⟨⟨⟨⟨⟨a0, a1⟩, a2⟩, a3⟩, a4⟩, a5⟩, a6⟩, a7⟩, a8⟩, a9⟩, a10⟩, a11⟩, a12⟩, a13⟩ := h
  exact (V16_of m _ c r a13).trans ((V15_of m _ c r a12).trans ((V14_of m _ c r a11).trans ((V13_of m _ c r a10).trans ((V12_of m _ c r a9).trans
    ((V11_of m _ c r a8).trans ((V10_of m _ c r a7).trans ((V9_of m _ c r a6).trans ((V8_of m _ c r a5).trans ((V7_of m _ c r a4).trans
    ((V6_of m _ c r a3).trans ((V5_of m _ c r a2).trans ((V4_of m _ c r a1).trans (V3_of m _ c r a0)))))))))))))

/-- What the first call left in one of its arrays, when the second call is entered. -/
theorem first_arr (w : Fin cfg0.W) (h : arrRef spec0 w ∉ hostOps1_W ++ hostOps1_1_W ++ hostOps1_2_W ++ hostOps1_3_W ++ hostOps1_4_W ++ hostOps1_5_W ++ hostOps1_6_W
    ++ hostOps1_7_W ++ hostOps1_8_W ++ hostOps1_9_W ++ hostOps1_10_W ++ hostOps1_11_W ++ hostOps1_12_W ++ hostOps1_13_W) :
    entry1 m c (arrRef spec0 w) = (dat0 (V1 m) c).arrAt w cfg0.N :=
  (keep1 m c _ h).trans ((congrFun (V2_eq m c) _).trans (Pipeline.afterRegion_arr (dat0 (V1 m) c) (V1 m c) winFacts0.arr_inj w))

/-- The second call's operand `x`, as a matrix. -/
theorem entry_x : mat (R := 16384) (C := 12288) (entry1 m c main_v0) = xM m c :=
  (congrArg (mat (R := 16384) (C := 12288)) ((keep1 m c main_v0 (by decide)).trans (V2_of m _ c main_v0 (by decide)))).trans (v0_mat m c)

section Finite

variable (hT : Total (gs m c)) (hx : Spec.BoundedM (xM m c)) (hy : Spec.BoundedM (yM m c))

include hy in
/-- The second call's operand `dy`, dequantised and transposed. -/
theorem entry_y : (entry1 m c main_v2_2 : S1792x16384.Idx → EReal) = fun z => Spec.wideM (yM m c) (z 1).val (z 0).val :=
  (first_arr m c 3 (by decide)).trans (out0_3 hy)

variable (hok : ok1 (lists m 0))
  {after : (w : Fin (cfg1 (adm1 m hok)).W) → Fin (cfg1 (adm1 m hok)).N → ((cfg1 (adm1 m hok)).win w).block.Idx → Elt Ideal ((cfg1 (adm1 m hok)).win w).elt}
  (hL : ∀ w u, ((cfg1 (adm1 m hok)).win w).flush u = true → (rd1 (entry1 m) (adm1 m hok) c).Leaves w u (after w u))

/-- The second call's array after it. -/
theorem second_arr (w : Fin (cfg1 (adm1 m hok)).W) :
    afterRegion ((rd1 (entry1 m) (adm1 m hok) c).withAfter after) (entry1 m c) (arrRef spec1 w) = ((rd1 (entry1 m) (adm1 m hok) c).withAfter after).arrAt w (cfg1 (adm1 m hok)).N :=
  Pipeline.afterRegion_arr ((rd1 (entry1 m) (adm1 m hok) c).withAfter after) (entry1 m c) (launch1 (F := Ideal)).win.arr_inj w

/-- What the first call left in one of its arrays, after the second call. -/
theorem first_kept (w : Fin cfg0.W) (h : arrRef spec0 w ∉ hostOps1_W ++ hostOps1_1_W ++ hostOps1_2_W ++ hostOps1_3_W ++ hostOps1_4_W ++ hostOps1_5_W ++ hostOps1_6_W
    ++ hostOps1_7_W ++ hostOps1_8_W ++ hostOps1_9_W ++ hostOps1_10_W ++ hostOps1_11_W ++ hostOps1_12_W ++ hostOps1_13_W) (hn : ∀ w', arrRef spec0 w ≠ arrRef spec1 w') :
    afterRegion ((rd1 (entry1 m) (adm1 m hok) c).withAfter after) (entry1 m c) (arrRef spec0 w) = (dat0 (V1 m) c).arrAt w cfg0.N :=
  (Pipeline.afterRegion_of_not_arr ((rd1 (entry1 m) (adm1 m hok) c).withAfter after) (entry1 m c) hn).trans (first_arr m c w h)

include hT hx hy hL in
/-- The gradient. -/
theorem fin_0 : final m hok c after main_v77_0 = fun z : S5x1792x12288.Idx =>
    Spec.gradM (xM m c) (yM m c) (begins (gs m c) (z 0).val) (ends (gs m c) (z 0).val) (z 1).val (z 2).val := by
  obtain rfl : c = 0 := Subsingleton.elim _ _
  refine (StableHlo.after_of_writes_sub (hostOps2 (F := Ideal)) _ hostOps2_writes (show main_v77_0 ∉ hostOps2_W by decide)).trans ?_
  refine (second_arr m 0 hok 2).trans ?_
  exact out1_2 (planned m 0 (sized m 0) hT) hT (entry_x m 0) hx (entry_y m 0 hy) hL

include hT hx hL in
/-- The codes of `x`. -/
theorem fin_1 : final m hok c after main_v78 = fun z : S2x8192x12288.Idx => Spec.codeM (xM m c) (8192 * (z 0).val + (z 1).val) (z 2).val := by
  obtain rfl : c = 0 := Subsingleton.elim _ _
  refine Eq.trans (b := shapeCast S2x8192x12288 (afterRegion ((rd1 (entry1 m) (adm1 m hok) 0).withAfter after) (entry1 m 0) main_v77_1) shapeCasts_S16384x12288_S2x8192x12288) (by
    unfold final; after_results_simp; rfl) ?_
  refine (congrArg (fun f => shapeCast S2x8192x12288 f shapeCasts_S16384x12288_S2x8192x12288) ((second_arr m 0 hok 3).trans
    (out1_3 (planned m 0 (sized m 0) hT) hT (entry_x m 0) hx hL))).trans ?_
  exact unstack (n := 8192) rfl (Spec.codeM (xM m 0)) _

include hT hx hL in
/-- The scales of `x`. -/
theorem fin_2 : final m hok c after main_v79 = fun z : S2x64x12288.Idx => Spec.scaleM (xM m c) (64 * (z 0).val + (z 1).val) (z 2).val := by
  obtain rfl : c = 0 := Subsingleton.elim _ _
  refine Eq.trans (b := shapeCast S2x64x12288 (afterRegion ((rd1 (entry1 m) (adm1 m hok) 0).withAfter after) (entry1 m 0) main_v77_2) shapeCasts_S128x12288_S2x64x12288) (by
    unfold final; after_results_simp; rfl) ?_
  refine (congrArg (fun f => shapeCast S2x64x12288 f shapeCasts_S128x12288_S2x64x12288) ((second_arr m 0 hok 4).trans
    (out1_4 (planned m 0 (sized m 0) hT) hT (entry_x m 0) hx hL))).trans ?_
  exact unstack (n := 64) rfl (Spec.scaleM (xM m 0)) _

include hy in
/-- The codes of `dy`. -/
theorem fin_3 : final m hok c after main_v80 = fun z : S2x8192x1792.Idx => Spec.codeM (yM m c) (8192 * (z 0).val + (z 1).val) (z 2).val := by
  refine Eq.trans (b := shapeCast S2x8192x1792 (afterRegion ((rd1 (entry1 m) (adm1 m hok) c).withAfter after) (entry1 m c) main_v2_0) shapeCasts_S16384x1792_S2x8192x1792) (by
    unfold final; after_results_simp; rfl) ?_
  refine (congrArg (fun f => shapeCast S2x8192x1792 f shapeCasts_S16384x1792_S2x8192x1792) ((first_kept m c hok 1 (by decide) (by decide)).trans (out0_1 hy))).trans ?_
  exact unstack (n := 8192) rfl (Spec.codeM (yM m c)) _

include hy in
/-- The scales of `dy`. -/
theorem fin_4 : final m hok c after main_v81 = fun z : S2x64x1792.Idx => Spec.scaleM (yM m c) (64 * (z 0).val + (z 1).val) (z 2).val := by
  refine Eq.trans (b := shapeCast S2x64x1792 (afterRegion ((rd1 (entry1 m) (adm1 m hok) c).withAfter after) (entry1 m c) main_v2_1) shapeCasts_S128x1792_S2x64x1792) (by
    unfold final; after_results_simp; rfl) ?_
  refine (congrArg (fun f => shapeCast S2x64x1792 f shapeCasts_S128x1792_S2x64x1792) ((first_kept m c hok 2 (by decide) (by decide)).trans (out0_2 hy))).trans ?_
  exact unstack (n := 64) rfl (Spec.scaleM (yM m c)) _

end Finite

/-- What `finite_sizes` says of a batch's entries, said of the batch's matrix. -/
theorem bounded3 {C : ℕ} [NeZero C] (f : (⟨3, ![2, 8192, C]⟩ : Shape).Idx → EReal)
    (h : ∀ i, FloatOps.cmpf (F := Ideal) .ole (FloatOps.hostAbsf (F := Ideal) (φ := .bf16) (f i)) (FloatOps.ofBits (F := Ideal) .bf16 0x7F7F#16) = 1#1) :
    Spec.BoundedM (mat3 f) := by
  intro r n
  refine of_decide_eq_true ?_
  have e := h (ix3 (Fin.ofNat 2 (r / 8192)) (Fin.ofNat 8192 r) (Fin.ofNat C n))
  cases hd : decide (max (mat3 f r n) (-(mat3 f r n)) ≤ Ideal.ofBits .bf16 0x7F7F#16) with
  | true => rfl
  | false => exact absurd ((congrArg BitVec.ofBool hd).symm.trans e) (by decide)

/-- The whole program's run from sizes that partition the rows and finite entries: every result as its formula, the arguments unchanged. -/
theorem run_values (g : Dev nD → PrngReg) (hT : Total (gs m 0)) (hx : Spec.BoundedM (xM m 0)) (hy : Spec.BoundedM (yM m 0)) :
    θ_run (defs (F := Ideal)) (onTc (τ := τ) (main (F := Ideal))) ⟨m, fun _ => 0, g⟩ (fun r => ∀ c : Dev nD,
      r.2.mem ((c.tc : Thread nD τ).loc main_v77_0) = (fun z : S5x1792x12288.Idx =>
          Spec.gradM (xM m c) (yM m c) (begins (gs m c) (z 0).val) (ends (gs m c) (z 0).val) (z 1).val (z 2).val)
      ∧ r.2.mem ((c.tc : Thread nD τ).loc main_v78) = (fun z : S2x8192x12288.Idx => Spec.codeM (xM m c) (8192 * (z 0).val + (z 1).val) (z 2).val)
      ∧ r.2.mem ((c.tc : Thread nD τ).loc main_v79) = (fun z : S2x64x12288.Idx => Spec.scaleM (xM m c) (64 * (z 0).val + (z 1).val) (z 2).val)
      ∧ r.2.mem ((c.tc : Thread nD τ).loc main_v80) = (fun z : S2x8192x1792.Idx => Spec.codeM (yM m c) (8192 * (z 0).val + (z 1).val) (z 2).val)
      ∧ r.2.mem ((c.tc : Thread nD τ).loc main_v81) = (fun z : S2x64x1792.Idx => Spec.scaleM (yM m c) (64 * (z 0).val + (z 1).val) (z 2).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (run_main m (lists_ok m hT) g).mono fun r h c => ?_
  obtain rfl : c = 0 := Subsingleton.elim _ _
  have ha := (h.1 0).args
  obtain ⟨after, he, hb⟩ := h.1 0
  exact ⟨(hb _ (Finset.mem_filter.mpr ⟨StableHlo.devRef_mem_tcRefs main_v77_0, by decide⟩)).trans (fin_0 m 0 hT hx hy _ he.2),
    (hb _ (Finset.mem_filter.mpr ⟨StableHlo.devRef_mem_tcRefs main_v78, by decide⟩)).trans (fin_1 m 0 hT hx _ he.2),
    (hb _ (Finset.mem_filter.mpr ⟨StableHlo.devRef_mem_tcRefs main_v79, by decide⟩)).trans (fin_2 m 0 hT hx _ he.2),
    (hb _ (Finset.mem_filter.mpr ⟨StableHlo.devRef_mem_tcRefs main_v80, by decide⟩)).trans (fin_3 m 0 hy _),
    (hb _ (Finset.mem_filter.mpr ⟨StableHlo.devRef_mem_tcRefs main_v81, by decide⟩)).trans (fin_4 m 0 hy _), ha⟩

end Cert.KernelIdeal.Work

end
-- ==== Proof.Ref.Quant.lean ====
/-
  The reference's quantiser, at any width, read over the extended reals one entry at a time.
-/
module

public import proofs.«01_k».proof.Proof.QuantIdeal

@[expose] public section

noncomputable section

namespace Cert.RefQuant

open Idealize.ShloMosaic

variable {F : FTy → Type} [FloatOps F] {c : ℕ}

/-! ## The quantiser of two matrices of 64 groups of 128 rows -/

/-- The shape facts the reference uses for a batch of two matrices of `c` columns. -/
structure Shapes (c : ℕ) : Prop where
  split : (⟨3, ![2, 8192, c]⟩ : Shape).ShapeCasts ⟨4, ![2, 64, 128, c]⟩
  join : (⟨4, ![2, 64, 128, c]⟩ : Shape).ShapeCasts ⟨3, ![2, 8192, c]⟩
  flat : (⟨4, ![2, 64, 128, c]⟩ : Shape).ShapeCasts ⟨2, ![16384, c]⟩
  redRows : (⟨4, ![2, 64, 128, c]⟩ : Shape).Reduces [2] ⟨3, ![2, 64, c]⟩
  iota : (⟨4, ![254, 2, 64, c]⟩ : Shape).Iotas Kind.tc 32 [0]
  lead : (⟨3, ![2, 64, c]⟩ : Shape).ShapeCasts ⟨4, ![1, 2, 64, c]⟩
  bcLead : (⟨4, ![1, 2, 64, c]⟩ : Shape).Broadcasts ⟨4, ![254, 2, 64, c]⟩
  redLead : (⟨4, ![254, 2, 64, c]⟩ : Shape).Reduces [0] ⟨3, ![2, 64, c]⟩
  mid : (⟨3, ![2, 64, c]⟩ : Shape).ShapeCasts ⟨4, ![2, 64, 1, c]⟩
  bcMid : (⟨4, ![2, 64, 1, c]⟩ : Shape).Broadcasts ⟨4, ![2, 64, 128, c]⟩

/-- The rows in groups. -/
def groups (h : Shapes c) (v : FVec F ⟨3, ![2, 8192, c]⟩ .bf16) : FVec F ⟨4, ![2, 64, 128, c]⟩ .f32 :=
  shapeCast ⟨4, ![2, 64, 128, c]⟩ (extf .f32 v (by decide)) h.split

/-- Each group's largest magnitude. -/
def amax (h : Shapes c) (v : FVec F ⟨3, ![2, 8192, c]⟩ .bf16) : FVec F ⟨3, ![2, 64, c]⟩ .f32 :=
  multiReduction .maximumf [2] ⟨3, ![2, 64, c]⟩ (absf (groups h v)) 0xFF800000#32 h.redRows (.inl rfl) rfl

/-- The 254 exponents tried. -/
def tried (h : Shapes c) : FVec F ⟨4, ![254, 2, 64, c]⟩ .f32 :=
  sitofp .f32 (subi (iota .tc ⟨4, ![254, 2, 64, c]⟩ 32 [0] h.iota) (broadcast _ 125#32))

/-- The exponent of each group, from its largest magnitude: the least tried one whose power of two is above the scaled magnitude,
and zero for a scaled magnitude below the normal numbers. -/
def expo (h : Shapes c) (a : FVec F ⟨3, ![2, 64, c]⟩ .f32) : FVec F ⟨3, ![2, 64, c]⟩ .f32 :=
  select (cmpf .olt (mulf a (broadcast _ (Scalar.ofBits .f32 0x3B124925#32 : F .f32))) (broadcast _ (Scalar.ofBits .f32 0x00800000#32 : F .f32)))
    (broadcast _ (Scalar.ofBits .f32 0x00000000#32 : F .f32))
    (multiReduction .minimumf [0] ⟨3, ![2, 64, c]⟩
      (select (cmpf .olt (broadcastTo ⟨4, ![254, 2, 64, c]⟩ (shapeCast ⟨4, ![1, 2, 64, c]⟩
          (mulf a (broadcast _ (Scalar.ofBits .f32 0x3B124925#32 : F .f32))) h.lead) h.bcLead) (exp2 (tried h)))
        (tried h) (broadcast _ (Scalar.ofBits .f32 0x43000000#32 : F .f32)))
      0x7F800000#32 h.redLead (.inl rfl) rfl)

/-- The groups' codes. -/
def codes (h : Shapes c) (v : FVec F ⟨3, ![2, 8192, c]⟩ .bf16) : FVec F ⟨3, ![2, 8192, c]⟩ .fp8e4m3 :=
  shapeCast ⟨3, ![2, 8192, c]⟩ (truncf .fp8e4m3 (minimumf (broadcast _ (Scalar.ofBits .f32 0x43E00000#32 : F .f32))
    (maximumf (broadcast _ (Scalar.ofBits .f32 0xC3E00000#32 : F .f32))
      (mulf (groups h v) (broadcastTo ⟨4, ![2, 64, 128, c]⟩ (shapeCast ⟨4, ![2, 64, 1, c]⟩
        (exp2 (subf (broadcast _ (Scalar.ofBits .f32 0x00000000#32 : F .f32)) (expo h (amax h v)))) h.mid) h.bcMid)))) (by decide)) h.join

/-- The groups dequantised, as one matrix. -/
def deq (h : Shapes c) (v : FVec F ⟨3, ![2, 8192, c]⟩ .bf16) : FVec F ⟨2, ![16384, c]⟩ .bf16 :=
  shapeCast ⟨2, ![16384, c]⟩ (mulf (shapeCast ⟨4, ![2, 64, 128, c]⟩ (extf .bf16 (codes h v) (by decide)) h.split)
    (broadcastTo ⟨4, ![2, 64, 128, c]⟩ (shapeCast ⟨4, ![2, 64, 1, c]⟩ (truncf .bf16 (exp2 (expo h (amax h v))) (by decide)) h.mid) h.bcMid)) h.flat

/-! ## Its reshapes -/

/-- Row `r` of group `g`. -/
def row (g : Fin 64) (r : Fin 128) : Fin 8192 := ⟨128 * g.val + r.val, by omega⟩

/-- A row of a group, read among the matrix's rows. -/
theorem at_split (h : (⟨4, ![2, 64, 128, c]⟩ : Shape).numel = (⟨3, ![2, 8192, c]⟩ : Shape).numel) (b : Fin 2) (g : Fin 64) (r : Fin 128) (n : Fin c) :
    Shape.reshapeEquiv h (ix4 b g r n) = ix3 b (row g r) n := by
  apply Shape.reshapeEquiv_eq_of_rowMajor
  rw [Shape.rowMajor_val_three, Shape.rowMajor_val_four]
  show (b.val * 8192 + (128 * g.val + r.val)) * c + n.val = ((b.val * 64 + g.val) * 128 + r.val) * c + n.val
  congr 2
  omega

/-- A row of the matrix, read in its group. -/
theorem at_join (h : (⟨3, ![2, 8192, c]⟩ : Shape).numel = (⟨4, ![2, 64, 128, c]⟩ : Shape).numel) (b : Fin 2) (g : Fin 64) (r : Fin 128) (n : Fin c) :
    Shape.reshapeEquiv h (ix3 b (row g r) n) = ix4 b g r n := by
  apply Shape.reshapeEquiv_eq_of_rowMajor
  rw [Shape.rowMajor_val_three, Shape.rowMajor_val_four]
  show ((b.val * 64 + g.val) * 128 + r.val) * c + n.val = (b.val * 8192 + (128 * g.val + r.val)) * c + n.val
  congr 2
  omega

/-- A row of the two matrices stacked, read in its group. -/
theorem at_flat (h : (⟨2, ![16384, c]⟩ : Shape).numel = (⟨4, ![2, 64, 128, c]⟩ : Shape).numel) (R : Fin 16384) (n : Fin c) :
    Shape.reshapeEquiv h (ix2 R n) = ix4 (⟨R.val / 8192, by omega⟩ : Fin 2) (⟨R.val / 128 % 64, by omega⟩ : Fin 64) (⟨R.val % 128, by omega⟩ : Fin 128) n := by
  apply Shape.reshapeEquiv_eq_of_rowMajor
  rw [Shape.rowMajor_val_two, Shape.rowMajor_val_four]
  show ((R.val / 8192 * 64 + R.val / 128 % 64) * 128 + R.val % 128) * c + n.val = R.val * c + n.val
  congr 2
  omega

/-- One value per group, with a leading axis. -/
theorem at_lead (h : (⟨4, ![1, 2, 64, c]⟩ : Shape).numel = (⟨3, ![2, 64, c]⟩ : Shape).numel) (b : Fin 2) (g : Fin 64) (n : Fin c) :
    Shape.reshapeEquiv h (ix4 0 b g n) = ix3 b g n := by
  apply Shape.reshapeEquiv_eq_of_rowMajor
  rw [Shape.rowMajor_val_three, Shape.rowMajor_val_four]
  show (b.val * 64 + g.val) * c + n.val = ((0 * 2 + b.val) * 64 + g.val) * c + n.val
  congr 2
  omega

/-- One value per group, with an axis for the group's rows. -/
theorem at_mid (h : (⟨4, ![2, 64, 1, c]⟩ : Shape).numel = (⟨3, ![2, 64, c]⟩ : Shape).numel) (b : Fin 2) (g : Fin 64) (n : Fin c) :
    Shape.reshapeEquiv h (ix4 b g 0 n) = ix3 b g n := by
  apply Shape.reshapeEquiv_eq_of_rowMajor
  rw [Shape.rowMajor_val_three, Shape.rowMajor_val_four]
  show (b.val * 64 + g.val) * c + n.val = ((b.val * 64 + g.val) * 1 + 0) * c + n.val
  congr 2
  omega

/-! ## Its values -/

variable (h : Shapes c) (v : FVec Ideal ⟨3, ![2, 8192, c]⟩ .bf16) (b : Fin 2) (g : Fin 64) (n : Fin c)

/-- A group of a column. -/
abbrev col (v : FVec Ideal ⟨3, ![2, 8192, c]⟩ .bf16) (b : Fin 2) (g : Fin 64) (n : Fin c) : Fin 128 → EReal := fun r => v (ix3 b (row g r) n)

/-- A group's largest magnitude. -/
theorem amax_at : amax (F := Ideal) h v (ix3 b g n) = Spec.amx (col v b g n) := by
  unfold amax groups
  pointwise [at_split]
  rw [Quant.bot32]
  rfl

/-- An exponent tried. -/
theorem tried_at (k : Fin 254) : tried (F := Ideal) h (ix4 k b g n) = ((((k.val : ℤ) - 125 : ℤ) : ℝ) : EReal) := by
  unfold tried
  pointwise
  show ((((IntOp.subi (BitVec.ofNat 32 k.val) 125#32).toInt : ℤ) : ℝ) : EReal) = _
  have e : ∀ k : Fin 254, (IntOp.subi (BitVec.ofNat 32 k.val) 125#32).toInt = (k.val : ℤ) - 125 := by decide +kernel
  rw [e k]

/-- Two to an integer power. -/
theorem exp2_int (z : ℤ) : (FloatOps.exp2 (F := Ideal) (φ := .f32) (((z : ℤ) : ℝ) : EReal) : EReal) = (((2:ℝ) ^ z : ℝ) : EReal) := by
  show ((Real.rpow 2 ((z : ℤ) : ℝ) : ℝ) : EReal) = _
  exact congrArg (fun t : ℝ => (t : EReal)) (Real.rpow_intCast 2 z)

/-- The word of plus infinity. -/
theorem top32 : Ideal.ofBits .f32 0x7F800000#32 = ⊤ := by unfold Ideal.ofBits Ideal.ieee; simp

/-- The least normal number. -/
theorem least32 : Ideal.ofBits .f32 0x00800000#32 = (((2:ℝ) ^ (-126 : ℤ) : ℝ) : EReal) := by
  unfold Ideal.ofBits Ideal.ieee; simp [-EReal.coe_mul]; norm_num

/-- The word of 128. -/
theorem word128 : Ideal.ofBits .f32 0x43000000#32 = ((128 : ℝ) : EReal) := by
  unfold Ideal.ofBits Ideal.ieee; simp [-EReal.coe_mul]; norm_num

/-- The search for the exponent: the least of 254 exponents whose power of two is above the number, zero for a small number. -/
theorem search {y : ℝ} (h0 : 0 ≤ y) (h1 : y < (2:ℝ) ^ (120 : ℤ)) (A : EReal) (B T : Fin 254 → EReal) (hA : A = (y : EReal)) (hB : ∀ k, B k = (y : EReal))
    (hT : ∀ k, T k = ((((k.val : ℤ) - 125 : ℤ) : ℝ) : EReal)) :
    (if A < Ideal.ofBits .f32 0x00800000#32 then (0 : EReal) else Finset.fold min (Ideal.ofBits .f32 0x7F800000#32)
      (fun k => if B k < FloatOps.exp2 (F := Ideal) (φ := .f32) (T k) then T k else Ideal.ofBits .f32 0x43000000#32) Finset.univ) = ((Spec.expo y : ℝ) : EReal) := by
  simp only [hA, hB, hT, exp2_int, least32, word128, top32, EReal.coe_lt_coe_iff]
  split_ifs with hs
  · unfold Spec.expo; rw [if_pos hs]; simp
  · exact Spec.least_eq (not_lt.1 hs) h1 _ fun k => rfl

/-- The exponent of a group. -/
theorem expo_at (hb : Spec.Bounded (col v b g n)) : expo (F := Ideal) h (amax h v) (ix3 b g n) = ((Spec.ex (col v b g n) : ℝ) : EReal) := by
  obtain ⟨y, hy, h0, h1⟩ := Spec.scaled_real hb
  have ha : amax (F := Ideal) h v (ix3 b g n) * Ideal.ofBits .f32 0x3B124925#32 = (y : EReal) := by rw [amax_at h v b g n]; exact hy
  have hz : Spec.ex (col v b g n) = Spec.expo y := by unfold Spec.ex; rw [hy, EReal.toReal_coe]
  rw [hz]
  unfold expo
  pointwise [at_lead]
  refine search h0 h1 _ _ _ ha (fun k => ?_) (fun k => tried_at h b g n k)
  exact (congrArg (fun z : Fin c => amax (F := Ideal) h v (ix3 b g z) * Ideal.ofBits .f32 0x3B124925#32) (Quant.the_column _ n)).trans ha

/-- A group's scale. -/
theorem scale_at (hb : Spec.Bounded (col v b g n)) : exp2 (expo (F := Ideal) h (amax h v)) (ix3 b g n) = Spec.sc (col v b g n) := by
  show FloatOps.exp2 (F := Ideal) (φ := .f32) (expo (F := Ideal) h (amax h v) (ix3 b g n)) = _
  rw [expo_at h v b g n hb]
  exact exp2_int _

/-- A group's codes. -/
theorem codes_at (hb : Spec.Bounded (col v b g n)) (r : Fin 128) : codes (F := Ideal) h v (ix3 b (row g r) n) = Spec.code (col v b g n) r := by
  have he := expo_at h v b g n hb
  unfold codes groups
  pointwise [at_join, at_split, at_mid]
  refine (congrArg (fun z : Fin c => min (Ideal.ofBits .f32 0x43E00000#32) (max (Ideal.ofBits .f32 0xC3E00000#32)
    (v (ix3 b (row g r) n) * FloatOps.exp2 (F := Ideal) (φ := .f32) (0 - expo (F := Ideal) h (amax h v) (ix3 b g z))))) (Quant.the_column _ n)).trans ?_
  have hn : FloatOps.exp2 (F := Ideal) (φ := .f32) (0 - expo (F := Ideal) h (amax h v) (ix3 b g n)) = Spec.nv (col v b g n) := by
    rw [he]
    refine Eq.trans (congrArg (FloatOps.exp2 (F := Ideal) (φ := .f32)) ?_) (exp2_int (-Spec.ex (col v b g n)))
    show (0 : EReal) - _ = _
    rw [zero_sub, Int.cast_neg, EReal.coe_neg]
  rw [hn]
  rfl

/-- A group's dequantised entries. -/
theorem deq_at (R : Fin 16384) (hb : Spec.Bounded (col v ⟨R.val / 8192, by omega⟩ ⟨R.val / 128 % 64, by omega⟩ n)) :
    deq (F := Ideal) h v (ix2 R n) = Spec.wide (col v ⟨R.val / 8192, by omega⟩ ⟨R.val / 128 % 64, by omega⟩ n) ⟨R.val % 128, by omega⟩ := by
  have hs := scale_at h v _ _ n hb
  have hc := codes_at h v _ _ n hb
  unfold deq
  pointwise [at_flat, at_split, at_mid, hc]
  exact (congrArg (fun z : Fin c => Spec.code (col v ⟨R.val / 8192, by omega⟩ ⟨R.val / 128 % 64, by omega⟩ n) ⟨R.val % 128, by omega⟩
    * FloatOps.exp2 (F := Ideal) (φ := .f32) (expo (F := Ideal) h (amax h v) (ix3 ⟨R.val / 8192, by omega⟩ ⟨R.val / 128 % 64, by omega⟩ z)))
    (Quant.the_column _ n)).trans (congrArg (Spec.code (col v _ _ n) _ * ·) hs)

end Cert.RefQuant

end
-- ==== Proof.Ref.Read.lean ====
/-
  What the reference's body leaves in its five output buffers.
-/
module

public import proofs.«01_k».proof.Proof.Gen.ReferenceIdeal.Value
public import proofs.«01_k».proof.Proof.Ref.Quant

@[expose] public section

set_option maxRecDepth 16384

noncomputable section

namespace Cert.ReferenceIdeal.Work

open Cert.ReferenceIdeal.Gen
open Idealize.ShloMosaic Idealize.ShloMosaic.TcCoe

variable {F : FTy → Type} [FloatOps F]

/-- The shape facts of 12288 columns. -/
theorem shapesX : RefQuant.Shapes 12288 where
  split := shapeCasts_S2x8192x12288_S2x64x128x12288
  join := shapeCasts_S2x64x128x12288_S2x8192x12288
  flat := shapeCasts_S2x64x128x12288_S16384x12288
  redRows := reduces_S2x64x128x12288_S2x64x12288
  iota := iota_S254x2x64x12288_d0_w32
  lead := shapeCasts_S2x64x12288_S1x2x64x12288
  bcLead := broadcasts_S1x2x64x12288_S254x2x64x12288
  redLead := reduces_S254x2x64x12288_S2x64x12288
  mid := shapeCasts_S2x64x12288_S2x64x1x12288
  bcMid := broadcasts_S2x64x1x12288_S2x64x128x12288

/-- The shape facts of 1792 columns. -/
theorem shapesY : RefQuant.Shapes 1792 where
  split := shapeCasts_S2x8192x1792_S2x64x128x1792
  join := shapeCasts_S2x64x128x1792_S2x8192x1792
  flat := shapeCasts_S2x64x128x1792_S16384x1792
  redRows := reduces_S2x64x128x1792_S2x64x1792
  iota := iota_S254x2x64x1792_d0_w32
  lead := shapeCasts_S2x64x1792_S1x2x64x1792
  bcLead := broadcasts_S1x2x64x1792_S254x2x64x1792
  redLead := reduces_S254x2x64x1792_S2x64x1792
  mid := shapeCasts_S2x64x1792_S2x64x1x1792
  bcMid := broadcasts_S2x64x1x1792_S2x64x128x1792

/-- One expert's product: of the second matrix, transposed, and the first matrix with the rows outside the expert's put to zero. -/
def masked (X : FVec F S16384x12288 .bf16) (Y : FVec F S16384x1792 .bf16) (s e : BitVec 32) : FVec F S1x1792x12288 .f32 :=
  shapeCast S1x1792x12288 (matmul dot_S16384x1792_S16384x12288_S1792x12288_0_0_1_1_n_n none Y
    (select (broadcastTo S16384x12288 (shapeCast S16384x1
        (andi (cmpi .sge (iota .tc S16384x1 32 [0] iota_S16384x1_d0_w32) (broadcast S16384x1 s))
          (cmpi .slt (iota .tc S16384x1 32 [0] iota_S16384x1_d0_w32) (broadcast S16384x1 e))) shapeCasts_S16384x1_S16384x1) broadcasts_S16384x1_S16384x12288)
      X (broadcast S16384x12288 (Scalar.ofBits .bf16 0x0000#16 : F .bf16)))
    (constant S1792x12288 .f32 0x00000000#32)) shapeCasts_S1792x12288_S1x1792x12288

/-- The word of the first row of expert `k`: the sum of the sizes before it. -/
def startW (z : Vec F S5 .i32) : ℕ → BitVec 32
  | 0 => 0#32
  | k + 1 => Scalar.addi (startW z k) (z (ix1 (Fin.ofNat 5 k)))

/-- The gradient: each expert's product. -/
def dwB (x : Vec F S2x8192x12288 .bf16) (y : Vec F S2x8192x1792 .bf16) (z : Vec F S5 .i32) : Vec F S5x1792x12288 .f32 :=
  fun i => masked (RefQuant.deq shapesX x) (RefQuant.deq shapesY y) (startW (F := F) z (i 0).val) (startW (F := F) z ((i 0).val + 1)) (ix3 0 (i 1) (i 2))

variable (c : Dev nD) (arg0 : Memref sig .tc .vmem S2x8192x12288 .bf16) (h0 : arg0.IsWhole) (arg1 : Memref sig .tc .vmem S2x8192x1792 .bf16) (h1 : arg1.IsWhole)
  (arg2 : Memref sig .tc .smem S5 .i32) (h2 : arg2.IsWhole) (arg3 : Memref sig .tc .vmem S5x1792x12288 .f32) (h3 : arg3.IsWhole)
  (arg4 : Memref sig .tc .vmem S2x8192x12288 .fp8e4m3) (h4 : arg4.IsWhole) (arg5 : Memref sig .tc .vmem S2x64x12288 .f32) (h5 : arg5.IsWhole)
  (arg6 : Memref sig .tc .vmem S2x8192x1792 .fp8e4m3) (h6 : arg6.IsWhole) (arg7 : Memref sig .tc .vmem S2x64x1792 .f32) (h7 : arg7.IsWhole)
  (x : Vec F S2x8192x12288 .bf16) (y : Vec F S2x8192x1792 .bf16) (z : Vec F S5 .i32)

/-- The origin of a whole array of three axes. -/
theorem hz3 : (![0, 0, 0] : Fin 3 → Nat) = fun _ => 0 := funext fun a => by fin_cases a <;> rfl

/-- The first operand's buffer, read whole. -/
theorem load_x : View.readAt (Elt F) arg0.view (Rect.unit (s := S2x8192x12288) ![0, 0, 0] S2x8192x12288.size inb_S2x8192x12288_S2x8192x12288_0_0_0).toLoadRect (h0.unread x) = x := by
  rw [View.readAt_eq_ld, h0.read_unread, View.ld_unit_zero hz3]

/-- The second operand's buffer, read whole. -/
theorem load_y : View.readAt (Elt F) arg1.view (Rect.unit (s := S2x8192x1792) ![0, 0, 0] S2x8192x1792.size inb_S2x8192x1792_S2x8192x1792_0_0_0).toLoadRect (h1.unread y) = y := by
  rw [View.readAt_eq_ld, h1.read_unread, View.ld_unit_zero hz3]

/-- The codes of the first operand. -/
theorem out_4 : out0_A_4 c arg0 h0 arg1 h1 arg2 h2 arg3 h3 arg4 h4 arg5 h5 arg6 h6 arg7 h7 x y z = RefQuant.codes shapesX x := by
  unfold out0_A_4
  rw [View.read_writes_junk_eq_canon]
  dsimp only [kernelRun0_A]
  rw [View.canon_unit_zero hz3]
  exact congrArg (RefQuant.codes shapesX) (load_x arg0 h0 x)

/-- The scales of the first operand. -/
theorem out_5 : out0_A_5 c arg0 h0 arg1 h1 arg2 h2 arg3 h3 arg4 h4 arg5 h5 arg6 h6 arg7 h7 x y z = exp2 (RefQuant.expo shapesX (RefQuant.amax shapesX x)) := by
  unfold out0_A_5
  rw [View.read_writes_junk_eq_canon]
  dsimp only [kernelRun0_A]
  rw [View.canon_unit_zero hz3]
  exact congrArg (fun x => exp2 (RefQuant.expo shapesX (RefQuant.amax shapesX x))) (load_x arg0 h0 x)

/-- The codes of the second operand. -/
theorem out_6 : out0_A_6 c arg0 h0 arg1 h1 arg2 h2 arg3 h3 arg4 h4 arg5 h5 arg6 h6 arg7 h7 x y z = RefQuant.codes shapesY y := by
  unfold out0_A_6
  rw [View.read_writes_junk_eq_canon]
  dsimp only [kernelRun0_A]
  rw [View.canon_unit_zero hz3]
  exact congrArg (RefQuant.codes shapesY) (load_y arg1 h1 y)

/-- The scales of the second operand. -/
theorem out_7 : out0_A_7 c arg0 h0 arg1 h1 arg2 h2 arg3 h3 arg4 h4 arg5 h5 arg6 h6 arg7 h7 x y z = exp2 (RefQuant.expo shapesY (RefQuant.amax shapesY y)) := by
  unfold out0_A_7
  rw [View.read_writes_junk_eq_canon]
  dsimp only [kernelRun0_A]
  rw [View.canon_unit_zero hz3]
  refine (congrArg (fun w : Vec F S2x8192x1792 .bf16 => k0_pay9 (k0_pay6 w) (k0_pay7 (F := F))) (load_y arg1 h1 y)).trans ?_
  rfl

/-- The first operand dequantised. -/
theorem wide_x : kernelRun0_A.sl.r_7 c arg0 h0 x = RefQuant.deq shapesX x :=
  congrArg (RefQuant.deq shapesX) (load_x arg0 h0 x)

/-- The second operand dequantised. -/
theorem wide_y : kernelRun0_A.sl.r_8 c arg1 h1 y = RefQuant.deq shapesY y :=
  congrArg (RefQuant.deq shapesY) (load_y arg1 h1 y)

/-- A size, read. -/
theorem load_z (k : ℕ) (hk : k < 5) (inb : ∀ a, (![k] : Fin 1 → ℕ) a + S1.size a ≤ S5.size a) (j : S1.Idx) :
    View.readAt (Elt F) arg2.view (Rect.unit (s := S5) ![k] S1.size inb).toLoadRect (h2.unread z) j = z (ix1 (Fin.ofNat 5 k)) := by
  rw [View.readAt_eq_ld, h2.read_unread]
  refine congrArg z (funext fun a => ?_)
  have : (j 0).val < 1 := (j 0).isLt
  match a with
  | ⟨0, _⟩ => apply Fin.ext; show k + 1 * (j 0).val = k % 5; omega

/-- The words of the first rows. -/
theorem starts : kernelRun0_A.sl.v88 c arg2 h2 z = startW (F := F) z 1
    ∧ Scalar.addi (kernelRun0_A.sl.v88 c arg2 h2 z) (kernelRun0_A.sl.r_9 c arg2 h2 z) = startW (F := F) z 2
    ∧ kernelRun0_A.sl.v118 c arg2 h2 z = startW (F := F) z 3
    ∧ Scalar.addi (kernelRun0_A.sl.v118 c arg2 h2 z) (kernelRun0_A.sl.r_12 c arg2 h2 z) = startW (F := F) z 4
    ∧ Scalar.addi (Scalar.addi (kernelRun0_A.sl.v118 c arg2 h2 z) (kernelRun0_A.sl.r_12 c arg2 h2 z)) (kernelRun0_A.sl.r_13 c arg2 h2 z) = startW (F := F) z 5 := by
  have e1 : kernelRun0_A.sl.v88 c arg2 h2 z = startW (F := F) z 1 := congrArg (Scalar.addi 0#32) (load_z arg2 h2 z 0 (by omega) _ _)
  have e2 : Scalar.addi (kernelRun0_A.sl.v88 c arg2 h2 z) (kernelRun0_A.sl.r_9 c arg2 h2 z) = startW (F := F) z 2 :=
    congrArg₂ Scalar.addi e1 (load_z arg2 h2 z 1 (by omega) _ _)
  have e3 : kernelRun0_A.sl.v118 c arg2 h2 z = startW (F := F) z 3 := congrArg₂ Scalar.addi e2 (load_z arg2 h2 z 2 (by omega) _ _)
  have e4 : Scalar.addi (kernelRun0_A.sl.v118 c arg2 h2 z) (kernelRun0_A.sl.r_12 c arg2 h2 z) = startW (F := F) z 4 :=
    congrArg₂ Scalar.addi e3 (load_z arg2 h2 z 3 (by omega) _ _)
  exact ⟨e1, e2, e3, e4, congrArg₂ Scalar.addi e4 (load_z arg2 h2 z 4 (by omega) _ _)⟩

/-- An expert's piece of the gradient. -/
theorem piece (k : ℕ) {off : Fin 3 → ℕ} (hoff : off = ![k, 0, 0]) (inb : ∀ a, off a + S1x1792x12288.size a ≤ S5x1792x12288.size a) (j : S1x1792x12288.Idx) :
    masked (RefQuant.deq shapesX x) (RefQuant.deq shapesY y) (startW (F := F) z k) (startW (F := F) z (k + 1)) j
      = dwB x y z ((Rect.unit (s := S5x1792x12288) off S1x1792x12288.size inb).emb j) := by
  subst hoff
  have j0 : (j 0).val < 1 := (j 0).isLt
  have e0 : (((Rect.unit (s := S5x1792x12288) ![k, 0, 0] S1x1792x12288.size inb).emb j) 0).val = k := by
    show k + 1 * (j 0).val = k; omega
  unfold dwB
  rw [e0]
  refine congrArg _ (funext fun a => ?_)
  match a with
  | ⟨0, _⟩ => apply Fin.ext; show (j 0).val = 0; omega
  | ⟨1, _⟩ => apply Fin.ext; show (j 1).val = 0 + 1 * (j 1).val; omega
  | ⟨2, _⟩ => apply Fin.ext; show (j 2).val = 0 + 1 * (j 2).val; omega

/-- The gradient. -/
theorem out_3 : out0_A_3 c arg0 h0 arg1 h1 arg2 h2 arg3 h3 arg4 h4 arg5 h5 arg6 h6 arg7 h7 x y z = dwB x y z := by
  obtain ⟨e1, e2, e3, e4, e5⟩ := starts c arg2 h2 z
  have ex := wide_x c arg0 h0 x
  have ey := wide_y c arg1 h1 y
  unfold out0_A_3
  rw [View.read_writes_junk_eq_canon]
  funext i
  refine View.canon_apply_of_pieces (dwB x y z) _ (fun p hp j => ?_) i (cover0_A_3 c arg0 h0 arg1 h1 arg2 h2 arg3 h3 arg4 h4 arg5 h5 arg6 h6 arg7 h7 x y z i)
  dsimp only [kernelRun0_A] at hp
  simp only [List.mem_cons, List.mem_nil_iff, or_false] at hp
  rcases hp with rfl | rfl | rfl | rfl | rfl
  · refine Eq.trans (congrFun ?_ j) (piece x y z 4 rfl inb_S5x1792x12288_S1x1792x12288_4_0_0 j)
    rw [← e4, ← e5, ← ex, ← ey]; rfl
  · refine Eq.trans (congrFun ?_ j) (piece x y z 3 rfl inb_S5x1792x12288_S1x1792x12288_3_0_0 j)
    rw [← e3, ← e4, ← ex, ← ey]; rfl
  · refine Eq.trans (congrFun ?_ j) (piece x y z 2 rfl inb_S5x1792x12288_S1x1792x12288_2_0_0 j)
    rw [← e2, ← e3, ← ex, ← ey]; rfl
  · refine Eq.trans (congrFun ?_ j) (piece x y z 1 rfl inb_S5x1792x12288_S1x1792x12288_1_0_0 j)
    rw [← e1, ← e2, ← ex, ← ey]; rfl
  · refine Eq.trans (congrFun ?_ j) (piece x y z 0 rfl inb_S5x1792x12288_S1x1792x12288_0_0_0 j)
    rw [← e1, ← ex, ← ey]; rfl

end Cert.ReferenceIdeal.Work

end
-- ==== Proof.Ref.Value.lean ====
/-
  The reference's five results over the extended reals.
-/
module

public import proofs.«01_k».proof.Proof.Ref.Read
public import proofs.«01_k».proof.Proof.KI.Value0
public import proofs.«01_k».proof.Proof.Pre
public import proofs.«01_k».proof.Proof.Plan

@[expose] public section

set_option maxRecDepth 16384

noncomputable section

namespace Cert.ReferenceIdeal.Work

open Cert.ReferenceIdeal.Gen Cert.Plan
open Idealize.ShloMosaic Idealize.ShloMosaic.TcCoe
open Cert.KernelIdeal.Work (mat3)

/-! ## Groups of a batch of two matrices, read as one matrix -/

section Batch

variable {C : ℕ} [NeZero C] (h : RefQuant.Shapes C) (v : FVec Ideal ⟨3, ![2, 8192, C]⟩ .bf16)

/-- A group of a column, in the stacked matrix. -/
theorem col_eq (b : Fin 2) (g : Fin 64) (n : Fin C) : RefQuant.col v b g n = Spec.grp (mat3 (C := C) v) (64 * b.val + g.val) n.val := by
  funext r
  have hr := r.isLt
  show v _ = v _
  congr 1
  funext a
  match a with
  | ⟨0, _⟩ => apply Fin.ext; show b.val = (128 * (64 * b.val + g.val) + r.val) / 8192 % 2; omega
  | ⟨1, _⟩ => apply Fin.ext; show 128 * g.val + r.val = (128 * (64 * b.val + g.val) + r.val) % 8192; omega
  | ⟨2, _⟩ => exact Fin.ext (Nat.mod_eq_of_lt n.isLt).symm

/-- The codes of the stacked matrix. -/
theorem codes_mat (hb : Spec.BoundedM (mat3 (C := C) v)) (z : (⟨3, ![2, 8192, C]⟩ : Shape).Idx) :
    RefQuant.codes (F := Ideal) h v z = Spec.codeM (mat3 (C := C) v) (8192 * (z 0).val + (z 1).val) (z 2).val := by
  have z0 : (z 0).val < 2 := (z 0).isLt
  have z1 : (z 1).val < 8192 := (z 1).isLt
  have e : z = ix3 (z 0) (RefQuant.row ⟨(z 1).val / 128, by omega⟩ ⟨(z 1).val % 128, by omega⟩) (z 2) := by
    funext a
    match a with
    | ⟨0, _⟩ => rfl
    | ⟨1, _⟩ => apply Fin.ext; show (z 1).val = 128 * ((z 1).val / 128) + (z 1).val % 128; omega
    | ⟨2, _⟩ => rfl
  refine (congrArg (RefQuant.codes (F := Ideal) h v) e).trans ((RefQuant.codes_at h v _ _ (z 2) ?_ _).trans ?_)
  · exact Eq.mpr (congrArg Spec.Bounded (col_eq v (z 0) _ (z 2))) (hb.grp _ _)
  · refine (congrArg (fun f => Spec.code f ⟨(z 1).val % 128, by omega⟩) (col_eq v (z 0) _ (z 2))).trans ?_
    unfold Spec.codeM
    refine congrArg₂ (fun G r => Spec.code (Spec.grp (mat3 (C := C) v) G (z 2).val) r) ?_ ?_
    · show 64 * (z 0).val + (z 1).val / 128 = (8192 * (z 0).val + (z 1).val) / 128; omega
    · apply Fin.ext; show (z 1).val % 128 = (8192 * (z 0).val + (z 1).val) % 128; omega

/-- The scales of the stacked matrix. -/
theorem scale_mat (hb : Spec.BoundedM (mat3 (C := C) v)) (z : (⟨3, ![2, 64, C]⟩ : Shape).Idx) :
    exp2 (RefQuant.expo (F := Ideal) h (RefQuant.amax h v)) z = Spec.scaleM (mat3 (C := C) v) (64 * (z 0).val + (z 1).val) (z 2).val := by
  have e : z = ix3 (z 0) (z 1) (z 2) := by
    funext a
    match a with
    | ⟨0, _⟩ => rfl
    | ⟨1, _⟩ => rfl
    | ⟨2, _⟩ => rfl
  refine (congrArg (exp2 (RefQuant.expo (F := Ideal) h (RefQuant.amax h v))) e).trans ((RefQuant.scale_at h v _ _ (z 2) ?_).trans ?_)
  · exact Eq.mpr (congrArg Spec.Bounded (col_eq v (z 0) (z 1) (z 2))) (hb.grp _ _)
  · exact congrArg Spec.sc (col_eq v (z 0) (z 1) (z 2))

/-- The dequantised stacked matrix. -/
theorem deq_mat (hb : Spec.BoundedM (mat3 (C := C) v)) (R : Fin 16384) (n : Fin C) :
    RefQuant.deq (F := Ideal) h v (ix2 R n) = Spec.wideM (mat3 (C := C) v) R.val n.val := by
  have hR := R.isLt
  refine (RefQuant.deq_at h v n R ?_).trans ?_
  · rw [col_eq]; exact hb.grp _ _
  · rw [col_eq]
    unfold Spec.wideM
    refine congrArg₂ (fun G r => Spec.wide (Spec.grp (mat3 (C := C) v) G n.val) r) ?_ rfl
    show 64 * (R.val / 8192) + R.val / 128 % 64 = R.val / 128; omega

end Batch

/-! ## The gradient -/

/-- The word of an expert's first row is that of its natural. -/
theorem startW_eq (z : Vec Ideal S5 .i32) : ∀ k, k ≤ 5 → startW (F := Ideal) z k = BitVec.ofNat 32 (pre (sizesOf z) k)
  | 0, _ => rfl
  | k + 1, hk => by
    have ih := startW_eq z k (by omega)
    have e : z (ix1 (Fin.ofNat 5 k)) = BitVec.ofNat 32 (sizesOf z k) :=
      (sizesOf_eq z (Fin.ofNat 5 k)).trans (by rw [show (Fin.ofNat 5 k).val = k from Nat.mod_eq_of_lt (by omega)])
    rw [pre_succ, BitVec.ofNat_add, ← ih, ← e]
    rfl

/-- An expert's product at an entry. -/
theorem masked_at (X : FVec Ideal S16384x12288 .bf16) (Y : FVec Ideal S16384x1792 .bf16) (s e : ℕ) (hs : s ≤ 16384) (he : e ≤ 16384) (o : Fin 1792) (d : Fin 12288) :
    masked (F := Ideal) X Y (BitVec.ofNat 32 s) (BitVec.ofNat 32 e) (ix3 0 o d)
      = ∑ r : Fin 16384, if s ≤ r.val ∧ r.val < e then Y (ix2 r o) * X (ix2 r d) else 0 := by
  pointwise [masked]
  refine Finset.sum_congr rfl fun r _ => ?_
  have hr := r.isLt
  rw [WordCmp.cmpi_sge_ofNat (by omega) (by omega), WordCmp.cmpi_slt_ofNat (by omega) (by omega)]
  refine if_congr ?_ rfl rfl
  by_cases h1 : s ≤ r.val <;> by_cases h2 : r.val < e <;> simp [h1, h2, IntOp.andi]

/-- The gradient at an entry. -/
theorem dwB_at (x : Vec Ideal S2x8192x12288 .bf16) (y : Vec Ideal S2x8192x1792 .bf16) (z : Vec Ideal S5 .i32) (hT : Total (sizesOf z))
    (hx : Spec.BoundedM (mat3 (C := 12288) x)) (hy : Spec.BoundedM (mat3 (C := 1792) y)) (i : S5x1792x12288.Idx) :
    dwB (F := Ideal) x y z i = Spec.gradM (mat3 (C := 12288) x) (mat3 (C := 1792) y) (begins (sizesOf z) (i 0).val) (ends (sizesOf z) (i 0).val) (i 1).val (i 2).val := by
  have i0 : (i 0).val < 5 := (i 0).isLt
  have hb : pre (sizesOf z) (i 0).val ≤ 16384 := by rw [← begins_eq]; exact begins_le hT (by omega)
  have he : pre (sizesOf z) ((i 0).val + 1) ≤ 16384 := ends_le hT (by omega)
  have e0 : startW (F := Ideal) z (i 0).val = BitVec.ofNat 32 (pre (sizesOf z) (i 0).val) := startW_eq z _ (by omega)
  have e1 : startW (F := Ideal) z ((i 0).val + 1) = BitVec.ofNat 32 (pre (sizesOf z) ((i 0).val + 1)) := startW_eq z _ (by omega)
  unfold dwB
  rw [e0, e1]
  refine (masked_at _ _ _ _ hb he (i 1) (i 2)).trans ?_
  unfold Spec.gradM
  rw [Finset.sum_range, begins_eq]
  refine Finset.sum_congr rfl fun r _ => if_congr Iff.rfl ?_ rfl
  exact congrArg₂ (· * ·) (deq_mat shapesY y hy r (i 1)) (deq_mat shapesX x hx r (i 2))

/-! ## The results -/

/-- The one point of the grid. -/
abbrev t0 : Fin cfg0.N := ⟨0, by decide⟩

variable (m : (ℓ : Loc nD τ sig) → Buf (Elt Ideal) ℓ) (c : Dev nD)

/-- A point of a block of the whole array is the same point of the array: three axes, each at block zero. -/
theorem place {d : Fin 3 → ℕ} (f : (⟨3, d⟩ : Shape).Idx → (⟨3, d⟩ : Shape).Idx) (y : (⟨3, d⟩ : Shape).Idx) (h : ∀ a, (f y a).val = 0 * d a + 1 * (y a).val) : f y = y :=
  funext fun a => Fin.ext ((h a).trans (by omega))

/-- Window 0's block is the whole array. -/
theorem emb_0 (y : S2x8192x12288.Idx) : ((cfg0.win 0).blk t0).view.emb y = y :=
  place (d := ![2, 8192, 12288]) (((cfg0.win 0).blk t0).view.emb ·) y fun a => match a with
    | ⟨0, _⟩ => rfl
    | ⟨1, _⟩ => rfl
    | ⟨2, _⟩ => rfl

/-- Window 1's block is the whole array. -/
theorem emb_1 (y : S2x8192x1792.Idx) : ((cfg0.win 1).blk t0).view.emb y = y :=
  place (d := ![2, 8192, 1792]) (((cfg0.win 1).blk t0).view.emb ·) y fun a => match a with
    | ⟨0, _⟩ => rfl
    | ⟨1, _⟩ => rfl
    | ⟨2, _⟩ => rfl

/-- Window 3's block is the whole array. -/
theorem emb_3 (y : S5x1792x12288.Idx) : ((cfg0.win 3).blk t0).view.emb y = y :=
  place (d := ![5, 1792, 12288]) (((cfg0.win 3).blk t0).view.emb ·) y fun a => match a with
    | ⟨0, _⟩ => rfl
    | ⟨1, _⟩ => rfl
    | ⟨2, _⟩ => rfl

/-- Window 4's block is the whole array. -/
theorem emb_4 (y : S2x8192x12288.Idx) : ((cfg0.win 4).blk t0).view.emb y = y :=
  place (d := ![2, 8192, 12288]) (((cfg0.win 4).blk t0).view.emb ·) y fun a => match a with
    | ⟨0, _⟩ => rfl
    | ⟨1, _⟩ => rfl
    | ⟨2, _⟩ => rfl

/-- Window 5's block is the whole array. -/
theorem emb_5 (y : S2x64x12288.Idx) : ((cfg0.win 5).blk t0).view.emb y = y :=
  place (d := ![2, 64, 12288]) (((cfg0.win 5).blk t0).view.emb ·) y fun a => match a with
    | ⟨0, _⟩ => rfl
    | ⟨1, _⟩ => rfl
    | ⟨2, _⟩ => rfl

/-- Window 6's block is the whole array. -/
theorem emb_6 (y : S2x8192x1792.Idx) : ((cfg0.win 6).blk t0).view.emb y = y :=
  place (d := ![2, 8192, 1792]) (((cfg0.win 6).blk t0).view.emb ·) y fun a => match a with
    | ⟨0, _⟩ => rfl
    | ⟨1, _⟩ => rfl
    | ⟨2, _⟩ => rfl

/-- Window 7's block is the whole array. -/
theorem emb_7 (y : S2x64x1792.Idx) : ((cfg0.win 7).blk t0).view.emb y = y :=
  place (d := ![2, 64, 1792]) (((cfg0.win 7).blk t0).view.emb ·) y fun a => match a with
    | ⟨0, _⟩ => rfl
    | ⟨1, _⟩ => rfl
    | ⟨2, _⟩ => rfl

/-- Window 2's block is the whole array. -/
theorem emb_2 (y : S5.Idx) : ((cfg0.win 2).blk t0).view.emb y = y := by
  funext a; apply Fin.ext
  match a with
  | ⟨0, _⟩ => show 0 * 5 + 1 * (y 0).val = (y 0).val; omega

/-- The first operand's block is the argument. -/
theorem in_0 : iblk m c 0 t0 = m ((c : Thread nD τ).loc main_arg0) := funext fun y => congrArg (V m c main_arg0) (emb_0 y)

/-- The second operand's block is the argument. -/
theorem in_1 : iblk m c 1 t0 = m ((c : Thread nD τ).loc main_arg1) := funext fun y => congrArg (V m c main_arg1) (emb_1 y)

/-- The sizes' block is the argument. -/
theorem in_2 : iblk m c 2 t0 = m ((c : Thread nD τ).loc main_arg2) := funext fun y => congrArg (V m c main_arg2) (emb_2 y)

variable (hT : Total (sizesOf (m ((c : Thread nD τ).loc main_arg2))))
  (hx : Spec.BoundedM (mat3 (C := 12288) (m ((c : Thread nD τ).loc main_arg0)))) (hy : Spec.BoundedM (mat3 (C := 1792) (m ((c : Thread nD τ).loc main_arg1))))

include hT hx hy in
/-- The first result: each expert's gradient. -/
theorem res_3 : (dats m 0 c).arrAt 3 cfg0.N = fun i : S5x1792x12288.Idx =>
    Spec.gradM (mat3 (C := 12288) (m ((c : Thread nD τ).loc main_arg0))) (mat3 (C := 1792) (m ((c : Thread nD τ).loc main_arg1)))
      (begins (sizesOf (m ((c : Thread nD τ).loc main_arg2))) (i 0).val) (ends (sizesOf (m ((c : Thread nD τ).loc main_arg2))) (i 0).val) (i 1).val (i 2).val := by
  funext y
  refine (congrArg ((dats m 0 c).arrAt 3 cfg0.N) (emb_3 y)).symm.trans ?_
  refine (congrFun (Value.blocks3 m c t0 rfl) y).trans ?_
  rw [Value.flushed3_A, out_3, in_0, in_1, in_2]
  exact dwB_at _ _ _ hT hx hy y

include hx in
/-- The second result: the codes of the first operand. -/
theorem res_4 : (dats m 0 c).arrAt 4 cfg0.N = fun i : S2x8192x12288.Idx =>
    Spec.codeM (mat3 (C := 12288) (m ((c : Thread nD τ).loc main_arg0))) (8192 * (i 0).val + (i 1).val) (i 2).val := by
  funext y
  refine (congrArg ((dats m 0 c).arrAt 4 cfg0.N) (emb_4 y)).symm.trans ?_
  refine (congrFun (Value.blocks4 m c t0 rfl) y).trans ?_
  rw [Value.flushed4_A, out_4, in_0]
  exact codes_mat shapesX _ hx y

include hx in
/-- The third result: the scales of the first operand. -/
theorem res_5 : (dats m 0 c).arrAt 5 cfg0.N = fun i : S2x64x12288.Idx =>
    Spec.scaleM (mat3 (C := 12288) (m ((c : Thread nD τ).loc main_arg0))) (64 * (i 0).val + (i 1).val) (i 2).val := by
  funext y
  refine (congrArg ((dats m 0 c).arrAt 5 cfg0.N) (emb_5 y)).symm.trans ?_
  refine (congrFun (Value.blocks5 m c t0 rfl) y).trans ?_
  rw [Value.flushed5_A, out_5, in_0]
  exact scale_mat shapesX _ hx y

include hy in
/-- The fourth result: the codes of the second operand. -/
theorem res_6 : (dats m 0 c).arrAt 6 cfg0.N = fun i : S2x8192x1792.Idx =>
    Spec.codeM (mat3 (C := 1792) (m ((c : Thread nD τ).loc main_arg1))) (8192 * (i 0).val + (i 1).val) (i 2).val := by
  funext y
  refine (congrArg ((dats m 0 c).arrAt 6 cfg0.N) (emb_6 y)).symm.trans ?_
  refine (congrFun (Value.blocks6 m c t0 rfl) y).trans ?_
  rw [Value.flushed6_A, out_6, in_1]
  exact codes_mat shapesY _ hy y

include hy in
/-- The fifth result: the scales of the second operand. -/
theorem res_7 : (dats m 0 c).arrAt 7 cfg0.N = fun i : S2x64x1792.Idx =>
    Spec.scaleM (mat3 (C := 1792) (m ((c : Thread nD τ).loc main_arg1))) (64 * (i 0).val + (i 1).val) (i 2).val := by
  funext y
  refine (congrArg ((dats m 0 c).arrAt 7 cfg0.N) (emb_7 y)).symm.trans ?_
  refine (congrFun (Value.blocks7 m c t0 rfl) y).trans ?_
  rw [Value.flushed7_A, out_7, in_1]
  exact scale_mat shapesY _ hy y

end Cert.ReferenceIdeal.Work

end
-- ==== Proof.PreFinite.lean ====
/-
  What the second precondition says: group sizes that partition the 16384 rows, and finite entries.
-/
module

public import proofs.«01_k».proof.Pre_finite_sizes
public import proofs.«01_k».proof.Proof.Pre

@[expose] public section

namespace Cert.Plan

open Idealize.ShloMosaic Idealize.ShloMosaic.ValueIdx Idealize.ShloMosaic.Routing Idealize.ShloMosaic.WordCmp

variable {F : FTy → Type} [FloatOps F]

section FiniteSizes

variable [Cert.Pre_finite_sizes.Facts]

/-- What `finite_sizes` says. -/
theorem of_finite_sizes {x : FVec F Pre_sizes.S2x8192x12288 .bf16} {y : FVec F Pre_sizes.S2x8192x1792 .bf16} {z : IVec Pre_sizes.S5 32}
    (h : Pre_finite_sizes.fn (F := F) x y z = fun _ => 1#1) : Total (sizesOf z)
      ∧ (∀ i, FloatOps.cmpf .ole (FloatOps.hostAbsf (x i)) (FloatOps.ofBits (F := F) .bf16 0x7F7F#16) = 1#1)
      ∧ (∀ i, FloatOps.cmpf .ole (FloatOps.hostAbsf (y i)) (FloatOps.ofBits (F := F) .bf16 0x7F7F#16) = 1#1) := by
  obtain ⟨h1, hy⟩ := and_one (congrFun h ix0)
  obtain ⟨h2, hx⟩ := and_one h1
  obtain ⟨h', hs⟩ := and_one h2
  obtain ⟨ha, hb⟩ := and_one h'
  refine ⟨total_of z (fun e => ?_) (fun e => ?_) _ _ hs, fun i => ?_, fun i => ?_⟩
  · exact Host.reduce_andi_all _ _ _ _ ix0 ha (ix1 e)
  · exact Host.reduce_andi_all _ _ _ _ ix0 hb (ix1 e)
  · exact Host.reduce_andi_all _ _ _ _ ix0 hx i
  · exact Host.reduce_andi_all _ _ _ _ ix0 hy i

end FiniteSizes

end Cert.Plan

end
-- ==== Proof.lean ====
/-
  The certificate's claims. The programs' frames come from their runs (`Proof/K`, `Proof/KI`), the value claim from the formulas both
  programs' results are shown to have: `Proof/KI/Results.lean` for the kernel, `Proof/Ref/Value.lean` for the reference.
-/
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sizes
public import proofs.«01_k».proof.Proof.Gen.Pre_finite_sizes
public import proofs.«01_k».proof.Proof.K.FrameOf
public import proofs.«01_k».proof.Proof.KI.Results
public import proofs.«01_k».proof.Proof.Ref.Value
public import proofs.«01_k».proof.Proof.PreFinite
public import Idealize.ShloMosaic.Adequacy
public import Idealize.ShloMosaic.Init

@[expose] public section

noncomputable section

namespace Cert.Proof

open Idealize.ShloMosaic Idealize.SL.Sem Cert.Kernel

attribute [local instance] Cert.Pre_sizes.Gen.facts Cert.Pre_finite_sizes.Gen.facts

/-- Over the extended reals, from equal arguments that are finite and whose sizes partition the rows, the kernel's program and the
    reference end with equal results: both are the same formulas of the arguments. -/
theorem same_results : algebraic_KernelIdeal_ReferenceIdeal_pre_finite_sizes (hKernelIdeal := Cert.KernelIdeal.Gen.facts)
    (hReferenceIdeal := Cert.ReferenceIdeal.Gen.facts) (hPre_finite_sizes := Cert.Pre_finite_sizes.Gen.facts) := by
  intro m g m' g' hp ha
  obtain ⟨hT, hx, hy⟩ := Cert.Plan.of_finite_sizes (hp 0)
  have bx := Cert.KernelIdeal.Work.bounded3 (C := 12288) _ hx
  have by' := Cert.KernelIdeal.Work.bounded3 (C := 1792) _ hy
  refine ⟨_, _, _, _, _, Cert.KernelIdeal.Work.run_values m g hT bx by', ?_⟩
  refine (Cert.ReferenceIdeal.Value.run_blocks m' g').mono fun r h c => ?_
  obtain rfl : c = 0 := Subsingleton.elim _ _
  obtain ⟨a0, a1, a2⟩ := ha 0
  obtain ⟨h0, h1, h2, h3, h4, hr⟩ := h 0
  refine ⟨h0.trans ?_, h1.trans ?_, h2.trans ?_, h3.trans ?_, h4.trans ?_, hr⟩
  · refine (Cert.ReferenceIdeal.Work.res_3 m' 0 (a2 ▸ hT) (a0 ▸ bx) (a1 ▸ by')).trans ?_
    rw [a0, a1, a2]
  · refine (Cert.ReferenceIdeal.Work.res_4 m' 0 (a0 ▸ bx)).trans ?_
    rw [a0]
  · refine (Cert.ReferenceIdeal.Work.res_5 m' 0 (a0 ▸ bx)).trans ?_
    rw [a0]
  · refine (Cert.ReferenceIdeal.Work.res_6 m' 0 (a1 ▸ by')).trans ?_
    rw [a1]
  · refine (Cert.ReferenceIdeal.Work.res_7 m' 0 (a1 ▸ by')).trans ?_
    rw [a1]

/-- The claims of the certificate. -/
theorem claim : Cert.Claim := by
  refine ⟨Cert.Kernel.Gen.facts, Cert.KernelIdeal.Gen.facts, Cert.ReferenceIdeal.Gen.facts, Cert.Pre_sizes.Gen.facts, Cert.Pre_finite_sizes.Gen.facts,
    ?_, ?_, ?_, ?_, ?_, ?_, same_results⟩
  · exact fun m g hp => Cert.Kernel.Work.frame_of m g (Cert.Plan.total_of_sizes (hp 0))
  · exact fun m g hp => Cert.KernelIdeal.Work.frame_of m g (Cert.Plan.total_of_sizes (hp 0))
  · exact fun m g hp => Cert.KernelIdeal.Work.frame_of m g (Cert.Plan.of_finite_sizes (hp 0)).1
  · exact fun m g _ => Cert.ReferenceIdeal.Gen.frame m g
  · exact fun m g _ => Cert.ReferenceIdeal.Gen.frame m g
  · trivial

end Cert.Proof

end
